-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v59) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)) →
    ∃ (v0 : (c : Dev Cert.Kernel4Ideal.nD) → Buf (Elt Ideal) ((c.tc : Thread Cert.Kernel4Ideal.nD Cert.Kernel4Ideal.τ).loc Cert.Kernel4Ideal.main_v50_0)) (v1 : (c : Dev Cert.Kernel4Ideal.nD) → Buf (Elt Ideal) ((c.tc : Thread Cert.Kernel4Ideal.nD Cert.Kernel4Ideal.τ).loc Cert.Kernel4Ideal.main_v50_4)) (v2 : (c : Dev Cert.Kernel4Ideal.nD) → Buf (Elt Ideal) ((c.tc : Thread Cert.Kernel4Ideal.nD Cert.Kernel4Ideal.τ).loc Cert.Kernel4Ideal.main_v50_5)) (v3 : (c : Dev Cert.Kernel4Ideal.nD) → Buf (Elt Ideal) ((c.tc : Thread Cert.Kernel4Ideal.nD Cert.Kernel4Ideal.τ).loc Cert.Kernel4Ideal.main_v50_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v50_0) = v0 c
          ∧ r.2.mem ((c.tc : Thread Cert.Kernel4Ideal.nD Cert.Kernel4Ideal.τ).loc Cert.Kernel4Ideal.main_v50_4) = v1 c
          ∧ r.2.mem ((c.tc : Thread Cert.Kernel4Ideal.nD Cert.Kernel4Ideal.τ).loc Cert.Kernel4Ideal.main_v50_5) = v2 c
          ∧ r.2.mem ((c.tc : Thread Cert.Kernel4Ideal.nD Cert.Kernel4Ideal.τ).loc Cert.Kernel4Ideal.main_v50_6) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v96) = v1 c
          ∧ r.2.mem ((c.tc : Thread Cert.Reference4Ideal.nD Cert.Reference4Ideal.τ).loc Cert.Reference4Ideal.main_v46) = v2 c
          ∧ r.2.mem ((c.tc : Thread Cert.Reference4Ideal.nD Cert.Reference4Ideal.τ).loc Cert.Reference4Ideal.main_v109) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16384x4x96 : Shape := ⟨3, ![16384, 4, 96]⟩
abbrev S16640x4x96 : Shape := ⟨3, ![16640, 4, 96]⟩
abbrev S16640x4x64 : Shape := ⟨3, ![16640, 4, 64]⟩
abbrev S_ : Shape := ⟨0, ![]⟩

class Facts : Prop where
  bcast_S_S16384x4x96 : S_.BroadcastsInDim S16384x4x96 (![] : Fin 0 → Fin S16384x4x96.rank)
  reducesTo_S16384x4x96_S_d0_1_2 : S16384x4x96.ReducesTo [0, 1, 2] S_
  h_S_ : 0 < S_.numel
  bcast_S_S16640x4x96 : S_.BroadcastsInDim S16640x4x96 (![] : Fin 0 → Fin S16640x4x96.rank)
  reducesTo_S16640x4x96_S_d0_1_2 : S16640x4x96.ReducesTo [0, 1, 2] S_

variable [Facts]

def fn {F : FTy → Type} [FloatOps F] (main_arg0 : FVec F S16384x4x96 .f32) (main_arg1 : FVec F S16640x4x96 .f32) (main_arg2 : FVec F S16640x4x64 .f32) : IVec S_ 1 :=
  let main_v0 : FVec F S16384x4x96 .f32 := Host.absf main_arg0
  let main_cst : FVec F S_ .f32 := constant S_ .f32 0x7F800000#32
  let main_v1 : FVec F S16384x4x96 .f32 := broadcastInDim S16384x4x96 ![] bcast_S_S16384x4x96 main_cst
  let main_v2 : IVec S16384x4x96 1 := cmpf .olt main_v0 main_v1
  let main_c : IVec S_ 1 := constantI S_ 1 1#1
  let main_v3 : IVec S_ 1 := (fun x v => Host.reduce IntOp.andi x v reducesTo_S16384x4x96_S_d0_1_2 h_S_) main_v2 main_c
  let main_v4 : FVec F S16640x4x96 .f32 := Host.absf main_arg1
  let main_cst_0 : FVec F S_ .f32 := constant S_ .f32 0x7F800000#32
  let main_v5 : FVec F S16640x4x96 .f32 := broadcastInDim S16640x4x96 ![] bcast_S_S16640x4x96 main_cst_0
  let main_v6 : IVec S16640x4x96 1 := cmpf .olt main_v4 main_v5
  let main_c_1 : IVec S_ 1 := constantI S_ 1 1#1
  let main_v7 : IVec S_ 1 := (fun x v => Host.reduce IntOp.andi x v reducesTo_S16640x4x96_S_d0_1_2 h_S_) main_v6 main_c_1
  let main_v8 : IVec S_ 1 := andi main_v3 main_v7
  main_v8
-- ==== Pre_routed.lean ====
abbrev S191 : Shape := ⟨1, ![191]⟩
abbrev S1 : Shape := ⟨1, ![1]⟩
abbrev S97792x1024 : Shape := ⟨2, ![97792, 1024]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩

class Facts : Prop where
  bcast_S_S191 : S_.BroadcastsInDim S191 (![] : Fin 0 → Fin S191.rank)
  reducesTo_S191_S_d0 : S191.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S191 32) (main_arg1 : IVec S1 32) (main_arg2 : FVec F S97792x1024 .f32) (main_arg3 : FVec F S2x32x1024x2048 .f32) (main_arg4 : FVec F S2x32x2048 .f32) (main_arg5 : FVec F S2x32x1024x1024 .f32) (main_arg6 : FVec F S2x32x1024 .f32) : IVec S_ 1 :=
  let main_c : IVec S_ 32 := constantI S_ 32 0#32
  let main_v0 : IVec S191 32 := broadcastInDim S191 ![] bcast_S_S191 main_c
  let main_v1 : IVec S191 1 := cmpi .sge main_arg0 main_v0
  let main_c_0 : IVec S_ 1 := constantI S_ 1 1#1
  let main_v2 : IVec S_ 1 := (fun x v => Host.reduce IntOp.andi x v reducesTo_S191_S_d0 h_S_) main_v1 main_c_0
  let main_c_1 : IVec S_ 32 := constantI S_ 32 32#32
  let main_v3 : IVec S191 32 := broadcastInDim S191 ![] bcast_S_S191 main_c_1
  let main_v4 : IVec S191 1 := cmpi .slt main_arg0 main_v3
  let main_c_2 : IVec S_ 1 := constantI S_ 1 1#1
  let main_v5 : IVec S_ 1 := (fun x v => Host.reduce IntOp.andi x v reducesTo_S191_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Kernel.lean ====
abbrev S16384x4x96 : Shape := ⟨3, ![16384, 4, 96]⟩
abbrev S16640x4x96 : Shape := ⟨3, ![16640, 4, 96]⟩
abbrev S16640x4x64 : Shape := ⟨3, ![16640, 4, 64]⟩
abbrev S_ : Shape := ⟨0, ![]⟩
abbrev S16384x4x128 : Shape := ⟨3, ![16384, 4, 128]⟩
abbrev S16384x512 : Shape := ⟨2, ![16384, 512]⟩
abbrev S16640x4x128 : Shape := ⟨3, ![16640, 4, 128]⟩
abbrev S16640x512 : Shape := ⟨2, ![16640, 512]⟩
abbrev S16640x4x1 : Shape := ⟨3, ![16640, 4, 1]⟩
abbrev S16640x4x65 : Shape := ⟨3, ![16640, 4, 65]⟩
abbrev S512x16640 : Shape := ⟨2, ![512, 16640]⟩
abbrev S16384x256 : Shape := ⟨2, ![16384, 256]⟩
abbrev S512x512 : Shape := ⟨2, ![512, 512]⟩
abbrev S3328x512 : Shape := ⟨2, ![3328, 512]⟩
abbrev S512x3328 : Shape := ⟨2, ![512, 3328]⟩
abbrev S512x256 : Shape := ⟨2, ![512, 256]⟩
abbrev S4x1x512 : Shape := ⟨3, ![4, 1, 512]⟩
abbrev S4x128x512 : Shape := ⟨3, ![4, 128, 512]⟩
abbrev S256x128 : Shape := ⟨2, ![256, 128]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S512 : Shape := ⟨1, ![512]⟩
abbrev S1x80x512 : Shape := ⟨3, ![1, 80, 512]⟩
abbrev S80x512 : Shape := ⟨2, ![80, 512]⟩
abbrev S80x256 : Shape := ⟨2, ![80, 256]⟩
abbrev S1x128x512 : Shape := ⟨3, ![1, 128, 512]⟩
abbrev S128x512 : Shape := ⟨2, ![128, 512]⟩
abbrev S512x64 : Shape := ⟨2, ![512, 64]⟩

abbrev nBuf : Space → Nat
  | .hbm => 32
  | .vmem => 10
  | .smem => 0
  | _ => 0

abbrev bufTy : (tb : Table) → Fin (tcTables nBuf tb) → BufTy
  | .hbm, ⟨0, _⟩ => ⟨S16384x4x96, .f32⟩
  | .hbm, ⟨1, _⟩ => ⟨S16640x4x96, .f32⟩
  | .hbm, ⟨2, _⟩ => ⟨S16640x4x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x4x96, .f32⟩
  | .hbm, ⟨11, _⟩ => ⟨S16384x4x96, .f32⟩
  | .hbm, ⟨12, _⟩ => ⟨S_, .i32⟩
  | .hbm, ⟨13, _⟩ => ⟨S_, .f32⟩
  | .hbm, ⟨14, _⟩ => ⟨S16384x4x128, .f32⟩
  | .hbm, ⟨15, _⟩ => ⟨S16384x512, .f32⟩
  | .hbm, ⟨16, _⟩ => ⟨S16384x512, .bf16⟩
  | .hbm, ⟨17, _⟩ => ⟨S_, .i32⟩
  | .hbm, ⟨18, _⟩ => ⟨S_, .f32⟩
  | .hbm, ⟨19, _⟩ => ⟨S16640x4x128, .f32⟩
  | .hbm, ⟨20, _⟩ => ⟨S16640x512, .f32⟩
  | .hbm, ⟨21, _⟩ => ⟨S16640x512, .bf16⟩
  | .hbm, ⟨22, _⟩ => ⟨S_, .f32⟩
  | .hbm, ⟨23, _⟩ => ⟨S16640x4x1, .f32⟩
  | .hbm, ⟨24, _⟩ => ⟨S16640x4x65, .f32⟩
  | .hbm, ⟨25, _⟩ => ⟨S_, .i32⟩
  | .hbm, ⟨26, _⟩ => ⟨S_, .f32⟩
  | .hbm, ⟨27, _⟩ => ⟨S16640x4x128, .f32⟩
  | .hbm, ⟨28, _⟩ => ⟨S16640x512, .f32⟩
  | .hbm, ⟨29, _⟩ => ⟨S512x16640, .f32⟩
  | .hbm, ⟨30, _⟩ => ⟨S512x16640, .bf16⟩
  | .hbm, ⟨31, _⟩ => ⟨S16384x256, .bf16⟩
  | .local _ .vmem, ⟨0, _⟩ => ⟨S512x512, .bf16⟩
  | .local _ .vmem, ⟨1, _⟩ => ⟨S512x512, .bf16⟩
  | .local _ .vmem, ⟨2, _⟩ => ⟨S3328x512, .bf16⟩
  | .local _ .vmem, ⟨3, _⟩ => ⟨S3328x512, .bf16⟩
  | .local _ .vmem, ⟨4, _⟩ => ⟨S512x3328, .bf16⟩
  | .local _ .vmem, ⟨5, _⟩ => ⟨S512x3328, .bf16⟩
  | .local _ .vmem, ⟨6, _⟩ => ⟨S512x256, .bf16⟩
  | .local _ .vmem, ⟨7, _⟩ => ⟨S512x256, .bf16⟩
  | .local _ .vmem, ⟨8, _⟩ => ⟨S4x1x512, .f32⟩
  | .local _ .vmem, ⟨9, _⟩ => ⟨S4x128x512, .f32⟩
  | _, _ => ⟨S16384x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 5], ![false, false]⟩

def k0_cond2 (i : grid0.Coords) : BitVec 1 :=
  let arg1 : BitVec 32 := BitVec.ofNat 32 (i 1).val
  let c4_i32 : BitVec 32 := 4#32
  let v1563 : BitVec 1 := Scalar.cmpi .eq arg1 c4_i32
  let v1564 : BitVec 32 := Scalar.extui v1563
  let c0_i32_1074 : BitVec 32 := 0#32
  let v1565 : BitVec 1 := Scalar.cmpi .ne v1564 c0_i32_1074
  v1565

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3328x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x3328 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S16384x4x96 : Shape := ⟨3, ![16384, 4, 96]⟩
abbrev S16640x4x96 : Shape := ⟨3, ![16640, 4, 96]⟩
abbrev S16640x4x64 : Shape := ⟨3, ![16640, 4, 64]⟩
abbrev S_ : Shape := ⟨0, ![]⟩
abbrev S4x16384x16640 : Shape := ⟨3, ![4, 16384, 16640]⟩
abbrev S4x16384 : Shape := ⟨2, ![4, 16384]⟩
abbrev S4x16384x1 : Shape := ⟨3, ![4, 16384, 1]⟩
abbrev S4x64x16384 : Shape := ⟨3, ![4, 64, 16384]⟩
abbrev S16384x4x64 : Shape := ⟨3, ![16384, 4, 64]⟩
abbrev S16384x256 : Shape := ⟨2, ![16384, 256]⟩

abbrev nBuf : Space → Nat
  | .hbm => 28
  | .vmem => 0
  | .smem => 0
  | _ => 0

abbrev bufTy : (tb : Table) → Fin (tcTables nBuf tb) → BufTy
  | .hbm, ⟨0, _⟩ => ⟨S16384x4x96, .f32⟩
  | .hbm, ⟨1, _⟩ => ⟨S16640x4x96, .f32⟩
  | .hbm, ⟨2, _⟩ => ⟨S16640x4x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x16384x16640, .f32⟩
  | .hbm, ⟨8, _⟩ => ⟨S4x16384x16640, .f32⟩
  | .hbm, ⟨9, _⟩ => ⟨S4x16384x16640, .f32⟩
  | .hbm, ⟨10, _⟩ => ⟨S_, .f32⟩
  | .hbm, ⟨11, _⟩ => ⟨S4x16384, .f32⟩
  | .hbm, ⟨12, _⟩ => ⟨S_, .f32⟩
  | .hbm, ⟨13, _⟩ => ⟨S4x16384, .f32⟩
  | .hbm, ⟨14, _⟩ => ⟨S4x16384, .f32⟩
  | .hbm, ⟨15, _⟩ => ⟨S4x16384x1, .f32⟩
  | .hbm, ⟨16, _⟩ => ⟨S4x16384x16640, .f32⟩
  | .hbm, ⟨17, _⟩ => ⟨S4x16384x16640, .f32⟩
  | .hbm, ⟨18, _⟩ => ⟨S4x16384x16640, .f32⟩
  | .hbm, ⟨19, _⟩ => ⟨S_, .f32⟩
  | .hbm, ⟨20, _⟩ => ⟨S4x16384, .f32⟩
  | .hbm, ⟨21, _⟩ => ⟨S4x16384x1, .f32⟩
  | .hbm, ⟨22, _⟩ => ⟨S4x16384x16640, .f32⟩
  | .hbm, ⟨23, _⟩ => ⟨S4x16384x16640, .f32⟩
  | .hbm, ⟨24, _⟩ => ⟨S4x64x16384, .f32⟩
  | .hbm, ⟨25, _⟩ => ⟨S16384x4x64, .f32⟩
  | .hbm, ⟨26, _⟩ => ⟨S16384x256, .f32⟩
  | .hbm, ⟨27, _⟩ => ⟨S16384x256, .bf16⟩
  | _, _ => ⟨S16384x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel2.lean ====
abbrev S191 : Shape := ⟨1, ![191]⟩
abbrev S1 : Shape := ⟨1, ![1]⟩
abbrev S97792x1024 : Shape := ⟨2, ![97792, 1024]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S2x32x1x2048 : Shape := ⟨4, ![2, 32, 1, 2048]⟩
abbrev S2x32x1x1024 : Shape := ⟨4, ![2, 32, 1, 1024]⟩
abbrev S512x1024 : Shape := ⟨2, ![512, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S97792x1024, .f32⟩
  | .hbm, ⟨1, _⟩ => ⟨S2x32x1024x2048, .f32⟩
  | .hbm, ⟨2, _⟩ => ⟨S2x32x2048, .f32⟩
  | .hbm, ⟨3, _⟩ => ⟨S2x32x1024x1024, .f32⟩
  | .hbm, ⟨4, _⟩ => ⟨S2x32x1024, .f32⟩
  | .hbm, ⟨5, _⟩ => ⟨S2x32x1x2048, .f32⟩
  | .hbm, ⟨6, _⟩ => ⟨S2x32x1x1024, .f32⟩
  | .hbm, ⟨7, _⟩ => ⟨S97792x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S191, .i32⟩
  | .local _ .smem, ⟨1, _⟩ => ⟨S1, .i32⟩
  | _, _ => ⟨S97792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![191], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S191.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S191) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S191.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S191) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S191.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S191) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S191.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S191) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S191 : Shape := ⟨1, ![191]⟩
abbrev S1 : Shape := ⟨1, ![1]⟩
abbrev S97792x1024 : Shape := ⟨2, ![97792, 1024]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S191x512x1024 : Shape := ⟨3, ![191, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S191x1 : Shape := ⟨2, ![191, 1]⟩
abbrev S191x1024x2048 : Shape := ⟨3, ![191, 1024, 2048]⟩
abbrev S191x512x2048 : Shape := ⟨3, ![191, 512, 2048]⟩
abbrev S1x32x2048 : Shape := ⟨3, ![1, 32, 2048]⟩
abbrev S32x2048 : Shape := ⟨2, ![32, 2048]⟩
abbrev S191x2048 : Shape := ⟨2, ![191, 2048]⟩
abbrev S191x1x2048 : Shape := ⟨3, ![191, 1, 2048]⟩
abbrev S1x32x1024x1024 : Shape := ⟨4, ![1, 32, 1024, 1024]⟩
abbrev S32x1024x1024 : Shape := ⟨3, ![32, 1024, 1024]⟩
abbrev S191x1024x1024 : Shape := ⟨3, ![191, 1024, 1024]⟩
abbrev S1x32x1024 : Shape := ⟨3, ![1, 32, 1024]⟩
abbrev S32x1024 : Shape := ⟨2, ![32, 1024]⟩
abbrev S191x1024 : Shape := ⟨2, ![191, 1024]⟩
abbrev S191x1x1024 : Shape := ⟨3, ![191, 1, 1024]⟩
abbrev S191x1x1 : Shape := ⟨3, ![191, 1, 1]⟩

abbrev nBuf : Space → Nat
  | .hbm => 99
  | .vmem => 0
  | .smem => 0
  | _ => 0

abbrev bufTy : (tb : Table) → Fin (tcTables nBuf tb) → BufTy
  | .hbm, ⟨0, _⟩ => ⟨S191, .i32⟩
  | .hbm, ⟨1, _⟩ => ⟨S1, .i32⟩
  | .hbm, ⟨2, _⟩ => ⟨S97792x1024, .f32⟩
  | .hbm, ⟨3, _⟩ => ⟨S2x32x1024x2048, .f32⟩
  | .hbm, ⟨4, _⟩ => ⟨S2x32x2048, .f32⟩
  | .hbm, ⟨5, _⟩ => ⟨S2x32x1024x1024, .f32⟩
  | .hbm, ⟨6, _⟩ => ⟨S2x32x1024, .f32⟩
  | .hbm, ⟨7, _⟩ => ⟨S191x512x1024, .f32⟩
  | .hbm, ⟨8, _⟩ => ⟨S1x32x1024x2048, .f32⟩
  | .hbm, ⟨9, _⟩ => ⟨S32x1024x2048, .f32⟩
  | .hbm, ⟨10, _⟩ => ⟨S_, .i32⟩
  | .hbm, ⟨11, _⟩ => ⟨S191, .i32⟩
  | .hbm, ⟨12, _⟩ => ⟨S191, .i1⟩
  | .hbm, ⟨13, _⟩ => ⟨S_, .i32⟩
  | .hbm, ⟨14, _⟩ => ⟨S191, .i32⟩
  | .hbm, ⟨15, _⟩ => ⟨S191, .i32⟩
  | .hbm, ⟨16, _⟩ => ⟨S191, .i32⟩
  | .hbm, ⟨17, _⟩ => ⟨S191x1, .i32⟩
  | .hbm, ⟨18, _⟩ => ⟨S191x1024x2048, .f32⟩
  | .hbm, ⟨19, _⟩ => ⟨S191x512x2048, .f32⟩
  | .hbm, ⟨20, _⟩ => ⟨S1x32x2048, .f32⟩
  | .hbm, ⟨21, _⟩ => ⟨S32x2048, .f32⟩
  | .hbm, ⟨22, _⟩ => ⟨S_, .i32⟩
  | .hbm, ⟨23, _⟩ => ⟨S191, .i32⟩
  | .hbm, ⟨24, _⟩ => ⟨S191, .i1⟩
  | .hbm, ⟨25, _⟩ => ⟨S_, .i32⟩
  | .hbm, ⟨26, _⟩ => ⟨S191, .i32⟩
  | .hbm, ⟨27, _⟩ => ⟨S191, .i32⟩
  | .hbm, ⟨28, _⟩ => ⟨S191, .i32⟩
  | .hbm, ⟨29, _⟩ => ⟨S191x1, .i32⟩
  | .hbm, ⟨30, _⟩ => ⟨S191x2048, .f32⟩
  | .hbm, ⟨31, _⟩ => ⟨S191x1x2048, .f32⟩
  | .hbm, ⟨32, _⟩ => ⟨S191x512x2048, .f32⟩
  | .hbm, ⟨33, _⟩ => ⟨S191x512x2048, .f32⟩
  | .hbm, ⟨34, _⟩ => ⟨S191x512x1024, .f32⟩
  | .hbm, ⟨35, _⟩ => ⟨S191x512x1024, .f32⟩
  | .hbm, ⟨36, _⟩ => ⟨S_, .f32⟩
  | .hbm, ⟨37, _⟩ => ⟨S191x512x1024, .f32⟩
  | .hbm, ⟨38, _⟩ => ⟨S191x512x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S191x512x1024, .f32⟩
  | .hbm, ⟨43, _⟩ => ⟨S191x512x1024, .f32⟩
  | .hbm, ⟨44, _⟩ => ⟨S_, .f32⟩
  | .hbm, ⟨45, _⟩ => ⟨S191x512x1024, .f32⟩
  | .hbm, ⟨46, _⟩ => ⟨S191x512x1024, .f32⟩
  | .hbm, ⟨47, _⟩ => ⟨S_, .f32⟩
  | .hbm, ⟨48, _⟩ => ⟨S191x512x1024, .f32⟩
  | .hbm, ⟨49, _⟩ => ⟨S191x512x1024, .f32⟩
  | .hbm, ⟨50, _⟩ => ⟨S_, .f32⟩
  | .hbm, ⟨51, _⟩ => ⟨S191x512x1024, .f32⟩
  | .hbm, ⟨52, _⟩ => ⟨S191x512x1024, .f32⟩
  | .hbm, ⟨53, _⟩ => ⟨S191x512x1024, .f32⟩
  | .hbm, ⟨54, _⟩ => ⟨S191x512x1024, .f32⟩
  | .hbm, ⟨55, _⟩ => ⟨S_, .f32⟩
  | .hbm, ⟨56, _⟩ => ⟨S191x512x1024, .f32⟩
  | .hbm, ⟨57, _⟩ => ⟨S191x512x1024, .f32⟩
  | .hbm, ⟨58, _⟩ => ⟨S_, .f32⟩
  | .hbm, ⟨59, _⟩ => ⟨S191x512x1024, .f32⟩
  | .hbm, ⟨60, _⟩ => ⟨S191x512x1024, .f32⟩
  | .hbm, ⟨61, _⟩ => ⟨S191x512x1024, .f32⟩
  | .hbm, ⟨62, _⟩ => ⟨S191x512x1024, .f32⟩
  | .hbm, ⟨63, _⟩ => ⟨S1x32x1024x1024, .f32⟩
  | .hbm, ⟨64, _⟩ => ⟨S32x1024x1024, .f32⟩
  | .hbm, ⟨65, _⟩ => ⟨S_, .i32⟩
  | .hbm, ⟨66, _⟩ => ⟨S191, .i32⟩
  | .hbm, ⟨67, _⟩ => ⟨S191, .i1⟩
  | .hbm, ⟨68, _⟩ => ⟨S_, .i32⟩
  | .hbm, ⟨69, _⟩ => ⟨S191, .i32⟩
  | .hbm, ⟨70, _⟩ => ⟨S191, .i32⟩
  | .hbm, ⟨71, _⟩ => ⟨S191, .i32⟩
  | .hbm, ⟨72, _⟩ => ⟨S191x1, .i32⟩
  | .hbm, ⟨73, _⟩ => ⟨S191x1024x1024, .f32⟩
  | .hbm, ⟨74, _⟩ => ⟨S191x512x1024, .f32⟩
  | .hbm, ⟨75, _⟩ => ⟨S1x32x1024, .f32⟩
  | .hbm, ⟨76, _⟩ => ⟨S32x1024, .f32⟩
  | .hbm, ⟨77, _⟩ => ⟨S_, .i32⟩
  | .hbm, ⟨78, _⟩ => ⟨S191, .i32⟩
  | .hbm, ⟨79, _⟩ => ⟨S191, .i1⟩
  | .hbm, ⟨80, _⟩ => ⟨S_, .i32⟩
  | .hbm, ⟨81, _⟩ => ⟨S191, .i32⟩
  | .hbm, ⟨82, _⟩ => ⟨S191, .i32⟩
  | .hbm, ⟨83, _⟩ => ⟨S191, .i32⟩
  | .hbm, ⟨84, _⟩ => ⟨S191x1, .i32⟩
  | .hbm, ⟨85, _⟩ => ⟨S191x1024, .f32⟩
  | .hbm, ⟨86, _⟩ => ⟨S191x1x1024, .f32⟩
  | .hbm, ⟨87, _⟩ => ⟨S191x512x1024, .f32⟩
  | .hbm, ⟨88, _⟩ => ⟨S191x512x1024, .f32⟩
  | .hbm, ⟨89, _⟩ => ⟨S191, .i32⟩
  | .hbm, ⟨90, _⟩ => ⟨S191, .i32⟩
  | .hbm, ⟨91, _⟩ => ⟨S191, .i1⟩
  | .hbm, ⟨92, _⟩ => ⟨S191x1x1, .i1⟩
  | .hbm, ⟨93, _⟩ => ⟨S_, .f32⟩
  | .hbm, ⟨94, _⟩ => ⟨S_, .f32⟩
  | .hbm, ⟨95, _⟩ => ⟨S191x512x1024, .i1⟩
  | .hbm, ⟨96, _⟩ => ⟨S191x512x1024, .f32⟩
  | .hbm, ⟨97, _⟩ => ⟨S191x512x1024, .f32⟩
  | .hbm, ⟨98, _⟩ => ⟨S97792x1024, .f32⟩
  | _, _ => ⟨S191, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v66 : Ref sig .tc := ⟨.hbm, 97, rfl⟩
abbrev main_v67 : Ref sig .tc := ⟨.hbm, 98, rfl⟩

abbrev nD : Nat := 1
abbrev τ : Topo := Topo.v7x

variable {F : FTy → Type} [FloatOps F]
-- ==== Kernel3.lean ====
abbrev S16640x256 : Shape := ⟨2, ![16640, 256]⟩
abbrev S16640x1024 : Shape := ⟨2, ![16640, 1024]⟩
abbrev S2x6x1024 : Shape := ⟨3, ![2, 6, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1024x256 : Shape := ⟨2, ![1024, 256]⟩
abbrev S1x1024 : Shape := ⟨2, ![1, 1024]⟩
abbrev S32x1 : Shape := ⟨2, ![32, 1]⟩
abbrev S8x16640 : Shape := ⟨2, ![8, 16640]⟩
abbrev S16640x128 : Shape := ⟨2, ![16640, 128]⟩
abbrev S640x256 : Shape := ⟨2, ![640, 256]⟩
abbrev S640x1024 : Shape := ⟨2, ![640, 1024]⟩
abbrev S8x640 : Shape := ⟨2, ![8, 640]⟩
abbrev S640x128 : Shape := ⟨2, ![640, 128]⟩
abbrev S640x1 : Shape := ⟨2, ![640, 1]⟩
abbrev S1x1x1024 : Shape := ⟨3, ![1, 1, 1024]⟩
abbrev S640 : Shape := ⟨1, ![640]⟩
abbrev S128x640 : Shape := ⟨2, ![128, 640]⟩
abbrev S32x640 : Shape := ⟨2, ![32, 640]⟩
abbrev S1x640 : Shape := ⟨2, ![1, 640]⟩

abbrev nBuf : Space → Nat
  | .hbm => 32
  | .vmem => 23
  | .smem => 0
  | _ => 0

abbrev bufTy : (tb : Table) → Fin (tcTables nBuf tb) → BufTy
  | .hbm, ⟨0, _⟩ => ⟨S16640x256, .f32⟩
  | .hbm, ⟨1, _⟩ => ⟨S16640x256, .f32⟩
  | .hbm, ⟨2, _⟩ => ⟨S16640x256, .f32⟩
  | .hbm, ⟨3, _⟩ => ⟨S16640x256, .f32⟩
  | .hbm, ⟨4, _⟩ => ⟨S16640x1024, .f32⟩
  | .hbm, ⟨5, _⟩ => ⟨S2x6x1024, .f32⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S1024x32, .bf16⟩
  | .hbm, ⟨11, _⟩ => ⟨S1024x32, .f32⟩
  | .hbm, ⟨12, _⟩ => ⟨S1024x32, .f32⟩
  | .hbm, ⟨13, _⟩ => ⟨S1024x32, .bf16⟩
  | .hbm, ⟨14, _⟩ => ⟨S_, .i32⟩
  | .hbm, ⟨15, _⟩ => ⟨S_, .bf16⟩
  | .hbm, ⟨16, _⟩ => ⟨S1024x128, .bf16⟩
  | .hbm, ⟨17, _⟩ => ⟨S_, .i32⟩
  | .hbm, ⟨18, _⟩ => ⟨S_, .bf16⟩
  | .hbm, ⟨19, _⟩ => ⟨S1024x128, .bf16⟩
  | .hbm, ⟨20, _⟩ => ⟨S1024x256, .bf16⟩
  | .hbm, ⟨21, _⟩ => ⟨S16640x256, .bf16⟩
  | .hbm, ⟨22, _⟩ => ⟨S16640x256, .bf16⟩
  | .hbm, ⟨23, _⟩ => ⟨S16640x256, .bf16⟩
  | .hbm, ⟨24, _⟩ => ⟨S16640x256, .bf16⟩
  | .hbm, ⟨25, _⟩ => ⟨S1024x1024, .bf16⟩
  | .hbm, ⟨26, _⟩ => ⟨S1x1024, .f32⟩
  | .hbm, ⟨27, _⟩ => ⟨S32x1, .f32⟩
  | .hbm, ⟨28, _⟩ => ⟨S16640x1024, .f32⟩
  | .hbm, ⟨29, _⟩ => ⟨S16640x1024, .bf16⟩
  | .hbm, ⟨30, _⟩ => ⟨S8x16640, .i32⟩
  | .hbm, ⟨31, _⟩ => ⟨S16640x128, .f32⟩
  | .local _ .vmem, ⟨0, _⟩ => ⟨S640x256, .bf16⟩
  | .local _ .vmem, ⟨1, _⟩ => ⟨S640x256, .bf16⟩
  | .local _ .vmem, ⟨2, _⟩ => ⟨S640x256, .bf16⟩
  | .local _ .vmem, ⟨3, _⟩ => ⟨S640x256, .bf16⟩
  | .local _ .vmem, ⟨4, _⟩ => ⟨S640x256, .bf16⟩
  | .local _ .vmem, ⟨5, _⟩ => ⟨S640x256, .bf16⟩
  | .local _ .vmem, ⟨6, _⟩ => ⟨S640x256, .bf16⟩
  | .local _ .vmem, ⟨7, _⟩ => ⟨S640x256, .bf16⟩
  | .local _ .vmem, ⟨8, _⟩ => ⟨S640x1024, .f32⟩
  | .local _ .vmem, ⟨9, _⟩ => ⟨S640x1024, .f32⟩
  | .local _ .vmem, ⟨10, _⟩ => ⟨S2x6x1024, .f32⟩
  | .local _ .vmem, ⟨11, _⟩ => ⟨S1024x1024, .bf16⟩
  | .local _ .vmem, ⟨12, _⟩ => ⟨S1x1024, .f32⟩
  | .local _ .vmem, ⟨13, _⟩ => ⟨S1024x256, .bf16⟩
  | .local _ .vmem, ⟨14, _⟩ => ⟨S32x1, .f32⟩
  | .local _ .vmem, ⟨15, _⟩ => ⟨S640x1024, .f32⟩
  | .local _ .vmem, ⟨16, _⟩ => ⟨S640x1024, .f32⟩
  | .local _ .vmem, ⟨17, _⟩ => ⟨S640x1024, .bf16⟩
  | .local _ .vmem, ⟨18, _⟩ => ⟨S640x1024, .bf16⟩
  | .local _ .vmem, ⟨19, _⟩ => ⟨S8x640, .i32⟩
  | .local _ .vmem, ⟨20, _⟩ => ⟨S8x640, .i32⟩
  | .local _ .vmem, ⟨21, _⟩ => ⟨S640x128, .f32⟩
  | .local _ .vmem, ⟨22, _⟩ => ⟨S640x128, .f32⟩
  | _, _ => ⟨S16640x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_c_0 : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v14_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S640x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S640x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x640 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S640x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16640x256 : Shape := ⟨2, ![16640, 256]⟩
abbrev S16640x1024 : Shape := ⟨2, ![16640, 1024]⟩
abbrev S2x6x1024 : Shape := ⟨3, ![2, 6, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S16384x1024 : Shape := ⟨2, ![16384, 1024]⟩
abbrev S1x1x1024 : Shape := ⟨3, ![1, 1, 1024]⟩
abbrev S1x1024 : Shape := ⟨2, ![1, 1024]⟩
abbrev S256x1024 : Shape := ⟨2, ![256, 1024]⟩
abbrev S_ : Shape := ⟨0, ![]⟩
abbrev S16640 : Shape := ⟨1, ![16640]⟩
abbrev S16640x1 : Shape := ⟨2, ![16640, 1]⟩

abbrev nBuf : Space → Nat
  | .hbm => 75
  | .vmem => 0
  | .smem => 0
  | _ => 0

abbrev bufTy : (tb : Table) → Fin (tcTables nBuf tb) → BufTy
  | .hbm, ⟨0, _⟩ => ⟨S16640x256, .f32⟩
  | .hbm, ⟨1, _⟩ => ⟨S16640x256, .f32⟩
  | .hbm, ⟨2, _⟩ => ⟨S16640x256, .f32⟩
  | .hbm, ⟨3, _⟩ => ⟨S16640x256, .f32⟩
  | .hbm, ⟨4, _⟩ => ⟨S16640x1024, .f32⟩
  | .hbm, ⟨5, _⟩ => ⟨S2x6x1024, .f32⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S16640x1024, .f32⟩
  | .hbm, ⟨11, _⟩ => ⟨S16640x1024, .f32⟩
  | .hbm, ⟨12, _⟩ => ⟨S16384x1024, .f32⟩
  | .hbm, ⟨13, _⟩ => ⟨S1x1x1024, .f32⟩
  | .hbm, ⟨14, _⟩ => ⟨S1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S256x1024, .f32⟩
  | .hbm, ⟨21, _⟩ => ⟨S1x1x1024, .f32⟩
  | .hbm, ⟨22, _⟩ => ⟨S1024, .f32⟩
  | .hbm, ⟨23, _⟩ => ⟨S256x1024, .f32⟩
  | .hbm, ⟨24, _⟩ => ⟨S1x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S16640x1024, .f32⟩
  | .hbm, ⟨29, _⟩ => ⟨S16640x1024, .f32⟩
  | .hbm, ⟨30, _⟩ => ⟨S_, .f32⟩
  | .hbm, ⟨31, _⟩ => ⟨S16640, .f32⟩
  | .hbm, ⟨32, _⟩ => ⟨S16640x1, .f32⟩
  | .hbm, ⟨33, _⟩ => ⟨S_, .f32⟩
  | .hbm, ⟨34, _⟩ => ⟨S16640x1, .f32⟩
  | .hbm, ⟨35, _⟩ => ⟨S16640x1, .f32⟩
  | .hbm, ⟨36, _⟩ => ⟨S_, .f32⟩
  | .hbm, ⟨37, _⟩ => ⟨S16640x1, .f32⟩
  | .hbm, ⟨38, _⟩ => ⟨S16640x1, .f32⟩
  | .hbm, ⟨39, _⟩ => ⟨S16640x1, .f32⟩
  | .hbm, ⟨40, _⟩ => ⟨S16640x1024, .f32⟩
  | .hbm, ⟨41, _⟩ => ⟨S16640x1024, .f32⟩
  | .hbm, ⟨42, _⟩ => ⟨S1x1024, .f32⟩
  | .hbm, ⟨43, _⟩ => ⟨S16640x1024, .f32⟩
  | .hbm, ⟨44, _⟩ => ⟨S16640x1024, .f32⟩
  | .hbm, ⟨45, _⟩ => ⟨S16384x1024, .f32⟩
  | .hbm, ⟨46, _⟩ => ⟨S1x1x1024, .f32⟩
  | .hbm, ⟨47, _⟩ => ⟨S1024, .f32⟩
  | .hbm, ⟨48, _⟩ => ⟨S1x1x1024, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S256x1024, .f32⟩
  | .hbm, ⟨60, _⟩ => ⟨S1x1x1024, .f32⟩
  | .hbm, ⟨61, _⟩ => ⟨S1024, .f32⟩
  | .hbm, ⟨62, _⟩ => ⟨S1x1x1024, .f32⟩
  | .hbm, ⟨63, _⟩ => ⟨S1024, .f32⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S1x1024, .f32⟩
  | .hbm, ⟨68, _⟩ => ⟨S256x1024, .f32⟩
  | .hbm, ⟨69, _⟩ => ⟨S256x1024, .f32⟩
  | .hbm, ⟨70, _⟩ => ⟨S1x1024, .f32⟩
  | .hbm, ⟨71, _⟩ => ⟨S256x1024, .f32⟩
  | .hbm, ⟨72, _⟩ => ⟨S256x1024, .f32⟩
  | .hbm, ⟨73, _⟩ => ⟨S16640x1024, .f32⟩
  | .hbm, ⟨74, _⟩ => ⟨S16640x1024, .bf16⟩
  | _, _ => ⟨S16640x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_3 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Kernel4.lean ====
abbrev S16640x1024 : Shape := ⟨2, ![16640, 1024]⟩
abbrev S2x6x1024 : Shape := ⟨3, ![2, 6, 1024]⟩
abbrev S1024 : Shape := ⟨1, ![1024]⟩
abbrev S1024x1632 : Shape := ⟨2, ![1024, 1632]⟩
abbrev S192 : Shape := ⟨1, ![192]⟩
abbrev S192x384 : Shape := ⟨2, ![192, 384]⟩
abbrev S128 : Shape := ⟨1, ![128]⟩
abbrev S128x512 : Shape := ⟨2, ![128, 512]⟩
abbrev S96 : Shape := ⟨1, ![96]⟩
abbrev S16640x128 : Shape := ⟨2, ![16640, 128]⟩
abbrev S256 : Shape := ⟨1, ![256]⟩
abbrev S4x128x128 : Shape := ⟨3, ![4, 128, 128]⟩
abbrev S4x128 : Shape := ⟨2, ![4, 128]⟩
abbrev S1024x256 : Shape := ⟨2, ![1024, 256]⟩
abbrev S1024x192 : Shape := ⟨2, ![1024, 192]⟩
abbrev S1024x128 : Shape := ⟨2, ![1024, 128]⟩
abbrev S1024x32 : Shape := ⟨2, ![1024, 32]⟩
abbrev S1024x512 : Shape := ⟨2, ![1024, 512]⟩
abbrev S1024x1x32 : Shape := ⟨3, ![1024, 1, 32]⟩
abbrev S_ : Shape := ⟨0, ![]⟩
abbrev S1024x1x128 : Shape := ⟨3, ![1024, 1, 128]⟩
abbrev S1x1024x1x1x1x128 : Shape := ⟨6, ![1, 1024, 1, 1, 1, 128]⟩
abbrev S1x1024x4x1x1x128 : Shape := ⟨6, ![1, 1024, 4, 1, 1, 128]⟩
abbrev S1024x4x128 : Shape := ⟨3, ![1024, 4, 128]⟩
abbrev S1024x2176 : Shape := ⟨2, ![1024, 2176]⟩
abbrev S1x256 : Shape := ⟨2, ![1, 256]⟩
abbrev S192x4x96 : Shape := ⟨3, ![192, 4, 96]⟩
abbrev S192x4x128 : Shape := ⟨3, ![192, 4, 128]⟩
abbrev S192x512 : Shape := ⟨2, ![192, 512]⟩
abbrev S256x512 : Shape := ⟨2, ![256, 512]⟩
abbrev S1x128 : Shape := ⟨2, ![1, 128]⟩
abbrev S128x4x128 : Shape := ⟨3, ![128, 4, 128]⟩
abbrev S128x4x64 : Shape := ⟨3, ![128, 4, 64]⟩
abbrev S128x256 : Shape := ⟨2, ![128, 256]⟩
abbrev S128x1024 : Shape := ⟨2, ![128, 1024]⟩
abbrev S128x4 : Shape := ⟨2, ![128, 4]⟩
abbrev S1x1024 : Shape := ⟨2, ![1, 1024]⟩
abbrev S16640x256 : Shape := ⟨2, ![16640, 256]⟩
abbrev S16640x512 : Shape := ⟨2, ![16640, 512]⟩
abbrev S512x16640 : Shape := ⟨2, ![512, 16640]⟩
abbrev S256x1024 : Shape := ⟨2, ![256, 1024]⟩
abbrev S256x128 : Shape := ⟨2, ![256, 128]⟩
abbrev S256x256 : Shape := ⟨2, ![256, 256]⟩
abbrev S512x256 : Shape := ⟨2, ![512, 256]⟩
abbrev S256x1 : Shape := ⟨2, ![256, 1]⟩
abbrev S1x1x1024 : Shape := ⟨3, ![1, 1, 1024]⟩
abbrev S256x2176 : Shape := ⟨2, ![256, 2176]⟩

abbrev nBuf : Space → Nat
  | .hbm => 91
  | .vmem => 33
  | .smem => 0
  | _ => 0

abbrev bufTy : (tb : Table) → Fin (tcTables nBuf tb) → BufTy
  | .hbm, ⟨0, _⟩ => ⟨S16640x1024, .f32⟩
  | .hbm, ⟨1, _⟩ => ⟨S2x6x1024, .f32⟩
  | .hbm, ⟨2, _⟩ => ⟨S1024, .f32⟩
  | .hbm, ⟨3, _⟩ => ⟨S1024x1632, .f32⟩
  | .hbm, ⟨4, _⟩ => ⟨S192, .f32⟩
  | .hbm, ⟨5, _⟩ => ⟨S192x384, .f32⟩
  | .hbm, ⟨6, _⟩ => ⟨S128, .f32⟩
  | .hbm, ⟨7, _⟩ => ⟨S128x512, .f32⟩
  | .hbm, ⟨8, _⟩ => ⟨S96, .f32⟩
  | .hbm, ⟨9, _⟩ => ⟨S96, .f32⟩
  | .hbm, ⟨10, _⟩ => ⟨S16640x128, .f32⟩
  | .hbm, ⟨11, _⟩ => ⟨S16640x128, .f32⟩
  | .hbm, ⟨12, _⟩ => ⟨S256, .f32⟩
  | .hbm, ⟨13, _⟩ => ⟨S256, .f32⟩
  | .hbm, ⟨14, _⟩ => ⟨S4x128x128, .f32⟩
  | .hbm, ⟨15, _⟩ => ⟨S4x128, .f32⟩
  | .hbm, ⟨16, _⟩ => ⟨S1024x256, .f32⟩
  | .hbm, ⟨17, _⟩ => ⟨S1024x192, .f32⟩
  | .hbm, ⟨18, _⟩ => ⟨S1024x128, .f32⟩
  | .hbm, ⟨19, _⟩ => ⟨S1024x32, .f32⟩
  | .hbm, ⟨20, _⟩ => ⟨S1024x512, .f32⟩
  | .hbm, ⟨21, _⟩ => ⟨S1024x256, .f32⟩
  | .hbm, ⟨22, _⟩ => ⟨S1024x256, .f32⟩
  | .hbm, ⟨23, _⟩ => ⟨S1024x1x32, .f32⟩
  | .hbm, ⟨24, _⟩ => ⟨S_, .i32⟩
  | .hbm, ⟨25, _⟩ => ⟨S_, .f32⟩
  | .hbm, ⟨26, _⟩ => ⟨S1024x1x128, .f32⟩
  | .hbm, ⟨27, _⟩ => ⟨S1x1024x1x1x1x128, .f32⟩
  | .hbm, ⟨28, _⟩ => ⟨S1x1024x4x1x1x128, .f32⟩
  | .hbm, ⟨29, _⟩ => ⟨S1024x4x128, .f32⟩
  | .hbm, ⟨30, _⟩ => ⟨S1024x512, .f32⟩
  | .hbm, ⟨31, _⟩ => ⟨S_, .i32⟩
  | .hbm, ⟨32, _⟩ => ⟨S_, .f32⟩
  | .hbm, ⟨33, _⟩ => ⟨S1024x256, .f32⟩
  | .hbm, ⟨34, _⟩ => ⟨S1024x2176, .f32⟩
  | .hbm, ⟨35, _⟩ => ⟨S1024x2176, .bf16⟩
  | .hbm, ⟨36, _⟩ => ⟨S_, .i32⟩
  | .hbm, ⟨37, _⟩ => ⟨S_, .f32⟩
  | .hbm, ⟨38, _⟩ => ⟨S256, .f32⟩
  | .hbm, ⟨39, _⟩ => ⟨S1x256, .f32⟩
  | .hbm, ⟨40, _⟩ => ⟨S192x4x96, .f32⟩
  | .hbm, ⟨41, _⟩ => ⟨S_, .i32⟩
  | .hbm, ⟨42, _⟩ => ⟨S_, .f32⟩
  | .hbm, ⟨43, _⟩ => ⟨S192x4x128, .f32⟩
  | .hbm, ⟨44, _⟩ => ⟨S192x512, .f32⟩
  | .hbm, ⟨45, _⟩ => ⟨S_, .i32⟩
  | .hbm, ⟨46, _⟩ => ⟨S_, .f32⟩
  | .hbm, ⟨47, _⟩ => ⟨S256x512, .f32⟩
  | .hbm, ⟨48, _⟩ => ⟨S256x512, .bf16⟩
  | .hbm, ⟨49, _⟩ => ⟨S1x128, .f32⟩
  | .hbm, ⟨50, _⟩ => ⟨S128x4x128, .f32⟩
  | .hbm, ⟨51, _⟩ => ⟨S128x4x64, .f32⟩
  | .hbm, ⟨52, _⟩ => ⟨S128x256, .f32⟩
  | .hbm, ⟨53, _⟩ => ⟨S128x4x64, .f32⟩
  | .hbm, ⟨54, _⟩ => ⟨S_, .i32⟩
  | .hbm, ⟨55, _⟩ => ⟨S_, .f32⟩
  | .hbm, ⟨56, _⟩ => ⟨S128x4x128, .f32⟩
  | .hbm, ⟨57, _⟩ => ⟨S128x512, .f32⟩
  | .hbm, ⟨58, _⟩ => ⟨S128x4x64, .f32⟩
  | .hbm, ⟨59, _⟩ => ⟨S128x256, .f32⟩
  | .hbm, ⟨60, _⟩ => ⟨S128x4x64, .f32⟩
  | .hbm, ⟨61, _⟩ => ⟨S_, .i32⟩
  | .hbm, ⟨62, _⟩ => ⟨S_, .f32⟩
  | .hbm, ⟨63, _⟩ => ⟨S128x4x128, .f32⟩
  | .hbm, ⟨64, _⟩ => ⟨S128x512, .f32⟩
  | .hbm, ⟨65, _⟩ => ⟨S128x1024, .f32⟩
  | .hbm, ⟨66, _⟩ => ⟨S128x1024, .bf16⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S_, .i32⟩
  | .hbm, ⟨72, _⟩ => ⟨S_, .f32⟩
  | .hbm, ⟨73, _⟩ => ⟨S128, .f32⟩
  | .hbm, ⟨74, _⟩ => ⟨S1x128, .f32⟩
  | .hbm, ⟨75, _⟩ => ⟨S128x4x128, .f32⟩
  | .hbm, ⟨76, _⟩ => ⟨S128x512, .f32⟩
  | .hbm, ⟨77, _⟩ => ⟨S128x512, .bf16⟩
  | .hbm, ⟨78, _⟩ => ⟨S128x4, .f32⟩
  | .hbm, ⟨79, _⟩ => ⟨S128x4x64, .f32⟩
  | .hbm, ⟨80, _⟩ => ⟨S128x256, .f32⟩
  | .hbm, ⟨81, _⟩ => ⟨S1x1024, .f32⟩
  | .hbm, ⟨82, _⟩ => ⟨S1x256, .f32⟩
  | .hbm, ⟨83, _⟩ => ⟨S1x256, .f32⟩
  | .hbm, ⟨84, _⟩ => ⟨S16640x256, .f32⟩
  | .hbm, ⟨85, _⟩ => ⟨S16640x512, .bf16⟩
  | .hbm, ⟨86, _⟩ => ⟨S16640x512, .bf16⟩
  | .hbm, ⟨87, _⟩ => ⟨S512x16640, .bf16⟩
  | .hbm, ⟨88, _⟩ => ⟨S16640x256, .bf16⟩
  | .hbm, ⟨89, _⟩ => ⟨S16640x256, .f32⟩
  | .hbm, ⟨90, _⟩ => ⟨S16640x256, .f32⟩
  | .local _ .vmem, ⟨0, _⟩ => ⟨S256x1024, .f32⟩
  | .local _ .vmem, ⟨1, _⟩ => ⟨S256x1024, .f32⟩
  | .local _ .vmem, ⟨2, _⟩ => ⟨S2x6x1024, .f32⟩
  | .local _ .vmem, ⟨3, _⟩ => ⟨S1x1024, .f32⟩
  | .local _ .vmem, ⟨4, _⟩ => ⟨S1024x2176, .bf16⟩
  | .local _ .vmem, ⟨5, _⟩ => ⟨S1x256, .f32⟩
  | .local _ .vmem, ⟨6, _⟩ => ⟨S256x512, .bf16⟩
  | .local _ .vmem, ⟨7, _⟩ => ⟨S1x128, .f32⟩
  | .local _ .vmem, ⟨8, _⟩ => ⟨S128x1024, .bf16⟩
  | .local _ .vmem, ⟨9, _⟩ => ⟨S1x128, .f32⟩
  | .local _ .vmem, ⟨10, _⟩ => ⟨S1x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S1x256, .f32⟩
  | .local _ .vmem, ⟨16, _⟩ => ⟨S1x256, .f32⟩
  | .local _ .vmem, ⟨17, _⟩ => ⟨S128x512, .bf16⟩
  | .local _ .vmem, ⟨18, _⟩ => ⟨S128x256, .f32⟩
  | .local _ .vmem, ⟨19, _⟩ => ⟨S256x256, .f32⟩
  | .local _ .vmem, ⟨20, _⟩ => ⟨S256x256, .f32⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S512x256, .bf16⟩
  | .local _ .vmem, ⟨26, _⟩ => ⟨S512x256, .bf16⟩
  | .local _ .vmem, ⟨27, _⟩ => ⟨S256x256, .bf16⟩
  | .local _ .vmem, ⟨28, _⟩ => ⟨S256x256, .bf16⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_call0_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_0 : Ref sig .tc := ⟨.hbm, 31, rfl⟩
abbrev main_call1_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_1 : Ref sig .tc := ⟨.hbm, 36, rfl⟩
abbrev main_call2_v0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_call3_v0 : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_call4_v0 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_4 : Ref sig .tc := ⟨.hbm, 54, rfl⟩
abbrev main_call5_v0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_5 : Ref sig .tc := ⟨.hbm, 61, rfl⟩
abbrev main_call6_v0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_6 : Ref sig .tc := ⟨.hbm, 67, rfl⟩
abbrev main_call7_v0 : Ref sig .tc := ⟨.hbm, 68, rfl⟩
abbrev main_v37 : Ref sig .tc := ⟨.hbm, 69, rfl⟩
abbrev main_v38 : Ref sig .tc := ⟨.hbm, 70, rfl⟩
abbrev main_c_7 : Ref sig .tc := ⟨.hbm, 71, rfl⟩
abbrev main_call8_v0 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50_0 : Ref sig .tc := ⟨.hbm, 84, rfl⟩
abbrev main_v50_1 : Ref sig .tc := ⟨.hbm, 85, rfl⟩
abbrev main_v50_2 : Ref sig .tc := ⟨.hbm, 86, rfl⟩
abbrev main_v50_3 : Ref sig .tc := ⟨.hbm, 87, rfl⟩
abbrev main_v50_4 : Ref sig .tc := ⟨.hbm, 88, rfl⟩
abbrev main_v50_5 : Ref sig .tc := ⟨.hbm, 89, rfl⟩
abbrev main_v50_6 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference4Ideal.lean ====
abbrev S16640x1024 : Shape := ⟨2, ![16640, 1024]⟩
abbrev S2x6x1024 : Shape := ⟨3, ![2, 6, 1024]⟩
abbrev S1024 : Shape := ⟨1, ![1024]⟩
abbrev S1024x1632 : Shape := ⟨2, ![1024, 1632]⟩
abbrev S192 : Shape := ⟨1, ![192]⟩
abbrev S192x384 : Shape := ⟨2, ![192, 384]⟩
abbrev S128 : Shape := ⟨1, ![128]⟩
abbrev S128x512 : Shape := ⟨2, ![128, 512]⟩
abbrev S96 : Shape := ⟨1, ![96]⟩
abbrev S16640x128 : Shape := ⟨2, ![16640, 128]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S16640 : Shape := ⟨1, ![16640]⟩
abbrev S16640x1 : Shape := ⟨2, ![16640, 1]⟩
abbrev S1x1024 : Shape := ⟨2, ![1, 1024]⟩
abbrev S16384x1024 : Shape := ⟨2, ![16384, 1024]⟩
abbrev S1x1x1024 : Shape := ⟨3, ![1, 1, 1024]⟩
abbrev S256x1024 : Shape := ⟨2, ![256, 1024]⟩
abbrev S16640x1632 : Shape := ⟨2, ![16640, 1632]⟩
abbrev S16640x256 : Shape := ⟨2, ![16640, 256]⟩
abbrev S16640x192 : Shape := ⟨2, ![16640, 192]⟩
abbrev S16640x32 : Shape := ⟨2, ![16640, 32]⟩
abbrev S16640x512 : Shape := ⟨2, ![16640, 512]⟩
abbrev S1x256 : Shape := ⟨2, ![1, 256]⟩
abbrev S130x128x4x64 : Shape := ⟨4, ![130, 128, 4, 64]⟩
abbrev S4x130x64x128 : Shape := ⟨4, ![4, 130, 64, 128]⟩
abbrev S128x4 : Shape := ⟨2, ![128, 4]⟩
abbrev S1x128x4x1 : Shape := ⟨4, ![1, 128, 4, 1]⟩

abbrev nBuf : Space → Nat
  | .hbm => 144
  | .vmem => 0
  | .smem => 0
  | _ => 0

abbrev hbmTy0_0 (i : Nat) : BufTy := match i % 128 with
  | 0 => ⟨S16640x1024, .f32⟩
  | 1 => ⟨S2x6x1024, .f32⟩
  | 2 => ⟨S1024, .f32⟩
  | 3 => ⟨S1024x1632, .f32⟩
  | 4 => ⟨S192, .f32⟩
  | 5 => ⟨S192x384, .f32⟩
  | 6 => ⟨S128, .f32⟩
  | 7 => ⟨S128x512, .f32⟩
  | 8 => ⟨S96, .f32⟩
  | 9 => ⟨S96, .f32⟩
  | 10 => ⟨S16640x128, .f32⟩
  | 11 => ⟨S16640x128, .f32⟩
  | 12 => ⟨S256, .f32⟩
  | 13 => ⟨S256, .f32⟩
  | 14 => ⟨S4x128x128, .f32⟩
  | 15 => ⟨S4x128, .f32⟩
  | 16 => ⟨S16640x1024, .f32⟩
  | 17 => ⟨S_, .f32⟩
  | 18 => ⟨S16640, .f32⟩
  | 19 => ⟨S16640x1, .f32⟩
  | 20 => ⟨S_, .f32⟩
  | 21 => ⟨S16640x1, .f32⟩
  | 22 => ⟨S16640x1, .f32⟩
  | 23 => ⟨S_, .f32⟩
  | 24 => ⟨S16640x1, .f32⟩
  | 25 => ⟨S16640x1, .f32⟩
  | 26 => ⟨S16640x1, .f32⟩
  | 27 => ⟨S16640x1024, .f32⟩
  | 28 => ⟨S16640x1024, .f32⟩
  | 29 => ⟨S1x1024, .f32⟩
  | 30 => ⟨S16640x1024, .f32⟩
  | 31 => ⟨S16640x1024, .f32⟩
  | 32 => ⟨S16384x1024, .f32⟩
  | 33 => ⟨S1x1x1024, .f32⟩
  | 34 => ⟨S1024, .f32⟩
  | 35 => ⟨S1x1x1024, .f32⟩
  | 36 => ⟨S1024, .f32⟩
  | 37 => ⟨S_, .f32⟩
  | 38 => ⟨S1024, .f32⟩
  | 39 => ⟨S1024, .f32⟩
  | 40 => ⟨S1x1024, .f32⟩
  | 41 => ⟨S16384x1024, .f32⟩
  | 42 => ⟨S16384x1024, .f32⟩
  | 43 => ⟨S1x1024, .f32⟩
  | 44 => ⟨S16384x1024, .f32⟩
  | 45 => ⟨S16384x1024, .f32⟩
  | 46 => ⟨S256x1024, .f32⟩
  | 47 => ⟨S1x1x1024, .f32⟩
  | 48 => ⟨S1024, .f32⟩
  | 49 => ⟨S1x1x1024, .f32⟩
  | 50 => ⟨S1024, .f32⟩
  | 51 => ⟨S_, .f32⟩
  | 52 => ⟨S1024, .f32⟩
  | 53 => ⟨S1024, .f32⟩
  | 54 => ⟨S1x1024, .f32⟩
  | 55 => ⟨S256x1024, .f32⟩
  | 56 => ⟨S256x1024, .f32⟩
  | 57 => ⟨S1x1024, .f32⟩
  | 58 => ⟨S256x1024, .f32⟩
  | 59 => ⟨S256x1024, .f32⟩
  | 60 => ⟨S16640x1024, .f32⟩
  | 61 => ⟨S16640x1632, .f32⟩
  | 62 => ⟨S16640x256, .f32⟩
  | 63 => ⟨S16640x192, .f32⟩
  | 64 => ⟨S16640x128, .f32⟩
  | 65 => ⟨S16640x32, .f32⟩
  | 66 => ⟨S16640x512, .f32⟩
  | 67 => ⟨S16640x256, .f32⟩
  | 68 => ⟨S16640x256, .f32⟩
  | 69 => ⟨S16640x512, .f32⟩
  | 70 => ⟨S16640x512, .f32⟩
  | 71 => ⟨S_, .f32⟩
  | 72 => ⟨S16640x512, .f32⟩
  | 73 => ⟨S16640x512, .f32⟩
  | 74 => ⟨S16640x512, .f32⟩
  | 75 => ⟨S_, .f32⟩
  | 76 => ⟨S16640x512, .f32⟩
  | 77 => ⟨S16640x512, .f32⟩
  | 78 => ⟨S16640x512, .f32⟩
  | 79 => ⟨S_, .f32⟩
  | 80 => ⟨S16640x512, .f32⟩
  | 81 => ⟨S16640x512, .f32⟩
  | 82 => ⟨S_, .f32⟩
  | 83 => ⟨S16640x512, .f32⟩
  | 84 => ⟨S16640x512, .f32⟩
  | 85 => ⟨S16640x512, .f32⟩
  | 86 => ⟨S16640x256, .f32⟩
  | 87 => ⟨S16640x256, .f32⟩
  | 88 => ⟨S_, .f32⟩
  | 89 => ⟨S16640, .f32⟩
  | 90 => ⟨S16640x1, .f32⟩
  | 91 => ⟨S_, .f32⟩
  | 92 => ⟨S16640x1, .f32⟩
  | 93 => ⟨S16640x1, .f32⟩
  | 94 => ⟨S16640x256, .f32⟩
  | 95 => ⟨S16640x256, .f32⟩
  | 96 => ⟨S16640x256, .f32⟩
  | 97 => ⟨S_, .f32⟩
  | 98 => ⟨S16640, .f32⟩
  | 99 => ⟨S16640x1, .f32⟩
  | 100 => ⟨S_, .f32⟩
  | 101 => ⟨S16640x1, .f32⟩
  | 102 => ⟨S16640x1, .f32⟩
  | 103 => ⟨S16640x256, .f32⟩
  | 104 => ⟨S16640x256, .f32⟩
  | 105 => ⟨S_, .f32⟩
  | 106 => ⟨S16640x1, .f32⟩
  | 107 => ⟨S16640x1, .f32⟩
  | 108 => ⟨S16640x1, .f32⟩
  | 109 => ⟨S16640x256, .f32⟩
  | 110 => ⟨S16640x256, .f32⟩
  | 111 => ⟨S1x256, .f32⟩
  | 112 => ⟨S16640x256, .f32⟩
  | 113 => ⟨S16640x256, .f32⟩
  | 114 => ⟨S1x256, .f32⟩
  | 115 => ⟨S16640x256, .f32⟩
  | 116 => ⟨S16640x256, .f32⟩
  | 117 => ⟨S130x128x4x64, .f32⟩
  | 118 => ⟨S4x130x64x128, .f32⟩
  | 119 => ⟨S130x128x4x64, .f32⟩
  | 120 => ⟨S128x4, .f32⟩
  | 121 => ⟨S1x128x4x1, .f32⟩
  | 122 => ⟨S130x128x4x64, .f32⟩
  | 123 => ⟨S130x128x4x64, .f32⟩
  | 124 => ⟨S16640x256, .f32⟩
  | 125 => ⟨S16640x256, .f32⟩
  | 126 => ⟨S16640x256, .bf16⟩
  | 127 => ⟨S16640x256, .f32⟩
  | _ => ⟨S16640x1024, .f32⟩

abbrev hbmTy0_1 (i : Nat) : BufTy := match i % 128 with
  | 0 => ⟨S16640x256, .f32⟩
  | 1 => ⟨S_, .f32⟩
  | 2 => ⟨S16640x256, .f32⟩
  | 3 => ⟨S16640x256, .f32⟩
  | 4 => ⟨S16640x256, .f32⟩
  | 5 => ⟨S_, .f32⟩
  | 6 => ⟨S16640x256, .f32⟩
  | 7 => ⟨S16640x256, .f32⟩
  | 8 => ⟨S16640x256, .f32⟩
  | 9 => ⟨S_, .f32⟩
  | 10 => ⟨S16640x256, .f32⟩
  | 11 => ⟨S16640x256, .f32⟩
  | 12 => ⟨S_, .f32⟩
  | 13 => ⟨S16640x256, .f32⟩
  | 14 => ⟨S16640x256, .f32⟩
  | 15 => ⟨S16640x256, .f32⟩
  | _ => ⟨S16640x1024, .f32⟩

abbrev hbmTy (i : Nat) : BufTy := match i / 128 with
  | 0 => hbmTy0_0 i
  | 1 => hbmTy0_1 i
  | _ => ⟨S16640x1024, .f32⟩

abbrev bufTy : (tb : Table) → Fin (tcTables nBuf tb) → BufTy
  | .hbm, ⟨i, _⟩ => hbmTy i
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_4 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_6 : Ref sig .tc := ⟨.hbm, 79, rfl⟩
abbrev main_v56 : Ref sig .tc := ⟨.hbm, 80, rfl⟩
abbrev main_v57 : Ref sig .tc := ⟨.hbm, 81, rfl⟩
abbrev main_cst_7 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_8 : Ref sig .tc := ⟨.hbm, 88, rfl⟩
abbrev main_v63 : Ref sig .tc := ⟨.hbm, 89, rfl⟩
abbrev main_v64 : Ref sig .tc := ⟨.hbm, 90, rfl⟩
abbrev main_cst_9 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_10 : Ref sig .tc := ⟨.hbm, 97, rfl⟩
abbrev main_v70 : Ref sig .tc := ⟨.hbm, 98, rfl⟩
abbrev main_v71 : Ref sig .tc := ⟨.hbm, 99, rfl⟩
abbrev main_cst_11 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_12 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_13 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_14 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_15 : Ref sig .tc := ⟨.hbm, 137, rfl⟩
abbrev main_v105 : Ref sig .tc := ⟨.hbm, 138, rfl⟩
abbrev main_v106 : Ref sig .tc := ⟨.hbm, 139, rfl⟩
abbrev main_cst_16 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩

abbrev nD : Nat := 1
abbrev τ : Topo := Topo.v7x

variable {F : FTy → Type} [FloatOps F]
-- ==== Proof.Items.lean ====
/- One grid point's fifty-two items, said once: item `n` takes chunk `n / 4` of the point's keys and head
   `n % 4`. What the three generated runs store is this one recursion, started from what each finds. -/
module

public import proofs.«01_k».proof.Proof.Gen.KernelIdeal.Value

@[expose] public section

set_option maxRecDepth 16384

noncomputable section

namespace Cert.KernelIdeal.Items

open Idealize.ShloMosaic Cert.KernelIdeal.Gen

variable {F : FTy → Type} [FloatOps F]

/-! ## The boxes item `n` touches -/

theorem inb_m (n : ℕ) : ∀ a, (![n % 4, 0, 0] : Fin 3 → ℕ) a + S1x1x512.size a ≤ S4x1x512.size a := by
  have := Nat.mod_lt n (show 4 > 0 by decide)
  intro a; fin_cases a <;> simp <;> omega

theorem inb_a (n : ℕ) : ∀ a, (![n % 4, 0, 0] : Fin 3 → ℕ) a + S1x80x512.size a ≤ S4x128x512.size a := by
  have := Nat.mod_lt n (show 4 > 0 by decide)
  intro a; fin_cases a <;> simp <;> omega

theorem inb_q (n : ℕ) : ∀ a, (![0, 128 * (n % 4)] : Fin 2 → ℕ) a + S512x128.size a ≤ S512x512.size a := by
  have := Nat.mod_lt n (show 4 > 0 by decide)
  intro a; fin_cases a <;> simp <;> omega

theorem inb_k (n : ℕ) : ∀ a, (![256 * (n / 4 % 13), 128 * (n % 4)] : Fin 2 → ℕ) a + S256x128.size a ≤ S3328x512.size a := by
  have := Nat.mod_lt n (show 4 > 0 by decide)
  have := Nat.mod_lt (n / 4) (show 13 > 0 by decide)
  intro a; fin_cases a <;> simp <;> omega

theorem inb_v (n : ℕ) : ∀ a, (![128 * (n % 4), 256 * (n / 4 % 13)] : Fin 2 → ℕ) a + S80x256.size a ≤ S512x3328.size a := by
  have := Nat.mod_lt n (show 4 > 0 by decide)
  have := Nat.mod_lt (n / 4) (show 13 > 0 by decide)
  intro a; fin_cases a <;> simp <;> omega

theorem inb_h (n : ℕ) : ∀ a, (![n % 4, 0, 0] : Fin 3 → ℕ) a + S1x128x512.size a ≤ S4x128x512.size a := by
  have := Nat.mod_lt n (show 4 > 0 by decide)
  intro a; fin_cases a <;> simp <;> omega

abbrev rm (n : ℕ) : Rect S4x1x512 := Rect.unit ![n % 4, 0, 0] S1x1x512.size (inb_m n)
abbrev ra (n : ℕ) : Rect S4x128x512 := Rect.unit ![n % 4, 0, 0] S1x80x512.size (inb_a n)
abbrev rq (n : ℕ) : Rect S512x512 := Rect.unit ![0, 128 * (n % 4)] S512x128.size (inb_q n)
abbrev rk (n : ℕ) : Rect S3328x512 := Rect.unit ![256 * (n / 4 % 13), 128 * (n % 4)] S256x128.size (inb_k n)
abbrev rv (n : ℕ) : Rect S512x3328 := Rect.unit ![128 * (n % 4), 256 * (n / 4 % 13)] S80x256.size (inb_v n)

/-! ## What item `n` computes -/

/-- The scores of a chunk of keys against the block of queries, for one head. -/
def score (k : Vec F S256x128 .bf16) (q : Vec F S512x128 .bf16) : FVec F S256x512 .f32 :=
  matmul dot_S256x128_S512x128_S256x512_1_1_0_0_n_n none (shapeCast S256x128 k shapeCasts_S256x128_S256x128)
    (shapeCast S512x128 q shapeCasts_S512x128_S512x128) (constant S256x512 .f32 0x00000000#32)

/-- The running maximum after the chunk. -/
def newMax (s : FVec F S256x512 .f32) (ml : Vec F S1x1x512 .f32) : FVec F S1x512 .f32 :=
  maximumf (shapeCast S1x512 ml shapeCasts_S1x1x512_S1x512)
    (shapeCast S1x512 (multiReduction .maximumf [0] S512 s 0xFF800000#32 reduces_S256x512_S512 (.inl rfl) rfl) shapeCasts_S512_S1x512)

/-- The weights of the chunk against the maximum after it. -/
def weights (s : FVec F S256x512 .f32) (ml : Vec F S1x1x512 .f32) : FVec F S256x512 .bf16 :=
  truncf .bf16 (exp2 (subf s (broadcastTo S256x512 (newMax s ml) broadcasts_S1x512_S256x512))) bitsLt_bf16_f32

/-- The factor that brings the sums so far to the maximum after the chunk. -/
def rescale (s : FVec F S256x512 .f32) (ml : Vec F S1x1x512 .f32) : FVec F S1x512 .f32 :=
  exp2 (subf (shapeCast S1x512 ml shapeCasts_S1x1x512_S1x512) (newMax s ml))

def payM (s : FVec F S256x512 .f32) (ml : Vec F S1x1x512 .f32) : FVec F S1x1x512 .f32 :=
  shapeCast S1x1x512 (newMax s ml) shapeCasts_S1x512_S1x1x512

def payA (s : FVec F S256x512 .f32) (ml : Vec F S1x1x512 .f32) (al : Vec F S1x80x512 .f32) (vl : Vec F S80x256 .bf16) :
    FVec F S1x80x512 .f32 :=
  shapeCast S1x80x512
    (addf (mulf (broadcastTo S80x512 (rescale s ml) broadcasts_S1x512_S80x512) (shapeCast S80x512 al shapeCasts_S1x80x512_S80x512))
      (matmul dot_S80x256_S256x512_S80x512_1_0_0_1_n_n none (shapeCast S80x256 vl shapeCasts_S80x256_S80x256) (weights s ml)
        (constant S80x512 .f32 0x00000000#32)))
    shapeCasts_S80x512_S1x80x512

/-! ## The point's stores -/

section
variable (arg2 : Memref sig .tc .vmem S512x512 .bf16) (harg2 : arg2.IsWhole) (arg3 : Memref sig .tc .vmem S3328x512 .bf16) (harg3 : arg3.IsWhole)
  (arg4 : Memref sig .tc .vmem S512x3328 .bf16) (harg4 : arg4.IsWhole)
  (arg6 : Memref sig .tc .vmem S4x1x512 .f32) (arg7 : Memref sig .tc .vmem S4x128x512 .f32)
  (x0 : Vec F S512x512 .bf16) (x1 : Vec F S3328x512 .bf16) (x2 : Vec F S512x3328 .bf16)

def sc (n : ℕ) : FVec F S256x512 .f32 :=
  score (View.readAt (Elt F) arg3.view (rk n).toLoadRect (harg3.unread x1)) (View.readAt (Elt F) arg2.view (rq n).toLoadRect (harg2.unread x0))

def vl (n : ℕ) : Vec F S80x256 .bf16 := View.readAt (Elt F) arg4.view (rv n).toLoadRect (harg4.unread x2)

/-- What item `n` loads of the running maximum: the point's first four items' from `first`, the others' from the stores before. -/
def ldM (first : Option (Vec F S4x1x512 .f32)) (harg6 : arg6.IsWhole) (n : ℕ) (L : List (View.Piece (Elt F) S4x1x512 .f32)) : Vec F S1x1x512 .f32 :=
  match first with
  | some x => if n < 4 then View.readAt (Elt F) arg6.view (rm n).toLoadRect (harg6.unread x) else arg6.view.readCov L (rm n).toLoadRect
  | none => arg6.view.readCov L (rm n).toLoadRect

def ldA (first : Option (Vec F S4x128x512 .f32)) (harg7 : arg7.IsWhole) (n : ℕ) (L : List (View.Piece (Elt F) S4x128x512 .f32)) : Vec F S1x80x512 .f32 :=
  match first with
  | some x => if n < 4 then View.readAt (Elt F) arg7.view (ra n).toLoadRect (harg7.unread x) else arg7.view.readCov L (ra n).toLoadRect
  | none => arg7.view.readCov L (ra n).toLoadRect

/-- The stores of the running maximum by the first `n` items, last first. -/
def listM (harg6 : arg6.IsWhole) (f0 : Option (Vec F S4x1x512 .f32)) (B : List (View.Piece (Elt F) S4x1x512 .f32)) (n : ℕ) :
    List (View.Piece (Elt F) S4x1x512 .f32) :=
  Nat.rec B (fun n L => ⟨rm n, payM (sc arg2 harg2 arg3 harg3 x0 x1 n) (ldM arg6 f0 harg6 n L)⟩ :: L) n

/-- The stores of the weighted sums by the first `n` items, last first. -/
def listA (harg6 : arg6.IsWhole) (harg7 : arg7.IsWhole) (f0 : Option (Vec F S4x1x512 .f32)) (B : List (View.Piece (Elt F) S4x1x512 .f32))
    (f1 : Option (Vec F S4x128x512 .f32)) (B1 : List (View.Piece (Elt F) S4x128x512 .f32)) (n : ℕ) :
    List (View.Piece (Elt F) S4x128x512 .f32) :=
  Nat.rec B1 (fun n L => ⟨ra n, payA (sc arg2 harg2 arg3 harg3 x0 x1 n)
    (ldM arg6 f0 harg6 n (listM arg2 harg2 arg3 harg3 arg6 x0 x1 harg6 f0 B n)) (ldA arg7 f1 harg7 n L) (vl arg4 harg4 x2 n)⟩ :: L) n
end

/-- What the first point of a run stores before its items: no key seen yet. -/
def startM : List (View.Piece (Elt F) S4x1x512 .f32) := [⟨Rect.unit ![0, 0, 0] S4x1x512.size inb_S4x1x512_S4x1x512_0_0_0, k0_pay3⟩]
def startA : List (View.Piece (Elt F) S4x128x512 .f32) := [⟨Rect.unit ![0, 0, 0] S4x128x512.size inb_S4x128x512_S4x128x512_0_0_0, k0_pay4⟩]

section
variable (arg2 : Memref sig .tc .vmem S512x512 .bf16) (harg2 : arg2.IsWhole) (arg3 : Memref sig .tc .vmem S3328x512 .bf16) (harg3 : arg3.IsWhole)
  (arg4 : Memref sig .tc .vmem S512x3328 .bf16) (harg4 : arg4.IsWhole)
  (arg6 : Memref sig .tc .vmem S4x1x512 .f32) (harg6 : arg6.IsWhole) (arg7 : Memref sig .tc .vmem S4x128x512 .f32) (harg7 : arg7.IsWhole)
  (x0 : Vec F S512x512 .bf16) (x1 : Vec F S3328x512 .bf16) (x2 : Vec F S512x3328 .bf16) (xs0 : Vec F S4x1x512 .f32) (xs1 : Vec F S4x128x512 .f32)

/-- Head `h`'s slab of sums after a point's stores. -/
def sums (h : ℕ) : Vec F S1x128x512 .f32 :=
  View.readAt (Elt F) arg7.view (Rect.unit (s := S4x128x512) ![h % 4, 0, 0] S1x128x512.size (inb_h h)).toLoadRect
    (arg7.view.writes (Elt F) (harg7.unread xs1) (listA arg2 harg2 arg3 harg3 arg4 harg4 arg6 arg7 x0 x1 x2 harg6 harg7 (some xs0) [] (some xs1) [] 52))

end

section
variable (c : Dev nD) (i : grid0.Coords) (arg2 : Memref sig .tc .vmem S512x512 .bf16) (harg2 : arg2.IsWhole) (arg3 : Memref sig .tc .vmem S3328x512 .bf16) (harg3 : arg3.IsWhole)
  (arg4 : Memref sig .tc .vmem S512x3328 .bf16) (harg4 : arg4.IsWhole) (arg5 : Memref sig .tc .vmem S512x256 .bf16) (harg5 : arg5.IsWhole)
  (arg6 : Memref sig .tc .vmem S4x1x512 .f32) (harg6 : arg6.IsWhole) (arg7 : Memref sig .tc .vmem S4x128x512 .f32) (harg7 : arg7.IsWhole)
  (x0 : Vec F S512x512 .bf16) (x1 : Vec F S3328x512 .bf16) (x2 : Vec F S512x3328 .bf16) (xs0 : Vec F S4x1x512 .f32) (xs1 : Vec F S4x128x512 .f32)

theorem runB_M (hc0 : ¬cond0_0 i) (hc1 : ¬cond0_1 i) :
    (kernelRun0_B c i arg2 harg2 arg3 harg3 arg4 harg4 arg5 harg5 arg6 harg6 arg7 harg7 hc0 hc1 x0 x1 x2 xs0 xs1).2.1
      = listM arg2 harg2 arg3 harg3 arg6 x0 x1 harg6 (some xs0) [] 52 := by
  rfl

theorem runB_A (hc0 : ¬cond0_0 i) (hc1 : ¬cond0_1 i) :
    (kernelRun0_B c i arg2 harg2 arg3 harg3 arg4 harg4 arg5 harg5 arg6 harg6 arg7 harg7 hc0 hc1 x0 x1 x2 xs0 xs1).2.2.1
      = listA arg2 harg2 arg3 harg3 arg4 harg4 arg6 arg7 x0 x1 x2 harg6 harg7 (some xs0) [] (some xs1) [] 52 := by
  rfl

theorem runC_M (hc0 : ¬cond0_0 i) (hc1 : cond0_1 i) :
    (kernelRun0_C c i arg2 harg2 arg3 harg3 arg4 harg4 arg5 harg5 arg6 harg6 arg7 harg7 hc0 hc1 x0 x1 x2 xs0 xs1).2.1
      = listM arg2 harg2 arg3 harg3 arg6 x0 x1 harg6 (some xs0) [] 52 := by
  rfl

theorem runC_A (hc0 : ¬cond0_0 i) (hc1 : cond0_1 i) :
    (kernelRun0_C c i arg2 harg2 arg3 harg3 arg4 harg4 arg5 harg5 arg6 harg6 arg7 harg7 hc0 hc1 x0 x1 x2 xs0 xs1).2.2.1
      = listA arg2 harg2 arg3 harg3 arg4 harg4 arg6 arg7 x0 x1 x2 harg6 harg7 (some xs0) [] (some xs1) [] 52 := by
  rfl

/-- The last point's store of the result: each head's sums, read after all the stores, over its row of counts. -/
theorem runC_O (hc0 : ¬cond0_0 i) (hc1 : cond0_1 i) :
    (kernelRun0_C c i arg2 harg2 arg3 harg3 arg4 harg4 arg5 harg5 arg6 harg6 arg7 harg7 hc0 hc1 x0 x1 x2 xs0 xs1).1
      = [⟨Rect.unit ![0, 0] S512x256.size inb_S512x256_S512x256_0_0, k0_pay2 (sums arg2 harg2 arg3 harg3 arg4 harg4 arg6 harg6 arg7 harg7 x0 x1 x2 xs0 xs1 0)
          (sums arg2 harg2 arg3 harg3 arg4 harg4 arg6 harg6 arg7 harg7 x0 x1 x2 xs0 xs1 1) (sums arg2 harg2 arg3 harg3 arg4 harg4 arg6 harg6 arg7 harg7 x0 x1 x2 xs0 xs1 2)
          (sums arg2 harg2 arg3 harg3 arg4 harg4 arg6 harg6 arg7 harg7 x0 x1 x2 xs0 xs1 3)⟩] := by
  rfl

theorem runA_M (hc0 : cond0_0 i) (hc1 : ¬cond0_1 i) :
    (kernelRun0_A c i arg2 harg2 arg3 harg3 arg4 harg4 arg5 harg5 arg6 harg6 arg7 harg7 hc0 hc1 x0 x1 x2).2.1
      = listM arg2 harg2 arg3 harg3 arg6 x0 x1 harg6 none startM 52 := by
  rfl

theorem runA_A (hc0 : cond0_0 i) (hc1 : ¬cond0_1 i) :
    (kernelRun0_A c i arg2 harg2 arg3 harg3 arg4 harg4 arg5 harg5 arg6 harg6 arg7 harg7 hc0 hc1 x0 x1 x2).2.2.1
      = listA arg2 harg2 arg3 harg3 arg4 harg4 arg6 arg7 x0 x1 x2 harg6 harg7 none startM none startA 52 := by
  rfl
end

end Cert.KernelIdeal.Items

end
-- ==== Proof.Online.lean ====
/- The arithmetic of the running softmax: a sum weighted by powers of two that is rescaled whenever
   its running shift grows is, at every stage, the weighted sum of what it has read; and the quotient
   of two such sums is the softmax average, whatever the shift. -/
module

public import Idealize.ShloMosaic.PureOps.Ideal

@[expose] public section

noncomputable section

namespace Cert.Online

open Idealize.ShloMosaic Finset

/-- The sum of the first `n` values, each weighted by two to the power of its score less the shift. -/
def seen (s : ℕ → ℝ) (v : ℕ → EReal) (n : ℕ) (m : EReal) : EReal :=
  ∑ i ∈ range n, v i * Ideal.exp2 ((s i : EReal) - m)

/-- A nonnegative real factor goes into a finite sum of extended reals. -/
theorem mul_sum_coe {ι : Type*} (a : ℝ) (ha : 0 ≤ a) (t : Finset ι) (f : ι → EReal) :
    (a : EReal) * ∑ i ∈ t, f i = ∑ i ∈ t, (a : EReal) * f i := by
  classical
  induction t using Finset.induction_on with
  | empty => simp
  | insert i t hi ih =>
    rw [sum_insert hi, sum_insert hi,
      EReal.left_distrib_of_nonneg_of_ne_top (by exact_mod_cast ha) (EReal.coe_ne_top a), ih]

theorem exp2_sub (a b : ℝ) : Ideal.exp2 ((a : EReal) - (b : EReal)) = ((Real.rpow 2 (a - b) : ℝ) : EReal) := by
  rw [← EReal.coe_sub, Ideal.exp2_coe]

theorem pow_pos' (a : ℝ) : 0 < Real.rpow 2 a := Real.rpow_pos_of_pos two_pos a

theorem pow_shift (a b c : ℝ) : Real.rpow 2 (b - c) * Real.rpow 2 (a - b) = Real.rpow 2 (a - c) := by
  show (2 : ℝ) ^ (b - c) * (2 : ℝ) ^ (a - b) = (2 : ℝ) ^ (a - c)
  rw [← Real.rpow_add two_pos]; congr 1; ring

/-- One stage: the sum is rescaled to the new shift, and the next `k` values are added. -/
theorem seen_step (s : ℕ → ℝ) (v : ℕ → EReal) (n k : ℕ) (m m' : EReal)
    (hm : n = 0 ∨ ∃ x : ℝ, m = x) (hm' : ∃ x : ℝ, m' = x) :
    Ideal.exp2 (m - m') * seen s v n m + ∑ j ∈ range k, v (n + j) * Ideal.exp2 ((s (n + j) : EReal) - m')
      = seen s v (n + k) m' := by
  obtain ⟨x', rfl⟩ := hm'
  unfold seen
  rw [sum_range_add]
  congr 1
  rcases hm with rfl | ⟨x, rfl⟩
  · simp
  · rw [exp2_sub, mul_sum_coe _ (pow_pos' _).le]
    refine sum_congr rfl fun i _ => ?_
    rw [exp2_sub, exp2_sub, mul_left_comm, ← EReal.coe_mul, pow_shift]

theorem coe_sum {ι : Type*} (t : Finset ι) (f : ι → ℝ) :
    ∑ i ∈ t, (f i : EReal) = ((∑ i ∈ t, f i : ℝ) : EReal) := by
  classical
  induction t using Finset.induction_on with
  | empty => simp
  | insert i t hi ih => rw [sum_insert hi, sum_insert hi, ih, EReal.coe_add]

theorem exp_sub (a b : ℝ) : Ideal.exp ((a : EReal) - (b : EReal)) = ((Real.exp (a - b) : ℝ) : EReal) := by
  rw [← EReal.coe_sub, Ideal.exp_coe]

/-- The quotient of the weighted sum of the values and the weighted count is the softmax average, the
    scores there being in units of the natural exponential. -/
theorem quotient (s : ℕ → ℝ) (v : ℕ → EReal) (N : ℕ) (hN : 0 < N) (x M : ℝ) :
    Ideal.div (seen s v N x) (seen s (fun _ => 1) N x)
      = ∑ i ∈ range N, Ideal.div (Ideal.exp (((s i * Real.log 2 : ℝ) : EReal) - M))
          (∑ k ∈ range N, Ideal.exp (((s k * Real.log 2 : ℝ) : EReal) - M)) * v i := by
  have hne : (range N).Nonempty := ⟨0, mem_range.2 hN⟩
  have hw : 0 < ∑ i ∈ range N, Real.rpow 2 (s i - x) := sum_pos (fun i _ => pow_pos' _) hne
  have hE : 0 < ∑ i ∈ range N, Real.exp (s i * Real.log 2 - M) := sum_pos (fun i _ => Real.exp_pos _) hne
  have hrel : ∀ i, Real.exp (s i * Real.log 2 - M) = Real.rpow 2 (s i - x) * Real.exp (x * Real.log 2 - M) := by
    intro i
    show _ = (2 : ℝ) ^ (s i - x) * _
    rw [Real.rpow_def_of_pos two_pos, ← Real.exp_add]; congr 1; ring
  unfold seen
  simp only [exp2_sub, exp_sub, one_mul, coe_sum]
  rw [Ideal.div_coe hw.ne', mul_comm, mul_sum_coe _ (by positivity)]
  refine sum_congr rfl fun i _ => ?_
  rw [Ideal.div_coe hE.ne', mul_left_comm, ← EReal.coe_mul, ← EReal.coe_mul, mul_comm (v i)]
  congr 2
  simp only [hrel, ← sum_mul]
  have h1 := hw.ne'
  have h2 := (Real.exp_pos (x * Real.log 2 - M)).ne'
  field_simp

end Cert.Online

end
-- ==== Proof.Point.lean ====
/- A grid point's fifty-two items over the extended reals: after each, every head's maximum is real and its sums are
   those of the keys seen so far against that maximum. -/
module

public import proofs.«01_k».proof.Proof.Items
public import proofs.«01_k».proof.Proof.Online
public import Idealize.ShloMosaic.Lib.Pointwise
public import Idealize.ShloMosaic.Lib.WritesUnit

@[expose] public section

set_option maxRecDepth 16384

noncomputable section

namespace Cert.KernelIdeal.Items

open Idealize.ShloMosaic Cert.KernelIdeal.Gen Cert.Online

/-! ## One item at an index -/

theorem newMax_apply (s : FVec Ideal S256x512 .f32) (ml : Vec Ideal S1x1x512 .f32) (r : Fin 512) :
    newMax s ml (ix2 0 r) = max (ml (ix3 0 0 r)) (Finset.univ.fold max (Ideal.ofBits .f32 0xFF800000#32) fun j : Fin 256 => s (ix2 j r)) := by
  pointwise [newMax]

theorem payM_apply (s : FVec Ideal S256x512 .f32) (ml : Vec Ideal S1x1x512 .f32) (r : Fin 512) :
    payM s ml (ix3 0 0 r) = newMax s ml (ix2 0 r) := by
  pointwise [payM]

theorem payA_apply (s : FVec Ideal S256x512 .f32) (ml : Vec Ideal S1x1x512 .f32) (al : Vec Ideal S1x80x512 .f32)
    (v : Vec Ideal S80x256 .bf16) (d : Fin 80) (r : Fin 512) :
    payA s ml al v (ix3 0 d r) = Ideal.exp2 (ml (ix3 0 0 r) - newMax s ml (ix2 0 r)) * al (ix3 0 d r)
      + ∑ j : Fin 256, v (ix2 d j) * Ideal.exp2 (s (ix2 j r) - newMax s ml (ix2 0 r)) := by
  pointwise [payA, rescale, weights]
  rfl

theorem score_apply (k : Vec Ideal S256x128 .bf16) (q : Vec Ideal S512x128 .bf16) (j : Fin 256) (r : Fin 512) :
    score k q (ix2 j r) = ∑ l : Fin 128, k (ix2 j l) * q (ix2 r l) := by
  pointwise [score]

theorem neg_inf : Ideal.ofBits .f32 0xFF800000#32 = ⊥ := by
  simp [Ideal.ofBits, Ideal.ieee]

/-- The largest of some reals, or of `m` and them, is real, where `m` is real or below every real. -/
theorem newMax_real (s : FVec Ideal S256x512 .f32) (ml : Vec Ideal S1x1x512 .f32) (r : Fin 512)
    (hs : ∀ j : Fin 256, ∃ x : ℝ, s (ix2 j r) = (x : EReal)) (hm : ml (ix3 0 0 r) = ⊥ ∨ ∃ x : ℝ, ml (ix3 0 0 r) = (x : EReal)) :
    ∃ x : ℝ, newMax s ml (ix2 0 r) = (x : EReal) := by
  rw [newMax_apply]
  have hb : Ideal.ofBits .f32 0xFF800000#32 = ⊥ := neg_inf
  rw [hb]
  refine ⟨EReal.toReal _, (EReal.coe_toReal ?_ ?_).symm⟩
  · have h1 : ml (ix3 0 0 r) < ⊤ := by
      rcases hm with h | ⟨x, h⟩ <;> rw [h]
      · exact bot_lt_top
      · exact EReal.coe_lt_top x
    have h2 : Finset.univ.fold max ⊥ (fun j : Fin 256 => s (ix2 j r)) < ⊤ := by
      rw [Finset.fold_max_lt]
      exact ⟨bot_lt_top, fun j _ => by obtain ⟨x, h⟩ := hs j; rw [h]; exact EReal.coe_lt_top x⟩
    exact (max_lt h1 h2).ne
  · have h2 : ⊥ < Finset.univ.fold max ⊥ (fun j : Fin 256 => s (ix2 j r)) := by
      rw [Finset.lt_fold_max]
      obtain ⟨x, h⟩ := hs 0
      exact Or.inr ⟨0, Finset.mem_univ _, by rw [h]; exact EReal.bot_lt_coe x⟩
    exact (lt_of_lt_of_le h2 (le_max_right _ _)).ne'

section
variable (arg2 : Memref sig .tc .vmem S512x512 .bf16) (harg2 : arg2.IsWhole) (arg3 : Memref sig .tc .vmem S3328x512 .bf16) (harg3 : arg3.IsWhole)
  (arg4 : Memref sig .tc .vmem S512x3328 .bf16) (harg4 : arg4.IsWhole)
  (arg6 : Memref sig .tc .vmem S4x1x512 .f32) (harg6 : arg6.IsWhole) (arg7 : Memref sig .tc .vmem S4x128x512 .f32) (harg7 : arg7.IsWhole)
  (x0 : Vec Ideal S512x512 .bf16) (x1 : Vec Ideal S3328x512 .bf16) (x2 : Vec Ideal S512x3328 .bf16)

theorem key_lt (n : ℕ) (j : Fin 256) : 256 * (n / 4 % 13) + j.val < 3328 := by omega
theorem lane_lt {d : ℕ} (n : ℕ) (hd : d ≤ 128) (l : Fin d) : 128 * (n % 4) + l.val < 512 := by omega

theorem sc_apply (n : ℕ) (j : Fin 256) (r : Fin 512) :
    sc arg2 harg2 arg3 harg3 x0 x1 n (ix2 j r)
      = ∑ l : Fin 128, x1 (ix2 ⟨256 * (n / 4 % 13) + j, key_lt n j⟩ ⟨128 * (n % 4) + l, lane_lt n (by decide) l⟩) * x0 (ix2 r ⟨128 * (n % 4) + l, lane_lt n (by decide) l⟩) := by
  rw [sc, score_apply]
  refine Finset.sum_congr rfl fun l _ => ?_
  rw [View.readAt_apply, View.readAt_apply, harg2.read_unread, harg3.read_unread]
  congr 2 <;> exact funext fun a => Fin.ext (by fin_cases a <;> simp [LoadRect.idx])

theorem vl_apply (n : ℕ) (d : Fin 80) (j : Fin 256) :
    vl arg4 harg4 x2 n (ix2 d j) = x2 (ix2 ⟨128 * (n % 4) + d, lane_lt n (by decide) d⟩ ⟨256 * (n / 4 % 13) + j, key_lt n j⟩) := by
  rw [vl, View.readAt_apply, harg4.read_unread]
  congr 1; exact funext fun a => Fin.ext (by fin_cases a <;> simp [LoadRect.idx])

/-! ## The stores read back -/

variable (f0 : Option (Vec Ideal S4x1x512 .f32)) (B : List (View.Piece (Elt Ideal) S4x1x512 .f32))
  (f1 : Option (Vec Ideal S4x128x512 .f32)) (B1 : List (View.Piece (Elt Ideal) S4x128x512 .f32))
  (g6 : arg6.view.ty.Contents (Elt Ideal)) (g7 : arg7.view.ty.Contents (Elt Ideal))

/-- The running maxima after `n` items, over `g6`. -/
def curM (n : ℕ) (h : Fin 4) (r : Fin 512) : EReal :=
  arg6.view.read (Elt Ideal) (arg6.view.writes (Elt Ideal) g6 (listM arg2 harg2 arg3 harg3 arg6 x0 x1 harg6 f0 B n)) (ix3 h 0 r)

/-- The weighted sums after `n` items, over `g7`. -/
def curA (n : ℕ) (h : Fin 4) (d : Fin 128) (r : Fin 512) : EReal :=
  arg7.view.read (Elt Ideal) (arg7.view.writes (Elt Ideal) g7
    (listA arg2 harg2 arg3 harg3 arg4 harg4 arg6 arg7 x0 x1 x2 harg6 harg7 f0 B f1 B1 n)) (ix3 h d r)

theorem listM_succ (n : ℕ) : listM arg2 harg2 arg3 harg3 arg6 x0 x1 harg6 f0 B (n + 1)
    = ⟨rm n, payM (sc arg2 harg2 arg3 harg3 x0 x1 n) (ldM arg6 f0 harg6 n (listM arg2 harg2 arg3 harg3 arg6 x0 x1 harg6 f0 B n))⟩
        :: listM arg2 harg2 arg3 harg3 arg6 x0 x1 harg6 f0 B n := rfl

theorem listA_succ (n : ℕ) : listA arg2 harg2 arg3 harg3 arg4 harg4 arg6 arg7 x0 x1 x2 harg6 harg7 f0 B f1 B1 (n + 1)
    = ⟨ra n, payA (sc arg2 harg2 arg3 harg3 x0 x1 n) (ldM arg6 f0 harg6 n (listM arg2 harg2 arg3 harg3 arg6 x0 x1 harg6 f0 B n))
        (ldA arg7 f1 harg7 n (listA arg2 harg2 arg3 harg3 arg4 harg4 arg6 arg7 x0 x1 x2 harg6 harg7 f0 B f1 B1 n)) (vl arg4 harg4 x2 n)⟩
        :: listA arg2 harg2 arg3 harg3 arg4 harg4 arg6 arg7 x0 x1 x2 harg6 harg7 f0 B f1 B1 n := rfl

theorem at_m (n : ℕ) (h : Fin 4) (r : Fin 512) (e : n % 4 = h.val) (a : Fin 3) :
    ((ix3 h (0 : Fin 1) r : S4x1x512.Idx) a).val = (![n % 4, 0, 0] : Fin 3 → ℕ) a + ((ix3 (0 : Fin 1) (0 : Fin 1) r : S1x1x512.Idx) a).val := by
  fin_cases a <;> simp [e]

theorem at_a (n : ℕ) (h : Fin 4) (d : Fin 80) (r : Fin 512) (e : n % 4 = h.val) (a : Fin 3) :
    ((ix3 h (d.castLE (show 80 ≤ 128 by decide)) r : S4x128x512.Idx) a).val = (![n % 4, 0, 0] : Fin 3 → ℕ) a + ((ix3 (0 : Fin 1) d r : S1x80x512.Idx) a).val := by
  fin_cases a <;> simp [e]

theorem curM_hit (n : ℕ) (h : Fin 4) (r : Fin 512) (e : n % 4 = h.val) :
    curM arg2 harg2 arg3 harg3 arg6 harg6 x0 x1 f0 B g6 (n + 1) h r
      = payM (sc arg2 harg2 arg3 harg3 x0 x1 n) (ldM arg6 f0 harg6 n (listM arg2 harg2 arg3 harg3 arg6 x0 x1 harg6 f0 B n)) (ix3 0 0 r) := by
  rw [curM, listM_succ]
  exact View.read_writes_cons_unit_of_mem arg6.view g6 (inb_m n) _ _ (ix3 h 0 r) (ix3 0 0 r) rfl (at_m n h r e)

theorem curM_miss (n : ℕ) (h : Fin 4) (r : Fin 512) (e : n % 4 ≠ h.val) :
    curM arg2 harg2 arg3 harg3 arg6 harg6 x0 x1 f0 B g6 (n + 1) h r = curM arg2 harg2 arg3 harg3 arg6 harg6 x0 x1 f0 B g6 n h r := by
  rw [curM, listM_succ]
  exact View.read_writes_cons_unit_of_not_mem arg6.view g6 (inb_m n) _ _ (ix3 h 0 r) rfl (0 : Fin 3) (by
    show h.val < n % 4 ∨ n % 4 + 1 ≤ h.val
    omega)

theorem curA_hit (n : ℕ) (h : Fin 4) (d : Fin 80) (r : Fin 512) (e : n % 4 = h.val) :
    curA arg2 harg2 arg3 harg3 arg4 harg4 arg6 harg6 arg7 harg7 x0 x1 x2 f0 B f1 B1 g7 (n + 1) h (d.castLE (by decide)) r
      = payA (sc arg2 harg2 arg3 harg3 x0 x1 n) (ldM arg6 f0 harg6 n (listM arg2 harg2 arg3 harg3 arg6 x0 x1 harg6 f0 B n))
          (ldA arg7 f1 harg7 n (listA arg2 harg2 arg3 harg3 arg4 harg4 arg6 arg7 x0 x1 x2 harg6 harg7 f0 B f1 B1 n)) (vl arg4 harg4 x2 n) (ix3 0 d r) := by
  rw [curA, listA_succ]
  exact View.read_writes_cons_unit_of_mem arg7.view g7 (inb_a n) _ _ (ix3 h (d.castLE (by decide)) r) (ix3 0 d r) rfl (at_a n h d r e)

theorem curA_miss (n : ℕ) (h : Fin 4) (d : Fin 128) (r : Fin 512) (e : n % 4 ≠ h.val) :
    curA arg2 harg2 arg3 harg3 arg4 harg4 arg6 harg6 arg7 harg7 x0 x1 x2 f0 B f1 B1 g7 (n + 1) h d r
      = curA arg2 harg2 arg3 harg3 arg4 harg4 arg6 harg6 arg7 harg7 x0 x1 x2 f0 B f1 B1 g7 n h d r := by
  rw [curA, listA_succ]
  exact View.read_writes_cons_unit_of_not_mem arg7.view g7 (inb_a n) _ _ (ix3 h d r) rfl (0 : Fin 3) (by
    show h.val < n % 4 ∨ n % 4 + 1 ≤ h.val
    omega)

/-- How many chunks head `h` has taken after `n` items. -/
def taken (n : ℕ) (h : Fin 4) : ℕ := (n + 3 - h.val) / 4

/-- What is so after `n` items, of a point whose keys begin at number `o`: each head's sums are those of the keys before
    number `o + 256 · taken`, against its maximum, which is real once there are any. -/
def Inv (s : Fin 4 → Fin 512 → ℕ → ℝ) (v : Fin 4 → Fin 80 → ℕ → EReal) (N : Fin 4 → ℕ) (M : Fin 4 → Fin 512 → EReal)
    (A : Fin 4 → Fin 128 → Fin 512 → EReal) : Prop :=
  ∀ h r, (N h = 0 ∧ M h r = ⊥ ∨ ∃ x : ℝ, M h r = (x : EReal)) ∧
    ∀ d : Fin 80, A h (d.castLE (by decide)) r = seen (s h r) (v h d) (N h) (M h r)

theorem inv_point (s : Fin 4 → Fin 512 → ℕ → ℝ) (v : Fin 4 → Fin 80 → ℕ → EReal) (o : ℕ)
    (hM : ∀ n < 52, ∀ h : Fin 4, n % 4 = h.val → ∀ r, ldM arg6 f0 harg6 n (listM arg2 harg2 arg3 harg3 arg6 x0 x1 harg6 f0 B n) (ix3 0 0 r)
      = curM arg2 harg2 arg3 harg3 arg6 harg6 x0 x1 f0 B g6 n h r)
    (hA : ∀ n < 52, ∀ h : Fin 4, n % 4 = h.val → ∀ (d : Fin 80) r,
      ldA arg7 f1 harg7 n (listA arg2 harg2 arg3 harg3 arg4 harg4 arg6 arg7 x0 x1 x2 harg6 harg7 f0 B f1 B1 n) (ix3 0 d r)
        = curA arg2 harg2 arg3 harg3 arg4 harg4 arg6 harg6 arg7 harg7 x0 x1 x2 f0 B f1 B1 g7 n h (d.castLE (by decide)) r)
    (hs : ∀ n < 52, ∀ h : Fin 4, n % 4 = h.val → ∀ (j : Fin 256) r, sc arg2 harg2 arg3 harg3 x0 x1 n (ix2 j r) = ((s h r (o + 256 * (n / 4) + j) : ℝ) : EReal))
    (hv : ∀ n < 52, ∀ h : Fin 4, n % 4 = h.val → ∀ (d : Fin 80) (j : Fin 256), vl arg4 harg4 x2 n (ix2 d j) = v h d (o + 256 * (n / 4) + j))
    (h0 : Inv s v (fun _ => o) (curM arg2 harg2 arg3 harg3 arg6 harg6 x0 x1 f0 B g6 0)
      (curA arg2 harg2 arg3 harg3 arg4 harg4 arg6 harg6 arg7 harg7 x0 x1 x2 f0 B f1 B1 g7 0)) (n : ℕ) (hn : n ≤ 52) :
    Inv s v (fun h => o + 256 * taken n h) (curM arg2 harg2 arg3 harg3 arg6 harg6 x0 x1 f0 B g6 n)
      (curA arg2 harg2 arg3 harg3 arg4 harg4 arg6 harg6 arg7 harg7 x0 x1 x2 f0 B f1 B1 g7 n) := by
  induction n with
  | zero =>
    have e : (fun h => o + 256 * taken 0 h) = fun _ => o := funext fun h => by rw [show taken 0 h = 0 by unfold taken; omega]; rfl
    rw [e]; exact h0
  | succ n ih =>
    have ih := ih (by omega)
    have hn' : n < 52 := by omega
    intro h r
    by_cases e : n % 4 = h.val
    · have et : taken n h = n / 4 := by unfold taken; omega
      have et' : taken (n + 1) h = n / 4 + 1 := by unfold taken; omega
      obtain ⟨i1, i2⟩ := ih h r
      beta_reduce at i1 i2 ⊢
      rw [et] at i1 i2
      have hreal := newMax_real (sc arg2 harg2 arg3 harg3 x0 x1 n) (ldM arg6 f0 harg6 n (listM arg2 harg2 arg3 harg3 arg6 x0 x1 harg6 f0 B n)) r
        (fun j => ⟨_, hs n hn' h e j r⟩) (by
          rw [hM n hn' h e r]
          rcases i1 with i | i
          · exact .inl i.2
          · exact .inr i)
      have hm' : curM arg2 harg2 arg3 harg3 arg6 harg6 x0 x1 f0 B g6 (n + 1) h r
          = newMax (sc arg2 harg2 arg3 harg3 x0 x1 n) (ldM arg6 f0 harg6 n (listM arg2 harg2 arg3 harg3 arg6 x0 x1 harg6 f0 B n)) (ix2 0 r) := by
        rw [curM_hit _ _ _ _ _ _ _ _ _ _ _ _ _ _ e, payM_apply]
      refine ⟨.inr (by rw [hm']; exact hreal), fun d => ?_⟩
      rw [curA_hit _ _ _ _ _ _ _ _ _ _ _ _ _ _ _ _ _ _ _ _ _ _ e, payA_apply, ← hm', hM n hn' h e r, hA n hn' h e d r, i2 d, et',
        show o + 256 * (n / 4 + 1) = (o + 256 * (n / 4)) + 256 by omega,
        ← seen_step (s h r) (v h d) (o + 256 * (n / 4)) 256 _ _ (i1.imp And.left id) (by rw [hm']; exact hreal), Finset.sum_range]
      congr 1
      exact Finset.sum_congr rfl fun j _ => by rw [hs n hn' h e j r, hv n hn' h e d j]
    · have et : taken (n + 1) h = taken n h := by unfold taken; omega
      obtain ⟨i1, i2⟩ := ih h r
      beta_reduce at i1 i2 ⊢
      refine ⟨?_, fun d => ?_⟩
      · rw [et, curM_miss _ _ _ _ _ _ _ _ _ _ _ _ _ _ e]; exact i1
      · rw [et, curM_miss _ _ _ _ _ _ _ _ _ _ _ _ _ _ e, curA_miss _ _ _ _ _ _ _ _ _ _ _ _ _ _ _ _ _ _ _ _ _ _ e]; exact i2 d

end

end Cert.KernelIdeal.Items

end
-- ==== Proof.Fold.lean ====
/- The three kinds of grid point as one step of the running softmax: what a point carries on is what it found, with its
   3328 keys taken in, and the last point of a run stores the quotients. -/
module

public import proofs.«01_k».proof.Proof.Point

@[expose] public section

set_option maxRecDepth 16384

noncomputable section

namespace Cert.KernelIdeal.Items

open Idealize.ShloMosaic Cert.KernelIdeal.Gen Cert.Online

section
variable (arg2 : Memref sig .tc .vmem S512x512 .bf16) (harg2 : arg2.IsWhole) (arg3 : Memref sig .tc .vmem S3328x512 .bf16) (harg3 : arg3.IsWhole)
  (arg4 : Memref sig .tc .vmem S512x3328 .bf16) (harg4 : arg4.IsWhole)
  (arg6 : Memref sig .tc .vmem S4x1x512 .f32) (harg6 : arg6.IsWhole) (arg7 : Memref sig .tc .vmem S4x128x512 .f32) (harg7 : arg7.IsWhole)
  (x0 : Vec Ideal S512x512 .bf16) (x1 : Vec Ideal S3328x512 .bf16) (x2 : Vec Ideal S512x3328 .bf16)
  (f0 : Option (Vec Ideal S4x1x512 .f32)) (B : List (View.Piece (Elt Ideal) S4x1x512 .f32))
  (f1 : Option (Vec Ideal S4x128x512 .f32)) (B1 : List (View.Piece (Elt Ideal) S4x128x512 .f32))
  (xs0 : Vec Ideal S4x1x512 .f32) (xs1 : Vec Ideal S4x128x512 .f32)

/-! ## Items load what is there -/

theorem mem_listM (n k : ℕ) (hk : k < n) : ∃ p ∈ listM arg2 harg2 arg3 harg3 arg6 x0 x1 harg6 f0 B n, p.1 = rm k := by
  induction n with
  | zero => omega
  | succ n ih =>
    rw [listM_succ]
    rcases Nat.lt_succ_iff_lt_or_eq.mp hk with h | h
    · obtain ⟨p, hp, e⟩ := ih h
      exact ⟨p, List.mem_cons_of_mem _ hp, e⟩
    · subst h
      exact ⟨_, List.mem_cons_self, rfl⟩

theorem mem_listA (n k : ℕ) (hk : k < n) :
    ∃ p ∈ listA arg2 harg2 arg3 harg3 arg4 harg4 arg6 arg7 x0 x1 x2 harg6 harg7 f0 B f1 B1 n, p.1 = ra k := by
  induction n with
  | zero => omega
  | succ n ih =>
    rw [listA_succ]
    rcases Nat.lt_succ_iff_lt_or_eq.mp hk with h | h
    · obtain ⟨p, hp, e⟩ := ih h
      exact ⟨p, List.mem_cons_of_mem _ hp, e⟩
    · subst h
      exact ⟨_, List.mem_cons_self, rfl⟩

theorem idx_m (n : ℕ) (h : Fin 4) (r : Fin 512) (e : n % 4 = h.val) :
    (rm n).toLoadRect.idx (ix3 (0 : Fin 1) (0 : Fin 1) r) = ix3 h 0 r :=
  funext fun a => Fin.ext (by fin_cases a <;> simp [LoadRect.idx, e])

theorem idx_a (n : ℕ) (h : Fin 4) (d : Fin 80) (r : Fin 512) (e : n % 4 = h.val) :
    (ra n).toLoadRect.idx (ix3 (0 : Fin 1) d r) = ix3 h (d.castLE (by decide)) r :=
  funext fun a => Fin.ext (by fin_cases a <;> simp [LoadRect.idx, e])

theorem mem_rm (k : ℕ) (h : Fin 4) (r : Fin 512) (e : k % 4 = h.val) : (ix3 h 0 r : S4x1x512.Idx) ∈ (rm k).set := by
  rw [Rect.mem_set_unit]
  intro a; fin_cases a <;> simp [e]

theorem mem_ra (k : ℕ) (h : Fin 4) (d : Fin 80) (r : Fin 512) (e : k % 4 = h.val) :
    (ix3 h (d.castLE (by decide)) r : S4x128x512.Idx) ∈ (ra k).set := by
  rw [Rect.mem_set_unit]
  intro a; fin_cases a <;> simp [e]

theorem canonM (g : arg6.view.ty.Contents (Elt Ideal)) (n : ℕ) (h : Fin 4) (r : Fin 512) (hn : h.val < n) :
    curM arg2 harg2 arg3 harg3 arg6 harg6 x0 x1 f0 B g n h r
      = View.canon (listM arg2 harg2 arg3 harg3 arg6 x0 x1 harg6 f0 B n) (ix3 h 0 r) := by
  refine View.read_writes_apply_eq_canon _ _ _ _ ?_
  obtain ⟨p, hp, e⟩ := mem_listM arg2 harg2 arg3 harg3 arg6 harg6 x0 x1 f0 B n h hn
  exact ⟨p, hp, e ▸ mem_rm h h r (Nat.mod_eq_of_lt h.isLt)⟩

theorem canonA (g : arg7.view.ty.Contents (Elt Ideal)) (n : ℕ) (h : Fin 4) (d : Fin 80) (r : Fin 512) (hn : h.val < n) :
    curA arg2 harg2 arg3 harg3 arg4 harg4 arg6 harg6 arg7 harg7 x0 x1 x2 f0 B f1 B1 g n h (d.castLE (by decide)) r
      = View.canon (listA arg2 harg2 arg3 harg3 arg4 harg4 arg6 arg7 x0 x1 x2 harg6 harg7 f0 B f1 B1 n) (ix3 h (d.castLE (by decide)) r) := by
  refine View.read_writes_apply_eq_canon _ _ _ _ ?_
  obtain ⟨p, hp, e⟩ := mem_listA arg2 harg2 arg3 harg3 arg4 harg4 arg6 harg6 arg7 harg7 x0 x1 x2 f0 B f1 B1 n h hn
  exact ⟨p, hp, e ▸ mem_ra h h d r (Nat.mod_eq_of_lt h.isLt)⟩

theorem startM_carried (h : Fin 4) (r : Fin 512) :
    curM arg2 harg2 arg3 harg3 arg6 harg6 x0 x1 f0 [] (harg6.unread xs0) 0 h r = xs0 (ix3 h 0 r) :=
  congrFun (harg6.read_unread xs0) _

theorem startA_carried (h : Fin 4) (d : Fin 128) (r : Fin 512) :
    curA arg2 harg2 arg3 harg3 arg4 harg4 arg6 harg6 arg7 harg7 x0 x1 x2 f0 B f1 [] (harg7.unread xs1) 0 h d r = xs1 (ix3 h d r) :=
  congrFun (harg7.read_unread xs1) _

theorem loadM_carried (n : ℕ) (h : Fin 4) (e : n % 4 = h.val) (r : Fin 512) :
    ldM arg6 (some xs0) harg6 n (listM arg2 harg2 arg3 harg3 arg6 x0 x1 harg6 (some xs0) [] n) (ix3 0 0 r)
      = curM arg2 harg2 arg3 harg3 arg6 harg6 x0 x1 (some xs0) [] (harg6.unread xs0) n h r := by
  show (if n < 4 then _ else _ : Vec Ideal S1x1x512 .f32) _ = _
  by_cases hn : n < 4
  · have key : ∀ m ≤ n, curM arg2 harg2 arg3 harg3 arg6 harg6 x0 x1 (some xs0) [] (harg6.unread xs0) m h r
        = curM arg2 harg2 arg3 harg3 arg6 harg6 x0 x1 (some xs0) [] (harg6.unread xs0) 0 h r := by
      intro m
      induction m with
      | zero => exact fun _ => rfl
      | succ m ih => exact fun hm => (curM_miss _ _ _ _ _ _ _ _ _ _ _ _ _ _ (by omega)).trans (ih (by omega))
    rw [key n le_rfl, startM_carried, if_pos hn, View.readAt_apply, harg6.read_unread]
    exact congrArg xs0 (idx_m n h r e)
  · rw [canonM _ _ _ _ _ _ _ _ _ _ _ _ _ _ (by omega), if_neg hn, View.readCov_eq_canon']
    exact congrArg (View.canon _) (idx_m n h r e)

theorem loadA_carried (n : ℕ) (h : Fin 4) (e : n % 4 = h.val) (d : Fin 80) (r : Fin 512) :
    ldA arg7 (some xs1) harg7 n (listA arg2 harg2 arg3 harg3 arg4 harg4 arg6 arg7 x0 x1 x2 harg6 harg7 f0 B (some xs1) [] n) (ix3 0 d r)
      = curA arg2 harg2 arg3 harg3 arg4 harg4 arg6 harg6 arg7 harg7 x0 x1 x2 f0 B (some xs1) [] (harg7.unread xs1) n h (d.castLE (by decide)) r := by
  show (if n < 4 then _ else _ : Vec Ideal S1x80x512 .f32) _ = _
  by_cases hn : n < 4
  · have key : ∀ m ≤ n, curA arg2 harg2 arg3 harg3 arg4 harg4 arg6 harg6 arg7 harg7 x0 x1 x2 f0 B (some xs1) [] (harg7.unread xs1) m h (d.castLE (by decide)) r
        = curA arg2 harg2 arg3 harg3 arg4 harg4 arg6 harg6 arg7 harg7 x0 x1 x2 f0 B (some xs1) [] (harg7.unread xs1) 0 h (d.castLE (by decide)) r := by
      intro m
      induction m with
      | zero => exact fun _ => rfl
      | succ m ih => exact fun hm => (curA_miss _ _ _ _ _ _ _ _ _ _ _ _ _ _ _ _ _ _ _ _ _ _ (by omega)).trans (ih (by omega))
    rw [key n le_rfl, startA_carried, if_pos hn, View.readAt_apply, harg7.read_unread]
    exact congrArg xs1 (idx_a n h d r e)
  · rw [canonA _ _ _ _ _ _ _ _ _ _ _ _ _ _ _ _ _ _ _ _ _ _ (by omega), if_neg hn, View.readCov_eq_canon']
    exact congrArg (View.canon _) (idx_a n h d r e)

theorem loadM_fresh (n : ℕ) (h : Fin 4) (e : n % 4 = h.val) (r : Fin 512) :
    ldM arg6 none harg6 n (listM arg2 harg2 arg3 harg3 arg6 x0 x1 harg6 none B n) (ix3 0 0 r)
      = curM arg2 harg2 arg3 harg3 arg6 harg6 x0 x1 none B arg6.view.junk n h r := by
  rw [curM, View.read_writes_junk_apply_eq_canon]
  show arg6.view.readCov _ _ _ = _
  rw [View.readCov_eq_canon']
  exact congrArg (View.canon _) (idx_m n h r e)

theorem loadA_fresh (n : ℕ) (h : Fin 4) (e : n % 4 = h.val) (d : Fin 80) (r : Fin 512) :
    ldA arg7 none harg7 n (listA arg2 harg2 arg3 harg3 arg4 harg4 arg6 arg7 x0 x1 x2 harg6 harg7 f0 B none B1 n) (ix3 0 d r)
      = curA arg2 harg2 arg3 harg3 arg4 harg4 arg6 harg6 arg7 harg7 x0 x1 x2 f0 B none B1 arg7.view.junk n h (d.castLE (by decide)) r := by
  rw [curA, View.read_writes_junk_apply_eq_canon]
  show arg7.view.readCov _ _ _ = _
  rw [View.readCov_eq_canon']
  exact congrArg (View.canon _) (idx_a n h d r e)

theorem startM_fresh (h : Fin 4) (r : Fin 512) :
    curM arg2 harg2 arg3 harg3 arg6 harg6 x0 x1 none startM arg6.view.junk 0 h r = ⊥ := by
  rw [curM, View.read_writes_junk_apply_eq_canon]
  show View.canon startM _ = _
  rw [startM, View.canon_unit_zero (funext fun a => by fin_cases a <;> rfl)]
  pointwise [k0_pay3]
  exact neg_inf

theorem startA_fresh (h : Fin 4) (d : Fin 128) (r : Fin 512) :
    curA arg2 harg2 arg3 harg3 arg4 harg4 arg6 harg6 arg7 harg7 x0 x1 x2 f0 B none startA arg7.view.junk 0 h d r = 0 := by
  rw [curA, View.read_writes_junk_apply_eq_canon]
  show View.canon startA _ = _
  rw [startA, View.canon_unit_zero (funext fun a => by fin_cases a <;> rfl)]
  pointwise [k0_pay4]

/-! ## A point -/

/-- What a point's blocks hold: `s` the scores of its keys, from key `o` on, and `v` their rows of values. -/
def Blocks (x0 : Vec Ideal S512x512 .bf16) (x1 : Vec Ideal S3328x512 .bf16) (x2 : Vec Ideal S512x3328 .bf16)
    (s : Fin 4 → Fin 512 → ℕ → ℝ) (v : Fin 4 → Fin 80 → ℕ → EReal) (o : ℕ) : Prop :=
  (∀ (h : Fin 4) (r : Fin 512) (k : Fin 3328),
    ∑ l : Fin 128, x1 (ix2 k ⟨128 * h + l, by omega⟩) * x0 (ix2 r ⟨128 * h + l, by omega⟩) = ((s h r (o + k) : ℝ) : EReal)) ∧
  ∀ (h : Fin 4) (d : Fin 80) (k : Fin 3328), x2 (ix2 ⟨128 * h + d, by omega⟩ k) = v h d (o + k)

/-- What the scratch buffers hold once `N` keys are in. -/
def St (s : Fin 4 → Fin 512 → ℕ → ℝ) (v : Fin 4 → Fin 80 → ℕ → EReal) (N : ℕ) (xs0 : Vec Ideal S4x1x512 .f32) (xs1 : Vec Ideal S4x128x512 .f32) : Prop :=
  Inv s v (fun _ => N) (fun h r => xs0 (ix3 h 0 r)) fun h d r => xs1 (ix3 h d r)

theorem sc_of_blocks {s : Fin 4 → Fin 512 → ℕ → ℝ} {v : Fin 4 → Fin 80 → ℕ → EReal} {o : ℕ} (hb : Blocks x0 x1 x2 s v o) (n : ℕ) (hn : n < 52)
    (h : Fin 4) (e : n % 4 = h.val) (j : Fin 256) (r : Fin 512) :
    sc arg2 harg2 arg3 harg3 x0 x1 n (ix2 j r) = ((s h r (o + 256 * (n / 4) + j) : ℝ) : EReal) := by
  have e4 : n / 4 % 13 = n / 4 := Nat.mod_eq_of_lt (by omega)
  have := hb.1 h r ⟨256 * (n / 4) + j, by omega⟩
  simp only [← Nat.add_assoc] at this
  rw [sc_apply, ← this]
  simp only [e4, e]

theorem vl_of_blocks {s : Fin 4 → Fin 512 → ℕ → ℝ} {v : Fin 4 → Fin 80 → ℕ → EReal} {o : ℕ} (hb : Blocks x0 x1 x2 s v o) (n : ℕ) (hn : n < 52)
    (h : Fin 4) (e : n % 4 = h.val) (d : Fin 80) (j : Fin 256) :
    vl arg4 harg4 x2 n (ix2 d j) = v h d (o + 256 * (n / 4) + j) := by
  have e4 : n / 4 % 13 = n / 4 := Nat.mod_eq_of_lt (by omega)
  have := hb.2 h d ⟨256 * (n / 4) + j, by omega⟩
  simp only [← Nat.add_assoc] at this
  rw [vl_apply, ← this]
  simp only [e4, e]

theorem taken_all (o : ℕ) : (fun h => o + 256 * taken 52 h) = fun _ => o + 3328 :=
  funext fun h => by rw [show taken 52 h = 13 by unfold taken; omega]

theorem carried {s : Fin 4 → Fin 512 → ℕ → ℝ} {v : Fin 4 → Fin 80 → ℕ → EReal} {o : ℕ} (hb : Blocks x0 x1 x2 s v o) (hst : St s v o xs0 xs1) :
    Inv s v (fun _ => o + 3328) (curM arg2 harg2 arg3 harg3 arg6 harg6 x0 x1 (some xs0) [] (harg6.unread xs0) 52)
      (curA arg2 harg2 arg3 harg3 arg4 harg4 arg6 harg6 arg7 harg7 x0 x1 x2 (some xs0) [] (some xs1) [] (harg7.unread xs1) 52) := by
  rw [← taken_all o]
  refine inv_point arg2 harg2 arg3 harg3 arg4 harg4 arg6 harg6 arg7 harg7 x0 x1 x2 _ _ _ _ _ _ s v o
    (fun n _ h e r => loadM_carried _ _ _ _ _ _ _ _ _ n h e r) (fun n _ h e d r => loadA_carried _ _ _ _ _ _ _ _ _ _ _ _ _ _ _ _ n h e d r)
    (fun n hn h e j r => sc_of_blocks _ _ _ _ _ _ x2 hb n hn h e j r) (fun n hn h e d j => vl_of_blocks _ _ x0 x1 _ hb n hn h e d j) (fun h r => ?_) 52 le_rfl
  rw [startM_carried]
  refine ⟨(hst h r).1, fun d => ?_⟩
  rw [startA_carried]
  exact (hst h r).2 d

theorem fresh {s : Fin 4 → Fin 512 → ℕ → ℝ} {v : Fin 4 → Fin 80 → ℕ → EReal} (hb : Blocks x0 x1 x2 s v 0) :
    Inv s v (fun _ => 0 + 3328) (curM arg2 harg2 arg3 harg3 arg6 harg6 x0 x1 none startM arg6.view.junk 52)
      (curA arg2 harg2 arg3 harg3 arg4 harg4 arg6 harg6 arg7 harg7 x0 x1 x2 none startM none startA arg7.view.junk 52) := by
  rw [← taken_all 0]
  refine inv_point arg2 harg2 arg3 harg3 arg4 harg4 arg6 harg6 arg7 harg7 x0 x1 x2 _ _ _ _ _ _ s v 0
    (fun n _ h e r => loadM_fresh _ _ _ _ _ _ _ _ _ n h e r) (fun n _ h e d r => loadA_fresh _ _ _ _ _ _ _ _ _ _ _ _ _ _ _ _ n h e d r)
    (fun n hn h e j r => sc_of_blocks _ _ _ _ _ _ x2 hb n hn h e j r) (fun n hn h e d j => vl_of_blocks _ _ x0 x1 _ hb n hn h e d j) (fun h r => ?_) 52 le_rfl
  rw [startM_fresh]
  refine ⟨.inl ⟨rfl, rfl⟩, fun d => ?_⟩
  rw [startA_fresh, seen]
  simp

end

section
variable (c : Dev nD) (i : grid0.Coords) (arg2 : Memref sig .tc .vmem S512x512 .bf16) (harg2 : arg2.IsWhole) (arg3 : Memref sig .tc .vmem S3328x512 .bf16) (harg3 : arg3.IsWhole)
  (arg4 : Memref sig .tc .vmem S512x3328 .bf16) (harg4 : arg4.IsWhole) (arg5 : Memref sig .tc .vmem S512x256 .bf16) (harg5 : arg5.IsWhole)
  (arg6 : Memref sig .tc .vmem S4x1x512 .f32) (harg6 : arg6.IsWhole) (arg7 : Memref sig .tc .vmem S4x128x512 .f32) (harg7 : arg7.IsWhole)
  (x0 : Vec Ideal S512x512 .bf16) (x1 : Vec Ideal S3328x512 .bf16) (x2 : Vec Ideal S512x3328 .bf16) (xs0 : Vec Ideal S4x1x512 .f32) (xs1 : Vec Ideal S4x128x512 .f32)
  {s : Fin 4 → Fin 512 → ℕ → ℝ} {v : Fin 4 → Fin 80 → ℕ → EReal} {o : ℕ}

theorem left_A_0 (hc0 : cond0_0 i) (hc1 : ¬cond0_1 i) :
    sout0_A_0 c i arg2 harg2 arg3 harg3 arg4 harg4 arg5 harg5 arg6 harg6 arg7 harg7 hc0 hc1 x0 x1 x2
      = View.canon (listM arg2 harg2 arg3 harg3 arg6 x0 x1 harg6 none startM 52) :=
  (congrArg (fun L => VS0_0.read (Elt Ideal) (VS0_0.writes (Elt Ideal) VS0_0.junk L))
    (runA_M c i arg2 harg2 arg3 harg3 arg4 harg4 arg5 harg5 arg6 harg6 arg7 harg7 x0 x1 x2 hc0 hc1)).trans (View.read_writes_junk_eq_canon _ _)

theorem left_A_1 (hc0 : cond0_0 i) (hc1 : ¬cond0_1 i) :
    sout0_A_1 c i arg2 harg2 arg3 harg3 arg4 harg4 arg5 harg5 arg6 harg6 arg7 harg7 hc0 hc1 x0 x1 x2
      = View.canon (listA arg2 harg2 arg3 harg3 arg4 harg4 arg6 arg7 x0 x1 x2 harg6 harg7 none startM none startA 52) :=
  (congrArg (fun L => VS0_1.read (Elt Ideal) (VS0_1.writes (Elt Ideal) VS0_1.junk L))
    (runA_A c i arg2 harg2 arg3 harg3 arg4 harg4 arg5 harg5 arg6 harg6 arg7 harg7 x0 x1 x2 hc0 hc1)).trans (View.read_writes_junk_eq_canon _ _)

theorem left_B_0 (hc0 : ¬cond0_0 i) (hc1 : ¬cond0_1 i) :
    sout0_B_0 c i arg2 harg2 arg3 harg3 arg4 harg4 arg5 harg5 arg6 harg6 arg7 harg7 hc0 hc1 x0 x1 x2 xs0 xs1
      = View.canon (listM arg2 harg2 arg3 harg3 arg6 x0 x1 harg6 (some xs0) [] 52) :=
  (congrArg (fun L => VS0_0.read (Elt Ideal) (VS0_0.writes (Elt Ideal) VS0_0.junk L))
    (runB_M c i arg2 harg2 arg3 harg3 arg4 harg4 arg5 harg5 arg6 harg6 arg7 harg7 x0 x1 x2 xs0 xs1 hc0 hc1)).trans (View.read_writes_junk_eq_canon _ _)

theorem left_B_1 (hc0 : ¬cond0_0 i) (hc1 : ¬cond0_1 i) :
    sout0_B_1 c i arg2 harg2 arg3 harg3 arg4 harg4 arg5 harg5 arg6 harg6 arg7 harg7 hc0 hc1 x0 x1 x2 xs0 xs1
      = arg7.view.read (Elt Ideal) (arg7.view.writes (Elt Ideal) (harg7.unread xs1)
          (listA arg2 harg2 arg3 harg3 arg4 harg4 arg6 arg7 x0 x1 x2 harg6 harg7 (some xs0) [] (some xs1) [] 52)) :=
  congrArg (fun L => arg7.view.read (Elt Ideal) (arg7.view.writes (Elt Ideal) (harg7.unread xs1) L))
    (runB_A c i arg2 harg2 arg3 harg3 arg4 harg4 arg5 harg5 arg6 harg6 arg7 harg7 x0 x1 x2 xs0 xs1 hc0 hc1)

/-- What the last point of a run stores. -/
theorem left_C (hc0 : ¬cond0_0 i) (hc1 : cond0_1 i) :
    out0_C_3 c i arg2 harg2 arg3 harg3 arg4 harg4 arg5 harg5 arg6 harg6 arg7 harg7 hc0 hc1 x0 x1 x2 xs0 xs1
      = k0_pay2 (sums arg2 harg2 arg3 harg3 arg4 harg4 arg6 harg6 arg7 harg7 x0 x1 x2 xs0 xs1 0)
          (sums arg2 harg2 arg3 harg3 arg4 harg4 arg6 harg6 arg7 harg7 x0 x1 x2 xs0 xs1 1) (sums arg2 harg2 arg3 harg3 arg4 harg4 arg6 harg6 arg7 harg7 x0 x1 x2 xs0 xs1 2)
          (sums arg2 harg2 arg3 harg3 arg4 harg4 arg6 harg6 arg7 harg7 x0 x1 x2 xs0 xs1 3) :=
  (congrArg (fun L => VO0_3.read (Elt Ideal) (VO0_3.writes (Elt Ideal) VO0_3.junk L))
    (runC_O c i arg2 harg2 arg3 harg3 arg4 harg4 arg5 harg5 arg6 harg6 arg7 harg7 x0 x1 x2 xs0 xs1 hc0 hc1)).trans
    ((View.read_writes_junk_eq_canon _ _).trans (View.canon_unit_zero (funext fun a => by fin_cases a <;> rfl) _ _))

theorem step_A (hc0 : cond0_0 i) (hc1 : ¬cond0_1 i) (hb : Blocks x0 x1 x2 s v 0) :
    St s v (0 + 3328) (sout0_A_0 c i arg2 harg2 arg3 harg3 arg4 harg4 arg5 harg5 arg6 harg6 arg7 harg7 hc0 hc1 x0 x1 x2)
      (sout0_A_1 c i arg2 harg2 arg3 harg3 arg4 harg4 arg5 harg5 arg6 harg6 arg7 harg7 hc0 hc1 x0 x1 x2) := by
  have key := fresh arg2 harg2 arg3 harg3 arg4 harg4 arg6 harg6 arg7 harg7 x0 x1 x2 hb
  rw [left_A_0, left_A_1]
  intro h r
  have := key h r
  simp only [curM, curA, View.read_writes_junk_apply_eq_canon] at this
  exact this

theorem step_B (hc0 : ¬cond0_0 i) (hc1 : ¬cond0_1 i) (hb : Blocks x0 x1 x2 s v o) (hst : St s v o xs0 xs1) :
    St s v (o + 3328) (sout0_B_0 c i arg2 harg2 arg3 harg3 arg4 harg4 arg5 harg5 arg6 harg6 arg7 harg7 hc0 hc1 x0 x1 x2 xs0 xs1)
      (sout0_B_1 c i arg2 harg2 arg3 harg3 arg4 harg4 arg5 harg5 arg6 harg6 arg7 harg7 hc0 hc1 x0 x1 x2 xs0 xs1) := by
  have key := carried arg2 harg2 arg3 harg3 arg4 harg4 arg6 harg6 arg7 harg7 x0 x1 x2 xs0 xs1 hb hst
  rw [left_B_0, left_B_1]
  intro h r
  have := key h r
  rw [canonM _ _ _ _ _ _ _ _ _ _ _ _ _ _ (by omega)] at this
  exact this

/-- A head's slab holds its sums. -/
theorem sums_apply (h : Fin 4) (d : Fin 128) (r : Fin 512) :
    sums arg2 harg2 arg3 harg3 arg4 harg4 arg6 harg6 arg7 harg7 x0 x1 x2 xs0 xs1 h (ix3 0 d r)
      = curA arg2 harg2 arg3 harg3 arg4 harg4 arg6 harg6 arg7 harg7 x0 x1 x2 (some xs0) [] (some xs1) [] (harg7.unread xs1) 52 h d r := by
  rw [sums, View.readAt_apply, curA]
  congr 1
  exact funext fun a => Fin.ext (by fin_cases a <;> simp [LoadRect.idx, Nat.mod_eq_of_lt h.isLt])

/-- The stored block at a row and a column: the sum of the column's head over that head's count. -/
theorem pay2_apply (S : ℕ → Vec Ideal S1x128x512 .f32) (h : Fin 4) (e : Fin 64) (r : Fin 512) :
    k0_pay2 (S 0) (S 1) (S 2) (S 3) (ix2 r ⟨64 * h + e, by omega⟩)
      = Ideal.div (S h (ix3 0 (e.castLE (by decide)) r)) (S h (ix3 0 64 r)) := by
  fin_cases h <;> pointwise [k0_pay2]
  · rfl
  · rfl
  · split_ifs <;> first | omega | (congr 4; omega)
  · split_ifs <;> first | omega | (congr 4; omega)

/-- The last point of a run stores, for each head, its sums over its count. -/
theorem step_C (hc0 : ¬cond0_0 i) (hc1 : cond0_1 i) (hb : Blocks x0 x1 x2 s v o) (hst : St s v o xs0 xs1) (h : Fin 4) (e : Fin 64) (r : Fin 512) :
    ∃ x : ℝ, out0_C_3 c i arg2 harg2 arg3 harg3 arg4 harg4 arg5 harg5 arg6 harg6 arg7 harg7 hc0 hc1 x0 x1 x2 xs0 xs1 (ix2 r ⟨64 * h + e, by omega⟩)
      = Ideal.div (seen (s h r) (v h (e.castLE (by decide))) (o + 3328) x) (seen (s h r) (v h 64) (o + 3328) x) := by
  have key := carried arg2 harg2 arg3 harg3 arg4 harg4 arg6 harg6 arg7 harg7 x0 x1 x2 xs0 xs1 hb hst
  obtain ⟨i1, i2⟩ := key h r
  rcases i1 with ⟨e0, _⟩ | ⟨x, hx⟩
  · have e0 : o + 3328 = 0 := e0
    omega
  · refine ⟨x, ?_⟩
    rw [left_C, pay2_apply (sums arg2 harg2 arg3 harg3 arg4 harg4 arg6 harg6 arg7 harg7 x0 x1 x2 xs0 xs1) h e r, sums_apply, sums_apply, ← hx,
      ← i2 (e.castLE (by decide)), ← i2 64]
    rfl

end

end Cert.KernelIdeal.Items

end
-- ==== Proof.Packed.lean ====
/- What the kernel's three operands hold when its region begins: the host's packings of the queries, keys and values,
   read at an index. -/
module

public import proofs.«01_k».proof.Proof.Fold
public import Idealize.ShloMosaic.Lib.Claim
public import Idealize.ShloMosaic.Lib.Pipeline.ValueKit

@[expose] public section

set_option maxRecDepth 16384

noncomputable section

namespace Cert.KernelIdeal.Packed

open Idealize.ShloMosaic Idealize.ShloMosaic.TcCoe Cert.KernelIdeal.Gen Cert.Online

variable (m : (ℓ : Loc nD τ sig) → Buf (Elt Ideal) ℓ) (c : Dev nD)

abbrev Q (i : Fin 16384) (h : Fin 4) (l : Fin 96) : EReal := (m ((c : Thread nD τ).loc main_arg0) : S16384x4x96.Idx → EReal) (ix3 i h l)
abbrev K (i : Fin 16640) (h : Fin 4) (l : Fin 96) : EReal := (m ((c : Thread nD τ).loc main_arg1) : S16640x4x96.Idx → EReal) (ix3 i h l)
abbrev W (i : Fin 16640) (h : Fin 4) (l : Fin 64) : EReal := (m ((c : Thread nD τ).loc main_arg2) : S16640x4x64.Idx → EReal) (ix3 i h l)

/-- The softmax's scale, `1 / (√96 · log 2)`. -/
def scale : ℝ := 1 / (Real.sqrt 96 * Real.log 2)

theorem scale_eq : Ideal.div 1 (Ideal.sqrt (Ideal.ofBits .f32 1119879168#32) * Ideal.log (Ideal.ofBits .f32 1073741824#32)) = ((scale : ℝ) : EReal) := by
  have e96 : Ideal.ofBits .f32 1119879168#32 = ((96 : ℝ) : EReal) := by simp [Ideal.ofBits, Ideal.ieee, -EReal.coe_mul]; norm_num
  have e2 : Ideal.ofBits .f32 1073741824#32 = ((2 : ℝ) : EReal) := by simp [Ideal.ofBits, Ideal.ieee, -EReal.coe_mul]; norm_num
  have h96 : ¬ ((96 : ℝ) < 0) := by norm_num
  have h2 : ¬ ((2 : ℝ) ≤ 0) := by norm_num
  have hne : Real.sqrt 96 * Real.log 2 ≠ 0 := mul_ne_zero (Real.sqrt_pos.mpr (by norm_num)).ne' (Real.log_pos (by norm_num)).ne'
  rw [e96, e2, Ideal.sqrt_coe, Ideal.log_coe, if_neg h96, if_neg h2, ← EReal.coe_mul, Ideal.div_coe hne, one_mul]
  rfl

/-- The integer zero, as a real, is zero. -/
theorem zero_word : (FloatOps.sitofp (F := Ideal) FTy.f32 0#32 : EReal) = 0 := by
  show (((0#32 : BitVec 32).toInt : ℝ) : EReal) = 0
  simp

theorem queries (i : Fin 16384) (h : Fin 4) (x : Fin 128) :
    (V m c main_v8 : Vec Ideal S16384x512 .bf16) (ix2 i ⟨128 * h + x, by omega⟩) = if hx : x.val < 96 then Q m c i h ⟨x, hx⟩ * ((scale : ℝ) : EReal) else 0 := by
  simp only [V, hostOps0, hostOps0_1, hostOps0_2, hostOps0_3, hostOps0_4, hostOps0_5, hostOps0_6, List.flatten_cons, List.flatten_nil, List.append_nil,
    List.cons_append, List.nil_append]
  entry_read
  simp -implicitDefEqProofs only [StableHlo.TRef.toBuf, StableHlo.TRef.ofBuf, StableHlo.TRef.of, cast_eq]
  pointwise
  have e1 : (128 * h.val + x.val) / 128 = h.val := by omega
  have e2 : (128 * h.val + x.val) % 128 = x.val := by omega
  simp only [e1, e2, h.isLt, true_and, scale_eq]
  split_ifs
  · rfl
  · exact zero_word

theorem keys (i : Fin 16640) (h : Fin 4) (x : Fin 128) :
    (V m c main_v11 : Vec Ideal S16640x512 .bf16) (ix2 i ⟨128 * h + x, by omega⟩) = if hx : x.val < 96 then K m c i h ⟨x, hx⟩ else 0 := by
  simp only [V, hostOps0, hostOps0_1, hostOps0_2, hostOps0_3, hostOps0_4, hostOps0_5, hostOps0_6, List.flatten_cons, List.flatten_nil, List.append_nil,
    List.cons_append, List.nil_append]
  entry_read
  simp -implicitDefEqProofs only [StableHlo.TRef.toBuf, StableHlo.TRef.ofBuf, StableHlo.TRef.of, cast_eq]
  pointwise
  have e1 : (128 * h.val + x.val) / 128 = h.val := by omega
  have e2 : (128 * h.val + x.val) % 128 = x.val := by omega
  simp only [e1, e2, h.isLt, true_and]
  split_ifs
  · rfl
  · exact zero_word

theorem values (i : Fin 16640) (h : Fin 4) (d : Fin 80) :
    (V m c main_v17 : Vec Ideal S512x16640 .bf16) (ix2 ⟨128 * h + d, by omega⟩ i)
      = if hd : d.val < 64 then W m c i h ⟨d, hd⟩ else if d.val = 64 then 1 else 0 := by
  simp only [V, hostOps0, hostOps0_1, hostOps0_2, hostOps0_3, hostOps0_4, hostOps0_5, hostOps0_6, List.flatten_cons, List.flatten_nil, List.append_nil,
    List.cons_append, List.nil_append]
  entry_read
  simp -implicitDefEqProofs only [StableHlo.TRef.toBuf, StableHlo.TRef.ofBuf, StableHlo.TRef.of, cast_eq]
  pointwise
  have e1 : (128 * h.val + d.val) / 128 = h.val := by omega
  have e2 : (128 * h.val + d.val) % 128 = d.val := by omega
  simp only [e1, e2, h.isLt, true_and]
  split_ifs <;> first | omega | rfl | exact zero_word

theorem idx : ∀ t : Fin grid0.N, win0_0.index t = ![t.val / 5, 0] ∧ win0_1.index t = ![t.val % 5, 0] ∧ win0_2.index t = ![0, t.val % 5] := by
  decide +kernel

theorem block_q (t : Fin cfg0.N) (r : Fin 512) (l : Fin 512) :
    (iblk m c 0 t : Vec Ideal S512x512 .bf16) (ix2 r l) = (V m c main_v8 : Vec Ideal S16384x512 .bf16) (ix2 ⟨512 * (t.val / 5) + r, by have := lt_of_lt_of_eq t.isLt (show cfg0.N = 160 from N_0); omega⟩ l) := by
  blk_ext [iblk, idx t]

theorem block_k (t : Fin cfg0.N) (k : Fin 3328) (l : Fin 512) :
    (iblk m c 1 t : Vec Ideal S3328x512 .bf16) (ix2 k l) = (V m c main_v11 : Vec Ideal S16640x512 .bf16) (ix2 ⟨3328 * (t.val % 5) + k, by omega⟩ l) := by
  blk_ext [iblk, idx t]

theorem block_v (t : Fin cfg0.N) (d : Fin 512) (k : Fin 3328) :
    (iblk m c 2 t : Vec Ideal S512x3328 .bf16) (ix2 d k) = (V m c main_v17 : Vec Ideal S512x16640 .bf16) (ix2 d ⟨3328 * (t.val % 5) + k, by omega⟩) := by
  blk_ext [iblk, idx t]

end Cert.KernelIdeal.Packed

end
-- ==== Proof.Attn.lean ====
/- What the kernel's result holds: at a query, a head and a channel, the quotient of two weighted sums over all the
   keys, which is the softmax average. -/
module

public import proofs.«01_k».proof.Proof.Packed
public import proofs.«01_k».proof.Proof.Gen.KernelIdeal.Value

@[expose] public section

set_option maxRecDepth 16384

noncomputable section

namespace Cert.KernelIdeal.Attn

open Idealize.ShloMosaic Idealize.ShloMosaic.TcCoe Cert.KernelIdeal.Gen Cert.KernelIdeal.Packed Cert.KernelIdeal.Items Cert.Online

variable (m : (ℓ : Loc nD τ sig) → Buf (Elt Ideal) ℓ) (c : Dev nD)

/-- A query against a key, in the units of a power of two. -/
def score (i : Fin 16384) (h : Fin 4) (n : ℕ) : ℝ :=
  if hn : n < 16640 then ∑ x : Fin 96, (K m c ⟨n, hn⟩ h x).toReal * ((Q m c i h x).toReal * scale) else 0

theorem score_lt (i : Fin 16384) (h : Fin 4) (n : ℕ) (hn : n < 16640) :
    score m c i h n = ∑ x : Fin 96, (K m c ⟨n, hn⟩ h x).toReal * ((Q m c i h x).toReal * scale) := dif_pos hn

/-- A key's values in a head, with the column of ones. -/
def val (h : Fin 4) (d : Fin 80) (n : ℕ) : EReal :=
  if hn : n < 16640 then (if hd : d.val < 64 then W m c ⟨n, hn⟩ h ⟨d, hd⟩ else if d.val = 64 then 1 else 0) else 1

theorem val_ones (h : Fin 4) : val m c h 64 = fun _ => 1 := by
  funext n
  unfold val
  split_ifs <;> first | rfl | (rename_i h1 h2; exact absurd h2 (by decide)) | (rename_i h1 h2 h3; exact absurd rfl h3)

/-- The queries and the keys are real. -/
def Reals : Prop := (∀ i h x, Q m c i h x = (((Q m c i h x).toReal : ℝ) : EReal)) ∧ ∀ i h x, K m c i h x = (((K m c i h x).toReal : ℝ) : EReal)

/-- The row of the queries that row `r` of point `t`'s block is. -/
abbrev row (t : Fin cfg0.N) (r : Fin 512) : Fin 16384 :=
  ⟨512 * (t.val / 5) + r, by have := lt_of_lt_of_eq t.isLt (show cfg0.N = 160 from N_0); omega⟩

/-- The product of a key's slab with a query's: the entries past the 96th are zero. -/
theorem slab (f : Fin 128 → EReal) (g : Fin 96 → EReal) (h1 : ∀ x : Fin 96, f (Fin.castAdd 32 x) = g x) (h2 : ∀ x : Fin 32, f (Fin.natAdd 96 x) = 0) :
    ∑ l, f l = ∑ x, g x := by
  rw [Fin.sum_univ_add (a := 96) (b := 32) f, Finset.sum_congr rfl fun x _ => h1 x, Finset.sum_eq_zero (s := Finset.univ) fun x _ => h2 x, add_zero]

theorem blocks_of (hR : Reals m c) (t : Fin cfg0.N) (x0 : Vec Ideal S512x512 .bf16) (x1 : Vec Ideal S3328x512 .bf16) (x2 : Vec Ideal S512x3328 .bf16)
    (hx0 : ∀ r l, x0 (ix2 r l) = (V m c main_v8 : Vec Ideal S16384x512 .bf16) (ix2 (row t r) l))
    (hx1 : ∀ (k : Fin 3328) l, x1 (ix2 k l) = (V m c main_v11 : Vec Ideal S16640x512 .bf16) (ix2 ⟨3328 * (t.val % 5) + k, by omega⟩ l))
    (hx2 : ∀ d (k : Fin 3328), x2 (ix2 d k) = (V m c main_v17 : Vec Ideal S512x16640 .bf16) (ix2 d ⟨3328 * (t.val % 5) + k, by omega⟩)) :
    Blocks x0 x1 x2 (fun h r => score m c (row t r) h) (val m c) (3328 * (t.val % 5)) := by
  constructor
  · intro h r k
    have hk : 3328 * (t.val % 5) + k.val < 16640 := by omega
    show _ = ((score m c (row t r) h (3328 * (t.val % 5) + k.val) : ℝ) : EReal)
    rw [score_lt m c _ h _ hk, ← coe_sum]
    refine slab _ _ (fun x => ?_) fun x => ?_
    · have hx : (Fin.castAdd 32 x : Fin 128).val < 96 := x.isLt
      rw [hx1, hx0, keys m c _ h (Fin.castAdd 32 x : Fin 128), queries m c _ h (Fin.castAdd 32 x : Fin 128), dif_pos hx, dif_pos hx,
        EReal.coe_mul, EReal.coe_mul, ← hR.1, ← hR.2]
      rfl
    · have hx : ¬(Fin.natAdd 96 x : Fin 128).val < 96 := by rw [Fin.val_natAdd]; omega
      rw [hx1, keys m c _ h (Fin.natAdd 96 x : Fin 128), dif_neg hx, zero_mul]
  · intro h d k
    have hk : 3328 * (t.val % 5) + k.val < 16640 := by omega
    rw [hx2, values m c _ h d, val, dif_pos hk]

theorem blocks (hR : Reals m c) (t : Fin cfg0.N) :
    Blocks (iblk m c 0 t) (iblk m c 1 t) (iblk m c 2 t) (fun h r => score m c (row t r) h) (val m c) (3328 * (t.val % 5)) :=
  blocks_of m c hR t _ _ _ (block_q m c t) (block_k m c t) (block_v m c t)

theorem St_congr {s : Fin 4 → Fin 512 → ℕ → ℝ} {v : Fin 4 → Fin 80 → ℕ → EReal} {N N' : ℕ} {a a' : Vec Ideal S4x1x512 .f32} {b b' : Vec Ideal S4x128x512 .f32}
    (hN : N' = N) (ha : a = a') (hb : b = b') (h : St s v N' a' b') : St s v N a b := by
  subst hN ha hb
  exact h

theorem carried_at (hR : Reals m c) : ∀ (j : ℕ) (t : Fin cfg0.N), t.val % 5 = j → j < 4 →
    St (fun h r => score m c (row t r) h) (val m c) (3328 * j + 3328) (outsAt0 m c t.val t.isLt).2.1 (outsAt0 m c t.val t.isLt).2.2 := by
  intro j
  induction j with
  | zero =>
    intro t h0 _
    have hb := blocks m c hR t
    rw [h0] at hb
    have h1 : ¬t.val % 5 = 4 := by omega
    have e := outsAt0_A m c t h0 h1
    have st := step_A c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)
      ((hcond0_0 t).mpr h0) (fun h => h1 ((hcond0_1 t).mp h)) hb
    have e1 := congrArg (fun p => p.2.1) e
    have e2 := congrArg (fun p => p.2.2) e
    dsimp only at e1 e2
    refine St_congr ?_ e1 e2 st
    omega
  | succ j ih =>
    intro t ht hj
    have hb := blocks m c hR t
    rw [ht] at hb
    have hlt : t.val - 1 < cfg0.N := Nat.lt_of_le_of_lt (Nat.sub_le _ _) t.isLt
    have prev := ih ⟨t.val - 1, hlt⟩ (by show (t.val - 1) % 5 = j; omega) (by omega)
    have hrow : ∀ r, row ⟨t.val - 1, hlt⟩ r = row t r := fun r => Fin.ext (by show 512 * ((t.val - 1) / 5) + _ = 512 * (t.val / 5) + _; omega)
    simp only [hrow] at prev
    have h0 : ¬t.val % 5 = 0 := by omega
    have h1 : ¬t.val % 5 = 4 := by omega
    have e := outsAt0_B m c t h0 h1
    have st := step_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)
      (outsAt0 m c (t.val - 1) hlt).2.1 (outsAt0 m c (t.val - 1) hlt).2.2 (fun h => h0 ((hcond0_0 t).mp h)) (fun h => h1 ((hcond0_1 t).mp h)) hb (St_congr (by omega) rfl rfl prev)
    have e1 := congrArg (fun p => p.2.1) e
    have e2 := congrArg (fun p => p.2.2) e
    dsimp only at e1 e2
    refine St_congr ?_ e1 e2 st
    omega

theorem last_at (hR : Reals m c) (t : Fin cfg0.N) (ht : t.val % 5 = 4) (h : Fin 4) (e' : Fin 64) (r : Fin 512) :
    ∃ x : ℝ, (outsAt0 m c t.val t.isLt).1 (ix2 r ⟨64 * h + e', by omega⟩)
      = Ideal.div (seen (score m c (row t r) h) (val m c h (e'.castLE (by decide))) 16640 x) (seen (score m c (row t r) h) (fun _ => 1) 16640 x) := by
  have hb := blocks m c hR t
  rw [ht] at hb
  have hlt : t.val - 1 < cfg0.N := Nat.lt_of_le_of_lt (Nat.sub_le _ _) t.isLt
  have prev := carried_at m c hR 3 ⟨t.val - 1, hlt⟩ (by show (t.val - 1) % 5 = 3; omega) (by omega)
  have hrow : ∀ r, row ⟨t.val - 1, hlt⟩ r = row t r := fun r => Fin.ext (by show 512 * ((t.val - 1) / 5) + _ = 512 * (t.val / 5) + _; omega)
  simp only [hrow] at prev
  have h0 : ¬t.val % 5 = 0 := by omega
  have e := outsAt0_C m c t h0 ht
  obtain ⟨x, hx⟩ := step_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)
    (outsAt0 m c (t.val - 1) hlt).2.1 (outsAt0 m c (t.val - 1) hlt).2.2 (fun h => h0 ((hcond0_0 t).mp h)) ((hcond0_1 t).mpr ht) hb (St_congr (by omega) rfl rfl prev) h e' r
  rw [val_ones m c h] at hx
  exact ⟨x, (congrFun (congrArg (fun p => p.1) e) _).trans hx⟩

open Cert.KernelIdeal.Value in
theorem read_G3 (t : Fin cfg0.N) (i : S16384x256.Idx) (l : S512x256.Idx) (hp : pt3Of i = t.val) (hl : loc3Of i = l) :
    G3 m c i = (outsAt0 m c t.val t.isLt).1 l := by
  rw [outsAt0_sweep]
  unfold G3
  rw [dif_pos (by rw [hp]; exact t.isLt), hl, fold0_congr m c _ _ _ _ hp]

theorem result (hR : Reals m c) (i : Fin 16384) (h : Fin 4) (e : Fin 64) :
    ∃ x : ℝ, (Cert.KernelIdeal.Value.G3 m c : Vec Ideal S16384x256 .bf16) (ix2 i ⟨64 * h + e, by omega⟩)
      = Ideal.div (seen (score m c i h) (val m c h (e.castLE (by decide))) 16640 x) (seen (score m c i h) (fun _ => 1) 16640 x) := by
  have hN : cfg0.N = 160 := N_0
  let t : Fin cfg0.N := ⟨5 * (i.val / 512) + 4, by omega⟩
  obtain ⟨x, hx⟩ := last_at m c hR t (by show (5 * (i.val / 512) + 4) % 5 = 4; omega) h e ⟨i.val % 512, by omega⟩
  refine ⟨x, ?_⟩
  have hr : row t ⟨i.val % 512, by omega⟩ = i := Fin.ext (by show 512 * ((5 * (i.val / 512) + 4) / 5) + i.val % 512 = i.val; omega)
  rw [hr] at hx
  rw [← hx]
  have hp : Cert.KernelIdeal.Value.pt3Of (ix2 i ⟨64 * h + e, by omega⟩) = t.val := by
    show 5 * (1 * (i.val / 512 - 0) + 1 * ((64 * h.val + e.val) / 256 - 0)) + 4 = 5 * (i.val / 512) + 4
    omega
  have hl : Cert.KernelIdeal.Value.loc3Of (ix2 i ⟨64 * h + e, by omega⟩) = ix2 ⟨i.val % 512, by omega⟩ ⟨64 * h + e, by omega⟩ := by
    funext a
    apply Fin.ext
    match a with
    | ⟨0, _⟩ => rfl
    | ⟨1, _⟩ => show (64 * h.val + e.val) % 256 = 64 * h.val + e.val; omega
  exact read_G3 m c t _ _ hp hl

end Cert.KernelIdeal.Attn

end
-- ==== Proof.Softmax.lean ====
/- What the reference's result holds: at a query, a head and a channel, the softmax average of the values. -/
module

public import proofs.«01_k».proof.Proof.Gen.ReferenceIdeal.Read
public import proofs.«01_k».proof.Proof.Online
public import Idealize.ShloMosaic.Lib.Pointwise
public import Idealize.ShloMosaic.Lib.Tactic.CleanTypes

@[expose] public section

set_option maxRecDepth 16384

noncomputable section

namespace Cert.ReferenceIdeal.Softmax

open Idealize.ShloMosaic Cert.ReferenceIdeal Cert.ReferenceIdeal.Gen Cert.ReferenceIdeal.Read

variable (q : FVec Ideal S16384x4x96 .f32) (k : FVec Ideal S16640x4x96 .f32) (v : FVec Ideal S16640x4x64 .f32)

/-- A query's score against a key, scaled by `1/√96`. -/
def score (i : Fin 16384) (h : Fin 4) (n : Fin 16640) : ℝ :=
  (∑ x : Fin 96, (q (ix3 i h x) : EReal).toReal * (k (ix3 n h x) : EReal).toReal) * (1 / Real.sqrt 96)

def Reals : Prop := (∀ i, (q i : EReal) = (((q i : EReal).toReal : ℝ) : EReal)) ∧ ∀ i, (k i : EReal) = (((k i : EReal).toReal : ℝ) : EReal)

theorem factor (i) : val_main_v1 (F := Ideal) i = ((1 / Real.sqrt 96 : ℝ) : EReal) := by
  show Ideal.div (Ideal.ofBits .f32 0x3F800000#32) (Ideal.sqrt (Ideal.ofBits .f32 0x42C00000#32)) = _
  have e96 : Ideal.ofBits .f32 0x42C00000#32 = ((96 : ℝ) : EReal) := by simp [Ideal.ofBits, Ideal.ieee, -EReal.coe_mul]; norm_num
  have e1 : Ideal.ofBits .f32 0x3F800000#32 = 1 := by simp [Ideal.ofBits, Ideal.ieee, -EReal.coe_mul]; norm_num
  have h96 : ¬ ((96 : ℝ) < 0) := by norm_num
  have hne : Real.sqrt 96 ≠ 0 := (Real.sqrt_pos.mpr (by norm_num)).ne'
  rw [e96, e1, Ideal.sqrt_coe, if_neg h96, Ideal.div_coe hne, one_mul]

theorem scores (hR : Reals q k) (h : Fin 4) (i : Fin 16384) (n : Fin 16640) :
    val_main_v4 (F := Ideal) q k (ix3 h i n) = ((score q k i h n : ℝ) : EReal) := by
  rw [val_main_v4_apply, val_main_v2_apply, val_main_v3_apply, factor]
  show (∑ x : Fin 96, _) * _ = _
  rw [score, EReal.coe_mul, ← Cert.Online.coe_sum]
  congr 1
  refine Finset.sum_congr rfl fun x _ => ?_
  rw [EReal.coe_mul]
  have a : lidx_main_v2 (ix3 h i n) x = ix3 i h x := funext fun a => by match a with | ⟨0, _⟩ => rfl | ⟨1, _⟩ => rfl | ⟨2, _⟩ => rfl
  have b : ridx_main_v2 (ix3 h i n) x = ix3 n h x := funext fun a => by match a with | ⟨0, _⟩ => rfl | ⟨1, _⟩ => rfl | ⟨2, _⟩ => rfl
  rw [a, b, ← hR.1, ← hR.2]

/-- The largest of the keys' real scores is real. -/
theorem fold_real (f : Fin 16640 → EReal) (g : Fin 16640 → ℝ) (hf : ∀ n, f n = g n) : ∃ M : ℝ, Finset.fold max ⊥ f Finset.univ = M := by
  refine ⟨(Finset.fold max ⊥ f Finset.univ).toReal, (EReal.coe_toReal ?_ ?_).symm⟩
  · exact ((Finset.fold_max_lt _).mpr ⟨by simp, fun n _ => by rw [hf]; exact EReal.coe_lt_top _⟩).ne
  · exact ((Finset.lt_fold_max _).mpr (Or.inr ⟨0, Finset.mem_univ _, by rw [hf]; exact EReal.bot_lt_coe _⟩)).ne'

/-- The largest score of a row is real. -/
theorem peak (hR : Reals q k) (h : Fin 4) (i : Fin 16384) : ∃ M : ℝ, val_main_v7 (F := Ideal) q k (ix2 h i) = M := by
  rw [val_main_v7_apply, val_main_v6_apply]
  unfold val_main_v5
  clean_types
  pointwise [val_main_v6, val_main_cst_1, val_main_cst_2]
  have bot : Ideal.ofBits .f32 4286578688#32 = ⊥ := by simp [Ideal.ofBits, Ideal.ieee]
  rw [bot, max_eq_right bot_le]
  exact fold_real _ _ fun n => scores q k hR h i n

theorem weights (hR : Reals q k) (h : Fin 4) (i : Fin 16384) (n : Fin 16640) {M : ℝ} (hM : val_main_v7 (F := Ideal) q k (ix2 h i) = M) :
    val_main_v11 (F := Ideal) q k (ix3 h i n) = Ideal.exp (((score q k i h n : ℝ) : EReal) - M) := by
  rw [val_main_v11_apply, val_main_v10_apply, scores q k hR, val_main_v9_apply, val_main_v8_apply]
  have e : idx_main_v8 (idx_main_v9 (ix3 h i n)) = ix2 h i := funext fun a => by match a with | ⟨0, _⟩ => rfl | ⟨1, _⟩ => rfl
  rw [e, hM]
  rfl

theorem result (hR : Reals q k) (i : Fin 16384) (h : Fin 4) (e : Fin 64) :
    ∃ M : ℝ, val_main_v19 (F := Ideal) q k v (ix2 i ⟨64 * h + e, by omega⟩)
      = ∑ n : Fin 16640, Ideal.div (Ideal.exp (((score q k i h n : ℝ) : EReal) - M)) (∑ n' : Fin 16640, Ideal.exp (((score q k i h n' : ℝ) : EReal) - M)) * v (ix3 n h e) := by
  obtain ⟨M, hM⟩ := peak q k hR h i
  refine ⟨M, ?_⟩
  rw [val_main_v19_apply, val_main_v18_apply, val_main_v17_apply]
  have e0 : idx_main_v17 (idx_main_v18 (ix2 i ⟨64 * h + e, by omega⟩)) = ix3 h e i := funext fun a => by
    apply Fin.ext
    match a with
    | ⟨0, _⟩ => show (i.val * 256 + (64 * h.val + e.val)) / 64 % 4 = h.val; omega
    | ⟨1, _⟩ => show (i.val * 256 + (64 * h.val + e.val)) % 64 = e.val; omega
    | ⟨2, _⟩ => show (i.val * 256 + (64 * h.val + e.val)) / 256 = i.val; omega
  rw [e0, val_main_v16_apply]
  refine Finset.sum_congr rfl fun n _ => ?_
  have a : lidx_main_v16 (ix3 h e i) n = ix3 n h e := funext fun a => by match a with | ⟨0, _⟩ => rfl | ⟨1, _⟩ => rfl | ⟨2, _⟩ => rfl
  have b : ridx_main_v16 (ix3 h e i) n = ix3 h i n := funext fun a => by match a with | ⟨0, _⟩ => rfl | ⟨1, _⟩ => rfl | ⟨2, _⟩ => rfl
  rw [a, b, val_main_v15_apply, weights q k hR h i n hM, val_main_v14_apply, val_main_v13_apply, val_main_v12_apply]
  have z : val_main_cst_3 (F := Ideal) (Shape.Idx.first h_S_) = 0 := by
    show Ideal.ofBits .f32 0x00000000#32 = 0
    simp [Ideal.ofBits, Ideal.ieee]
  have s : ∀ n', val_main_v11 (F := Ideal) q k (idx_main_v12 (idx_main_v13 (idx_main_v14 (ix3 h i n))) n') = Ideal.exp (((score q k i h n' : ℝ) : EReal) - M) := fun n' => by
    rw [← weights q k hR h i n' hM]
    exact congrArg _ (funext fun a => by match a with | ⟨0, _⟩ => rfl | ⟨1, _⟩ => rfl | ⟨2, _⟩ => rfl)
  rw [z, zero_add, Finset.sum_congr rfl fun n' _ => s n']
  exact mul_comm _ _

end Cert.ReferenceIdeal.Softmax

end
-- ==== Proof.Finite.lean ====
/- The precondition, read: every query's and every key's entry is a real number. -/
module

public import proofs.«01_k».proof.Proof.Gen.Pre_finite
public import proofs.«01_k».proof.Proof.Gen.KernelIdeal
public import Idealize.ShloMosaic.Lib.ReduceAll
public import Idealize.ShloMosaic.Lib.Pointwise

@[expose] public section

noncomputable section

namespace Cert.Pre_finite.Read

open Idealize.ShloMosaic Cert.Pre_finite.Gen

/-- A magnitude below infinity is a real number's. -/
theorem real_of_abs_lt (x : EReal) (h : FloatOps.cmpf (F := Ideal) (φ := .f32) .olt (FloatOps.hostAbsf (F := Ideal) (φ := .f32) x) (FloatOps.ofBits .f32 0x7F800000#32) = 1#1) :
    x = ((x.toReal : ℝ) : EReal) := by
  have top : Ideal.ofBits .f32 0x7F800000#32 = ⊤ := by simp [Ideal.ofBits, Ideal.ieee]
  have hx : max x (-x) < ⊤ := by
    have h' : Ideal.cmp .olt (max x (-x)) (Ideal.ofBits .f32 0x7F800000#32) = 1#1 := h
    rw [top] at h'
    by_contra hn
    simp [Ideal.cmp, hn] at h'
  rw [max_lt_iff] at hx
  refine (EReal.coe_toReal hx.1.ne ?_).symm
  rintro rfl
  exact absurd hx.2 (by simp)

theorem real_entries (q : FVec Ideal S16384x4x96 .f32) (k : FVec Ideal S16640x4x96 .f32) (v : FVec Ideal S16640x4x64 .f32)
    (h : Cert.Pre_finite.fn (F := Ideal) q k v = fun _ => 1#1) :
    (∀ i, (q i : EReal) = (((q i : EReal).toReal : ℝ) : EReal)) ∧ ∀ i, (k i : EReal) = (((k i : EReal).toReal : ℝ) : EReal) := by
  have h0 := congrFun h (Shape.Idx.first h_S_)
  obtain ⟨h1, h2⟩ := IntOp.andi_eq_one.mp h0
  refine ⟨fun i => ?_, fun i => ?_⟩
  · have := Host.reduce_andi_all _ _ _ _ _ h1 i
    exact real_of_abs_lt _ this
  · have := Host.reduce_andi_all _ _ _ _ _ h2 i
    exact real_of_abs_lt _ this

end Cert.Pre_finite.Read

end
-- ==== Proof.Equal.lean ====
/- Kernel and reference hold the same array. -/
module

public import proofs.«01_k».proof.Proof.Attn
public import proofs.«01_k».proof.Proof.Softmax
public import proofs.«01_k».proof.Proof.Finite

@[expose] public section

set_option maxRecDepth 16384

noncomputable section

namespace Cert.Equal

open Idealize.ShloMosaic Idealize.ShloMosaic.TcCoe Cert.KernelIdeal Cert.KernelIdeal.Packed Cert.Online

variable (m : (ℓ : Loc nD τ sig) → Buf (Elt Ideal) ℓ) (c : Dev nD)

abbrev q : FVec Ideal S16384x4x96 .f32 := m ((c : Thread nD τ).loc main_arg0)
abbrev k : FVec Ideal S16640x4x96 .f32 := m ((c : Thread nD τ).loc main_arg1)
abbrev v : FVec Ideal S16640x4x64 .f32 := m ((c : Thread nD τ).loc main_arg2)

/-- The kernel's score, in powers of two, is the reference's, in powers of `e`. -/
theorem score_eq (i : Fin 16384) (h : Fin 4) (n : Fin 16640) :
    Cert.KernelIdeal.Attn.score m c i h n * Real.log 2 = Cert.ReferenceIdeal.Softmax.score (q m c) (k m c) i h n := by
  have hl : Real.log 2 ≠ 0 := (Real.log_pos (by norm_num)).ne'
  have hs : Real.sqrt 96 ≠ 0 := (Real.sqrt_pos.mpr (by norm_num)).ne'
  have e : scale * Real.log 2 = 1 / Real.sqrt 96 := by
    unfold scale
    field_simp
  rw [Cert.KernelIdeal.Attn.score_lt m c i h n n.isLt, Cert.ReferenceIdeal.Softmax.score, Finset.sum_mul, Finset.sum_mul]
  refine Finset.sum_congr rfl fun x _ => ?_
  rw [← e]
  show (k m c (ix3 n h x) : EReal).toReal * ((q m c (ix3 i h x) : EReal).toReal * scale) * Real.log 2 = _
  ring

theorem equal (hR : Cert.ReferenceIdeal.Softmax.Reals (q m c) (k m c)) :
    (Cert.KernelIdeal.Value.G3 m c : FVec Ideal S16384x256 .bf16) = Cert.ReferenceIdeal.Read.val_main_v19 (F := Ideal) (q m c) (k m c) (v m c) := by
  have hR' : Cert.KernelIdeal.Attn.Reals m c := ⟨fun i h x => hR.1 (ix3 i h x), fun i h x => hR.2 (ix3 i h x)⟩
  funext j
  have hj1 : (j 1).val < 256 := (j 1).isLt
  let h : Fin 4 := ⟨(j 1).val / 64, by omega⟩
  let e : Fin 64 := ⟨(j 1).val % 64, by omega⟩
  let i : Fin 16384 := j 0
  have hj : j = ix2 i ⟨64 * h + e, by omega⟩ := funext fun a => Fin.ext (by
    match a with
    | ⟨0, _⟩ => rfl
    | ⟨1, _⟩ => show (j 1).val = 64 * ((j 1).val / 64) + (j 1).val % 64; omega)
  rw [hj]
  obtain ⟨x, hx⟩ := Cert.KernelIdeal.Attn.result m c hR' i h e
  obtain ⟨M, hM⟩ := Cert.ReferenceIdeal.Softmax.result (q m c) (k m c) (v m c) hR i h e
  refine hx.trans (((quotient _ _ _ (by decide) x M).trans ?_).trans hM.symm)
  have inner : ∑ n ∈ Finset.range 16640, Ideal.exp (((Cert.KernelIdeal.Attn.score m c i h n * Real.log 2 : ℝ) : EReal) - M)
      = ∑ n : Fin 16640, Ideal.exp (((Cert.ReferenceIdeal.Softmax.score (q m c) (k m c) i h n : ℝ) : EReal) - M) :=
    (Finset.sum_range _).trans (Finset.sum_congr rfl fun n _ => by rw [score_eq])
  refine (Finset.sum_range _).trans (Finset.sum_congr rfl fun n _ => ?_)
  have hn : (e.castLE (by decide) : Fin 80).val < 64 := e.isLt
  refine congrArg₂ (· * ·) (congrArg₂ Ideal.div (by rw [score_eq]) inner) ?_
  exact (dif_pos n.isLt).trans (dif_pos hn)

end Cert.Equal

end
-- ==== Proof.ExpertKit.lean ====
/- The experts' call up to its region: what the region finds in memory, its prefetched tables, the windows' blocks, and the
   memrefs the body is called with. -/
module

public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ)

/-! ## The host operations before the region -/

/-- What a core's buffers hold when the region is entered. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 800000 in
theorem host_main (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh main_chain

/-- A buffer the two reshapes do not write is found as launched. -/
theorem V_kept (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact ⟨StableHlo.devRef_ne_of_ne h0, StableHlo.devRef_ne_of_ne h1⟩))

/-! ## The prefetched tables -/

/-- The tables' words when the region is entered. -/
def tbl : pre0.Contents (Elt F) := fun j => V m (0 : Dev nD) (pre0.ref j)

theorem V_tbl (c : Dev nD) (j : Fin 2) : V m c (pre0.ref j) = tbl m j := by
  obtain rfl : c = 0 := Subsingleton.elim _ _; rfl

/-- Every block a table names lies inside its array. -/
abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

abbrev tbE : Memref sig .tc .smem S191 .i32 := Memref.whole main_arg0
abbrev tbN : Memref sig .tc .smem S1 .i32 := Memref.whole main_arg1

/-- A table's buffer, held by the body at half its share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem tables_eq (c : Dev nD) : (Pipeline.ΦT pre0 (tbl m) c : sProp 𝕄) = iprop(tbPt c tbE (tbl m 0) ∗ tbPt c tbN (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The words the body reads -/

/-- The expert of a point's block, the expert of the block before it, and the number of blocks used. -/
abbrev expertAt (c : Dev nD) (xe : TbBuf (F := F) c tbE) (i : grid0.Coords) : BitVec 32 :=
  tbE.view.readAt (Elt F) (Rect.unit (s := S191) (k0_off1 i) S1.size (k0_off1_inb i)).toLoadRect xe (Shape.Idx.first (numel1_S1.symm ▸ Nat.one_pos))
abbrev expertBefore (c : Dev nD) (xe : TbBuf (F := F) c tbE) (i : grid0.Coords) : BitVec 32 :=
  tbE.view.readAt (Elt F) (Rect.unit (s := S191) (k0_off2 i) S1.size (k0_off2_inb i)).toLoadRect xe (Shape.Idx.first (numel1_S1.symm ▸ Nat.one_pos))
abbrev used (c : Dev nD) (xn : TbBuf (F := F) c tbN) : BitVec 32 :=
  tbN.view.readAt (Elt F) (Rect.unit (s := S1) ![0] S1.size inb_S1_S1_0).toLoadRect xn (Shape.Idx.first (numel1_S1.symm ▸ Nat.one_pos))

/-- The body refreshes its copies of the weights: at the first point and where the expert changes. -/
abbrev Fresh (c : Dev nD) (xe : TbBuf (F := F) c tbE) (i : grid0.Coords) : Prop :=
  (Scalar.cmpi .ne (Scalar.extui (Scalar.ori (Scalar.cmpi .eq (BitVec.ofNat 32 (i 0).val) 0#32)
    (Scalar.cmpi .ne (expertAt c xe i) (expertBefore c xe i))) : BitVec 32) 0#32) = 1#1

/-- The block is one in use. -/
abbrev InUse (c : Dev nD) (xn : TbBuf (F := F) c tbN) (i : grid0.Coords) : Prop := k0_cond2 i (used c xn) = 1#1

/-- The two conditions on the number of blocks exclude each other and one of them holds. -/
theorem unused_iff (i : grid0.Coords) (w : BitVec 32) : k0_cond3 i w = 1#1 ↔ ¬k0_cond2 i w = 1#1 := by
  unfold k0_cond3 k0_cond2
  generalize BitVec.ofNat 32 (i 0).val = a
  have hp : ∀ p q : Bool, (p = !q) → ((Scalar.cmpi .ne (Scalar.extui (BitVec.ofBool p) : BitVec 32) 0#32) = 1#1
      ↔ ¬(Scalar.cmpi .ne (Scalar.extui (BitVec.ofBool q) : BitVec 32) 0#32) = 1#1) := by decide
  exact hp (w.sle a) (a.slt w) (BitVec.sle_eq_not_slt ..)

/-! ## The windows' blocks -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

section
variable {m} {hO : Ok m} {c : Dev nD} (dat : Dat τ (Elt F) Unit ℕ (UR sig nD τ) ℕ (cfgM m hO) c)

/-- An input's buffer holds its block at every point. -/
theorem before_0 (hA : dat.A 0 = V m c (Pipeline.arrRef spec0 0)) (ha : ∀ t, dat.after 0 t = iblk m hO c 0 t) (t : Fin (cfgM m hO).N) (d) :
    dat.before 0 t d = iblk m hO c 0 t :=
  (dat.before_in_eq_fetched 0 rfl (fun _ => rfl) (fun _ _ _ => rfl) (fun t => by rw [ha]; unfold Dat.blockOf iblk; rw [hA]; try rfl) t d).trans
    (by unfold Dat.fetched Dat.blockOf iblk; rw [hA]; try rfl)
theorem before_1 (hA : dat.A 1 = V m c (Pipeline.arrRef spec0 1)) (ha : ∀ t, dat.after 1 t = iblk m hO c 1 t) (t : Fin (cfgM m hO).N) (d) :
    dat.before 1 t d = iblk m hO c 1 t :=
  (dat.before_in_eq_fetched 1 rfl (fun _ => rfl) (fun _ _ _ => rfl) (fun t => by rw [ha]; unfold Dat.blockOf iblk; rw [hA]; try rfl) t d).trans
    (by unfold Dat.fetched Dat.blockOf iblk; rw [hA]; try rfl)
theorem before_2 (hA : dat.A 2 = V m c (Pipeline.arrRef spec0 2)) (ha : ∀ t, dat.after 2 t = iblk m hO c 2 t) (t : Fin (cfgM m hO).N) (d) :
    dat.before 2 t d = iblk m hO c 2 t :=
  (dat.before_in_eq_fetched 2 rfl (fun _ => rfl) (fun _ _ _ => rfl) (fun t => by rw [ha]; unfold Dat.blockOf iblk; rw [hA]; try rfl) t d).trans
    (by unfold Dat.fetched Dat.blockOf iblk; rw [hA]; try rfl)
theorem before_3 (hA : dat.A 3 = V m c (Pipeline.arrRef spec0 3)) (ha : ∀ t, dat.after 3 t = iblk m hO c 3 t) (t : Fin (cfgM m hO).N) (d) :
    dat.before 3 t d = iblk m hO c 3 t :=
  (dat.before_in_eq_fetched 3 rfl (fun _ => rfl) (fun _ _ _ => rfl) (fun t => by rw [ha]; unfold Dat.blockOf iblk; rw [hA]; try rfl) t d).trans
    (by unfold Dat.fetched Dat.blockOf iblk; rw [hA]; try rfl)
theorem before_4 (hA : dat.A 4 = V m c (Pipeline.arrRef spec0 4)) (ha : ∀ t, dat.after 4 t = iblk m hO c 4 t) (t : Fin (cfgM m hO).N) (d) :
    dat.before 4 t d = iblk m hO c 4 t :=
  (dat.before_in_eq_fetched 4 rfl (fun _ => rfl) (fun _ _ _ => rfl) (fun t => by rw [ha]; unfold Dat.blockOf iblk; rw [hA]; try rfl) t d).trans
    (by unfold Dat.fetched Dat.blockOf iblk; rw [hA]; try rfl)
end

/-! ## The memrefs the body is called with -/

abbrev ms0 (hO : Ok m) (t : Fin (cfgM m hO).N) : Memref sig .tc .vmem S512x1024 .f32 := spec0_0.stage ((cfgM m hO).slots t 0)
abbrev ms1 (hO : Ok m) (t : Fin (cfgM m hO).N) : Memref sig .tc .vmem S1x1x1024x2048 .f32 := spec0_1.stage ((cfgM m hO).slots t 1)
abbrev ms2 (hO : Ok m) (t : Fin (cfgM m hO).N) : Memref sig .tc .vmem S1x1x1x2048 .f32 := spec0_2.stage ((cfgM m hO).slots t 2)
abbrev ms3 (hO : Ok m) (t : Fin (cfgM m hO).N) : Memref sig .tc .vmem S1x1x1024x1024 .f32 := spec0_3.stage ((cfgM m hO).slots t 3)
abbrev ms4 (hO : Ok m) (t : Fin (cfgM m hO).N) : Memref sig .tc .vmem S1x1x1x1024 .f32 := spec0_4.stage ((cfgM m hO).slots t 4)
abbrev ms5 (hO : Ok m) (t : Fin (cfgM m hO).N) : Memref sig .tc .vmem S512x1024 .f32 := spec0_5.stage ((cfgM m hO).slots t 5)
abbrev scGu : Memref sig .tc .vmem S1024x2048 .bf16 := Memref.whole cc0_scratch0
abbrev scDown : Memref sig .tc .vmem S1024x1024 .bf16 := Memref.whole cc0_scratch1

/-- The body at a point, on what the pipeline calls it with. -/
abbrev bodyAt (hO : Ok m) (t : Fin (cfgM m hO).N) : Prog (TpuEff nD τ sig (Elt F) Λ₀ .tc) PUnit :=
  cc0_expert (grid0.coords t) tbE (Memref.isWhole_whole _) tbN (Memref.isWhole_whole _)
    (ms0 m hO t) (hstage0_0 (((cfgM m hO).slots t 0).cast nbuf0_0)) (ms1 m hO t) (hstage0_1 (((cfgM m hO).slots t 1).cast nbuf0_1))
    (ms2 m hO t) (hstage0_2 (((cfgM m hO).slots t 2).cast nbuf0_2)) (ms3 m hO t) (hstage0_3 (((cfgM m hO).slots t 3).cast nbuf0_3))
    (ms4 m hO t) (hstage0_4 (((cfgM m hO).slots t 4).cast nbuf0_4)) (ms5 m hO t) (hstage0_5 (((cfgM m hO).slots t 5).cast nbuf0_5))
    scGu (Memref.isWhole_whole _) scDown (Memref.isWhole_whole _)

/-- The scratch and the generator's register, as the launch hands them over. -/
theorem scoped_eq (c : Dev nD) :
    (Pipeline.ΦA spec0 c : sProp 𝕄)
      = iprop(iprop((∃ d, owns (c : Thread nD τ) scGu fullShare d) ∗ (∃ d, owns (c : Thread nD τ) scDown fullShare d)) ∗ (∃ r, prngReg c r)) := by
  unfold Pipeline.ΦA; rw [scopedRest0_eq]; simp only [scGu, scDown, owns_whole]; try rfl

/-- The output's block is written back at every point. -/
theorem flush_out (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

end Cert.Kernel2Ideal.Expert

end
-- ==== Proof.ExpertBody.lean ====
/- The experts' kernel body run once: what it leaves in its scratch and in its output's buffer. -/
module

public import proofs.«01_k».proof.Proof.ExpertKit
public import Idealize.ShloMosaic.Lib.WholeRead
public import Idealize.ShloMosaic.Lib.WritesUnit
public import Idealize.ShloMosaic.Lib.Pipeline.ReadBack

@[expose] public section

set_option maxRecDepth 16384

noncomputable section

namespace Cert.Kernel2Ideal.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

/-- A load of a whole buffer reads what the buffer holds. -/
theorem readAt_whole {sg : RefSig} {κ : Kind} {sp : Space} {Val : EltTy → Type} {e : EltTy} {s : Shape}
    (v : View sg κ sp s e) (f : v.ty.Contents Val) {off : Fin s.rank → ℕ} (inb : ∀ a, off a + s.size a ≤ s.size a) (h0 : ∀ a, off a = 0) :
    v.readAt Val (Rect.unit (s := s) off s.size inb).toLoadRect f = v.read Val f := by
  funext x
  have h : (Rect.unit (s := s) off s.size inb).toLoadRect.idx x = x := funext fun a => Fin.ext (by
    show off a + 1 * (x a).val = (x a).val
    rw [h0 a]; omega)
  show v.read Val f ((Rect.unit (s := s) off s.size inb).toLoadRect.idx x) = v.read Val f x
  rw [h]

theorem zero2 : ∀ a, (![0, 0] : Fin 2 → ℕ) a = 0 := by decide
theorem zero4 : ∀ a, (![0, 0, 0, 0] : Fin 4 → ℕ) a = 0 := by decide

theorem load2 {d : Fin 2 → ℕ} {sg : RefSig} {κ : Kind} {sp : Space} {Val : EltTy → Type} {e : EltTy} {M : Memref sg κ sp ⟨2, d⟩ e} (h : M.IsWhole)
    (inb : ∀ a, (![0, 0] : Fin 2 → ℕ) a + d a ≤ d a) (X : (⟨2, d⟩ : Shape).Idx → Val e) :
    M.view.readAt Val (Rect.unit (s := ⟨2, d⟩) ![0, 0] d inb).toLoadRect (h.unread X) = X :=
  (readAt_whole M.view _ inb zero2).trans (h.read_unread X)
theorem load4 {d : Fin 4 → ℕ} {sg : RefSig} {κ : Kind} {sp : Space} {Val : EltTy → Type} {e : EltTy} {M : Memref sg κ sp ⟨4, d⟩ e} (h : M.IsWhole)
    (inb : ∀ a, (![0, 0, 0, 0] : Fin 4 → ℕ) a + d a ≤ d a) (X : (⟨4, d⟩ : Shape).Idx → Val e) :
    M.view.readAt Val (Rect.unit (s := ⟨4, d⟩) ![0, 0, 0, 0] d inb).toLoadRect (h.unread X) = X :=
  (readAt_whole M.view _ inb zero4).trans (h.read_unread X)

/-- A store of a whole matrix is read back. -/
theorem read_whole_store {sg : RefSig} {κ : Kind} {sp : Space} {Val : EltTy → Type} {e : EltTy} {d : Fin 2 → ℕ}
    (v : View sg κ sp ⟨2, d⟩ e) (f : v.ty.Contents Val) (inb : ∀ a, (![0, 0] : Fin 2 → ℕ) a + d a ≤ d a)
    (w : (⟨2, d⟩ : Shape).Idx → Val e) (L : List (View.Piece Val (⟨2, d⟩ : Shape) e)) :
    v.read Val (v.writes Val f ((⟨Rect.unit (s := ⟨2, d⟩) ![0, 0] d inb, w⟩ : View.Piece Val (⟨2, d⟩ : Shape) e) :: L)) = w := by
  funext y
  exact View.read_writes_cons_unit_of_mem v f inb w L y y rfl fun a => by fin_cases a <;> simp

/-- A load of a whole matrix after a store of it reads what was stored. -/
theorem load_stored {sg : RefSig} {κ : Kind} {sp : Space} {Val : EltTy → Type} [∀ e, Nonempty (Val e)] {e : EltTy} {d : Fin 2 → ℕ}
    (v : View sg κ sp ⟨2, d⟩ e) (inb inb' : ∀ a, (![0, 0] : Fin 2 → ℕ) a + d a ≤ d a)
    (w : (⟨2, d⟩ : Shape).Idx → Val e) (L : List (View.Piece Val (⟨2, d⟩ : Shape) e)) :
    v.readCov ((⟨Rect.unit (s := ⟨2, d⟩) ![0, 0] d inb, w⟩ : View.Piece Val (⟨2, d⟩ : Shape) e) :: L)
      (Rect.unit (s := ⟨2, d⟩) ![0, 0] d inb').toLoadRect = w :=
  (readAt_whole v _ inb' zero2).trans (read_whole_store v _ inb w L)

/-- What the body leaves in its copies of the weights, over what they held. -/
def nextGu (c : Dev nD) (xe : TbBuf (F := F) c tbE) (i : grid0.Coords) (x1 : Vec F S1x1x1024x2048 .f32) (d : Vec F S1024x2048 .bf16) :
    Vec F S1024x2048 .bf16 := if Fresh c xe i then k0_pay1 x1 else d
def nextDown (c : Dev nD) (xe : TbBuf (F := F) c tbE) (i : grid0.Coords) (x3 : Vec F S1x1x1024x1024 .f32) (d : Vec F S1024x1024 .bf16) :
    Vec F S1024x1024 .bf16 := if Fresh c xe i then k0_pay2 x3 else d
/-- What it leaves in its output's buffer. -/
def outAt (c : Dev nD) (xn : TbBuf (F := F) c tbN) (i : grid0.Coords) (x0 : Vec F S512x1024 .f32) (gu : Vec F S1024x2048 .bf16)
    (x2 : Vec F S1x1x1x2048 .f32) (dn : Vec F S1024x1024 .bf16) (x4 : Vec F S1x1x1x1024 .f32) : Vec F S512x1024 .f32 :=
  if InUse c xn i then k0_pay3 x0 gu x2 dn x4 else k0_pay4

set_option maxHeartbeats 3000000 in
/-- The body's run, at any point and on any whole memrefs. -/
theorem run_body (c : Dev nD) (i : grid0.Coords)
    (arg3 : Memref sig .tc .vmem S512x1024 .f32) (harg3 : arg3.IsWhole) (arg4 : Memref sig .tc .vmem S1x1x1024x2048 .f32) (harg4 : arg4.IsWhole)
    (arg5 : Memref sig .tc .vmem S1x1x1x2048 .f32) (harg5 : arg5.IsWhole) (arg6 : Memref sig .tc .vmem S1x1x1024x1024 .f32) (harg6 : arg6.IsWhole)
    (arg7 : Memref sig .tc .vmem S1x1x1x1024 .f32) (harg7 : arg7.IsWhole) (arg8 : Memref sig .tc .vmem S512x1024 .f32) (harg8 : arg8.IsWhole)
    (arg9 : Memref sig .tc .vmem S1024x2048 .bf16) (harg9 : arg9.IsWhole) (arg10 : Memref sig .tc .vmem S1024x1024 .bf16) (harg10 : arg10.IsWhole)
    (x0 : Vec F S512x1024 .f32) (x1 : Vec F S1x1x1024x2048 .f32) (x2 : Vec F S1x1x1x2048 .f32) (x3 : Vec F S1x1x1024x1024 .f32)
    (x4 : Vec F S1x1x1x1024 .f32) (d9 : Vec F S1024x2048 .bf16) (d10 : Vec F S1024x1024 .bf16)
    (xe : TbBuf (F := F) c tbE) (xn : TbBuf (F := F) c tbN) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) arg9 fullShare d9 ∗ owns (c : Thread nD τ) arg10 fullShare d10 ∗ tbPt c tbE xe ∗ tbPt c tbN xn
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (outAt c xn i x0 (nextGu c xe i x1 d9) x2 (nextDown c xe i x3 d10) x4)
            ∗ owns (c : Thread nD τ) arg9 fullShare (nextGu c xe i x1 d9) ∗ owns (c : Thread nD τ) arg10 fullShare (nextDown c xe i x3 d10)
            ∗ tbPt c tbE xe ∗ tbPt c tbN xn) -∗ K ⟨⟩))
      ⊢ wp frame (wpE (defs₀ (F := F)) Variants.none c none) E
          (cc0_expert i tbE (Memref.isWhole_whole _) tbN (Memref.isWhole_whole _) arg3 harg3 arg4 harg4 arg5 harg5 arg6 harg6 arg7 harg7 arg8 harg8 arg9 harg9 arg10 harg10) K := by
  simp only [cc0_expert_eq_skeleton]; unfold cc0_expert_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f9, %hf9, H9⟩, ⟨%f10, %hf10, H10⟩, HT0, HT1, Hk⟩
  obtain rfl := harg3.eq_unread hf0; obtain rfl := harg4.eq_unread hf1; obtain rfl := harg5.eq_unread hf2; obtain rfl := harg6.eq_unread hf3
  obtain rfl := harg7.eq_unread hf4; obtain rfl := harg9.eq_unread hf9; obtain rfl := harg10.eq_unread hf10
  by_cases h1 : Fresh c xe i <;> by_cases h2 : InUse c xn i
  · have h3 : ¬k0_cond3 i (used c xn) = 1#1 := fun h => (unused_iff i _).mp h h2
    sl_exec (disch := first | sl_exact h1 | sl_exact h2 | sl_exact h3)
    sl_step
    iapply Hk
    rw [nextGu, nextDown, outAt, if_pos h1, if_pos h1, if_pos h2]
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr
      swap; · iexact H5
      ipureintro
      refine (read_whole_store arg8.view _ _ _ _).trans ?_
      rw [load2 harg3 _ x0, load4 harg5 _ x2, load4 harg7 _ x4]
      unfold run_body.sl.v21 run_body.sl.v43 run_body.sl.H9_1 run_body.sl.H10_1
      rw [load_stored arg9.view, load_stored arg10.view, load4 harg4 _ x1, load4 harg6 _ x3]
    isplitl [H9]
    · iexists _; isplitr
      swap; · iexact H9
      ipureintro
      exact (read_whole_store arg9.view _ _ _ _).trans (congrArg k0_pay1 (load4 harg4 _ x1))
    isplitl [H10]
    · iexists _; isplitr
      swap; · iexact H10
      ipureintro
      exact (read_whole_store arg10.view _ _ _ _).trans (congrArg k0_pay2 (load4 harg6 _ x3))
    isplitl [HT0]; · iexact HT0
    iexact HT1
  · have h3 : k0_cond3 i (used c xn) = 1#1 := (unused_iff i _).mpr h2
    sl_exec (disch := first | sl_exact h1 | sl_exact h2 | sl_exact h3)
    sl_step
    iapply Hk
    rw [nextGu, nextDown, outAt, if_pos h1, if_pos h1, if_neg h2]
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr
      swap; · iexact H5
      ipureintro
      exact read_whole_store arg8.view _ _ _ _
    isplitl [H9]
    · iexists _; isplitr
      swap; · iexact H9
      ipureintro
      exact (read_whole_store arg9.view _ _ _ _).trans (congrArg k0_pay1 (load4 harg4 _ x1))
    isplitl [H10]
    · iexists _; isplitr
      swap; · iexact H10
      ipureintro
      exact (read_whole_store arg10.view _ _ _ _).trans (congrArg k0_pay2 (load4 harg6 _ x3))
    isplitl [HT0]; · iexact HT0
    iexact HT1
  · have h3 : ¬k0_cond3 i (used c xn) = 1#1 := fun h => (unused_iff i _).mp h h2
    sl_exec (disch := first | sl_exact h1 | sl_exact h2 | sl_exact h3)
    sl_step
    iapply Hk
    rw [nextGu, nextDown, outAt, if_neg h1, if_neg h1, if_pos h2]
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr
      swap; · iexact H5
      ipureintro
      refine (read_whole_store arg8.view _ _ _ _).trans ?_
      rw [load2 harg3 _ x0, load2 harg9 _ d9, load4 harg5 _ x2, load2 harg10 _ d10, load4 harg7 _ x4]
    isplitl [H9]
    · iexists _; isplitr
      swap; · iexact H9
      ipureintro
      exact harg9.read_unread _
    isplitl [H10]
    · iexists _; isplitr
      swap; · iexact H10
      ipureintro
      exact harg10.read_unread _
    isplitl [HT0]; · iexact HT0
    iexact HT1
  · have h3 : k0_cond3 i (used c xn) = 1#1 := (unused_iff i _).mpr h2
    sl_exec (disch := first | sl_exact h1 | sl_exact h2 | sl_exact h3)
    sl_step
    iapply Hk
    rw [nextGu, nextDown, outAt, if_neg h1, if_neg h1, if_neg h2]
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr
      swap; · iexact H5
      ipureintro
      exact read_whole_store arg8.view _ _ _ _
    isplitl [H9]
    · iexists _; isplitr
      swap; · iexact H9
      ipureintro
      exact harg9.read_unread _
    isplitl [H10]
    · iexists _; isplitr
      swap; · iexact H10
      ipureintro
      exact harg10.read_unread _
    isplitl [HT0]; · iexact HT0
    iexact HT1

end Cert.Kernel2Ideal.Expert

end
-- ==== Proof.ExpertFrame.lean ====
/- The experts' call: its pipeline's data, the obligation of its body at every point, and the run of the whole program. -/
module

public import proofs.«01_k».proof.Proof.ExpertBody

@[expose] public section

set_option maxRecDepth 16384

noncomputable section

namespace Cert.Kernel2Ideal.Expert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words, by index -/

/-- A grid point as an index of the table of experts. -/
def pt (i : grid0.Coords) : S191.Idx := fun | 0 => ⟨(i 0).val, (i 0).isLt⟩
/-- The one index of the table of the number of blocks. -/
def pt1 : S1.Idx := fun | 0 => ⟨0, Nat.one_pos⟩

theorem emb_first {n : ℕ} (off : Fin 1 → ℕ) (inb : ∀ a, off a + S1.size a ≤ (⟨1, ![n]⟩ : Shape).size a) (h1 : 0 < S1.numel) (y : (⟨1, ![n]⟩ : Shape).Idx)
    (hy : (y 0).val = off 0) : (Rect.unit (s := ⟨1, ![n]⟩) off S1.size inb).emb (Shape.Idx.first h1) = y := by
  funext a
  obtain rfl : a = 0 := Subsingleton.elim _ _
  apply Fin.ext
  show off 0 + 1 * (Shape.Idx.first (s := S1) h1 0).val = (y 0).val
  have : (Shape.Idx.first (s := S1) h1 0).val = 0 := Nat.lt_one_iff.mp (Shape.Idx.first (s := S1) h1 0).isLt
  rw [this, hy]; omega

theorem expertAt_eq (c : Dev nD) (xe : TbBuf (F := F) c tbE) (i : grid0.Coords) : expertAt c xe i = xe (pt i) :=
  congrArg (fun y : S191.Idx => xe y) (emb_first (n := 191) (k0_off1 i) (k0_off1_inb i) (numel1_S1.symm ▸ Nat.one_pos) (pt i) (congrFun (k0_off1_eq i) 0).symm)

theorem used_eq (c : Dev nD) (xn : TbBuf (F := F) c tbN) : used c xn = xn pt1 :=
  congrArg (fun y : S1.Idx => xn y) (emb_first (n := 1) ![0] inb_S1_S1_0 (numel1_S1.symm ▸ Nat.one_pos) pt1 rfl)

theorem off_before : ∀ t : Fin grid0.N, t.val ≠ 0 → k0_off2 (grid0.coords t) 0 = t.val - 1 := by decide +kernel
theorem coords_zero : ∀ t : Fin grid0.N, (grid0.coords t 0).val = t.val := by decide +kernel

theorem expertBefore_eq (c : Dev nD) (xe : TbBuf (F := F) c tbE) (t : Fin grid0.N) (ht : t.val ≠ 0) (h' : t.val - 1 < grid0.N) :
    expertBefore c xe (grid0.coords t) = xe (pt (grid0.coords ⟨t.val - 1, h'⟩)) :=
  congrArg (fun y : S191.Idx => xe y) (emb_first (n := 191) (k0_off2 _) (k0_off2_inb _) (numel1_S1.symm ▸ Nat.one_pos) (pt (grid0.coords ⟨t.val - 1, h'⟩))
    ((coords_zero ⟨t.val - 1, h'⟩).trans (off_before t ht).symm))

theorem fresh_iff (c : Dev nD) (xe : TbBuf (F := F) c tbE) (i : grid0.Coords) :
    Fresh c xe i ↔ (i 0).val = 0 ∨ expertAt c xe i ≠ expertBefore c xe i := by
  have hp : ∀ p q : Bool, ((Scalar.cmpi .ne (Scalar.extui (Scalar.ori (BitVec.ofBool p) (BitVec.ofBool q)) : BitVec 32) 0#32) = 1#1 ↔ (p = true ∨ q = true)) := by decide
  have hi : (i 0).val < 191 := (i 0).isLt
  refine (hp (BitVec.ofNat 32 (i 0).val == 0#32) (expertAt c xe i != expertBefore c xe i)).trans (or_congr ?_ bne_iff_ne)
  rw [beq_iff_eq, ← BitVec.toNat_inj, BitVec.toNat_ofNat, BitVec.toNat_ofNat]
  omega

/-! ## The pipeline's data -/

/-- What is held before a point: at first the scratch at anything; afterwards the copies of the weights the point before
    used. Beside them the generator's register and the tables. -/
def Inv (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scGu fullShare (k0_pay1 (iblk m hO c 1 ⟨n, hn⟩))
      ∗ owns (c : Thread nD τ) scDown fullShare (k0_pay2 (iblk m hO c 3 ⟨n, hn⟩))) ∗ (∃ r, prngReg c r)) ∗ Pipeline.ΦT pre0 (tbl m) c)

/-- What a point leaves in the output's buffer. -/
def out (hO : Ok m) (c : Dev nD) (t : Fin (cfgM m hO).N) : Vec F S512x1024 .f32 :=
  outAt c (tbl m 1) (grid0.coords t) (iblk m hO c 0 t) (k0_pay1 (iblk m hO c 1 t)) (iblk m hO c 2 t) (k0_pay2 (iblk m hO c 3 t)) (iblk m hO c 4 t)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => out m hO c t
  Φ t := Inv m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = out m hO c t := by dsimp only [dats]; try rfl

/-- Two points with one expert have the same blocks of weights. -/
theorem iblk_congr1 (hO : Ok m) (c : Dev nD) (t t' : Fin (cfgM m hO).N) (h : ((cfgM m hO).win 1).index t = ((cfgM m hO).win 1).index t') :
    iblk m hO c 1 t = iblk m hO c 1 t' := by
  have e : ∀ s d, (dats m hO 0 c).fetched 1 s d = iblk m hO c 1 s := fun s d => by unfold Dat.fetched Dat.blockOf iblk; rw [A_eq]; try rfl
  have hd : Nonempty (((cfgM m hO).win 1).block.Idx → Elt F ((cfgM m hO).win 1).elt) := ⟨(dats m hO 0 c).after 1 t⟩
  obtain ⟨d⟩ := hd
  exact (e t d).symm.trans (((dats m hO 0 c).fetched_congr 1 h (by rfl) d).trans (e t' d))
theorem iblk_congr3 (hO : Ok m) (c : Dev nD) (t t' : Fin (cfgM m hO).N) (h : ((cfgM m hO).win 3).index t = ((cfgM m hO).win 3).index t') :
    iblk m hO c 3 t = iblk m hO c 3 t' := by
  have e : ∀ s d, (dats m hO 0 c).fetched 3 s d = iblk m hO c 3 s := fun s d => by unfold Dat.fetched Dat.blockOf iblk; rw [A_eq]; try rfl
  have hd : Nonempty (((cfgM m hO).win 3).block.Idx → Elt F ((cfgM m hO).win 3).elt) := ⟨(dats m hO 0 c).after 3 t⟩
  obtain ⟨d⟩ := hd
  exact (e t d).symm.trans (((dats m hO 0 c).fetched_congr 3 h (by rfl) d).trans (e t' d))

/-- The block index of the weights of a point. -/
theorem index1 (hO : Ok m) (t : Fin (cfgM m hO).N) :
    ((cfgM m hO).win 1).index t = ![0, (tbl m 0 (pt (grid0.coords t)) : BitVec 32).toNat, 0, 0] :=
  congrArg (fun y : S191.Idx => ![0, (tbl m 0 y : BitVec 32).toNat, 0, 0]) (emb_first (n := 191) (k0_off1 (grid0.coords t)) (k0_off1_inb _)
    (numel1_S1.symm ▸ Nat.one_pos) (pt (grid0.coords t)) (congrFun (k0_off1_eq _) 0).symm)
theorem index3 (hO : Ok m) (t : Fin (cfgM m hO).N) :
    ((cfgM m hO).win 3).index t = ![0, (tbl m 0 (pt (grid0.coords t)) : BitVec 32).toNat, 0, 0] :=
  congrArg (fun y : S191.Idx => ![0, (tbl m 0 y : BitVec 32).toNat, 0, 0]) (emb_first (n := 191) (k0_off1 (grid0.coords t)) (k0_off1_inb _)
    (numel1_S1.symm ▸ Nat.one_pos) (pt (grid0.coords t)) (congrFun (k0_off1_eq _) 0).symm)

theorem same_expert (c : Dev nD) (t : Fin grid0.N) (ht : t.val ≠ 0) (h' : t.val - 1 < grid0.N) (h : ¬Fresh c (tbl m 0) (grid0.coords t)) :
    tbl m 0 (pt (grid0.coords t)) = tbl m 0 (pt (grid0.coords ⟨t.val - 1, h'⟩)) := by
  have h2 := not_not.mp (not_or.mp (mt (fresh_iff c (tbl m 0) (grid0.coords t)).mpr h)).2
  exact (expertAt_eq c (tbl m 0) _).symm.trans (h2.trans (expertBefore_eq c (tbl m 0) t ht h'))

/-- After any point the copies are those of the point's own weights. -/
theorem nextGu_eq (hO : Ok m) (c : Dev nD) (t : Fin (cfgM m hO).N) (ht : t.val ≠ 0) (h' : t.val - 1 < (cfgM m hO).N) :
    nextGu c (tbl m 0) (grid0.coords t) (iblk m hO c 1 t) (k0_pay1 (iblk m hO c 1 ⟨t.val - 1, h'⟩)) = k0_pay1 (iblk m hO c 1 t) := by
  by_cases h : Fresh c (tbl m 0) (grid0.coords t)
  · exact if_pos h
  · refine (if_neg h).trans (congrArg k0_pay1 (iblk_congr1 m hO c _ _ ?_))
    rw [index1, index1, same_expert m c t ht h' h]
theorem nextDown_eq (hO : Ok m) (c : Dev nD) (t : Fin (cfgM m hO).N) (ht : t.val ≠ 0) (h' : t.val - 1 < (cfgM m hO).N) :
    nextDown c (tbl m 0) (grid0.coords t) (iblk m hO c 3 t) (k0_pay2 (iblk m hO c 3 ⟨t.val - 1, h'⟩)) = k0_pay2 (iblk m hO c 3 t) := by
  by_cases h : Fresh c (tbl m 0) (grid0.coords t)
  · exact if_pos h
  · refine (if_neg h).trans (congrArg k0_pay2 (iblk_congr3 m hO c _ _ ?_))
    rw [index3, index3, same_expert m c t ht h' h]

theorem fresh_first (c : Dev nD) (t : Fin grid0.N) (ht : t.val = 0) : Fresh c (tbl m 0) (grid0.coords t) :=
  (fresh_iff c _ _).mpr (.inl ((coords_zero t).trans ht))

/-! ## The body at every point -/

/-- What the body is called with at a point, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t))

/-- The scratch, the register and the tables, the scratch at any contents that the body turns into this point's copies. -/
def Held (hO : Ok m) (c : Dev nD) (t : Fin (cfgM m hO).N) : sProp 𝕄 :=
  iprop(∃ d9 d10, ⌜nextGu c (tbl m 0) (grid0.coords t) (iblk m hO c 1 t) d9 = k0_pay1 (iblk m hO c 1 t)
      ∧ nextDown c (tbl m 0) (grid0.coords t) (iblk m hO c 3 t) d10 = k0_pay2 (iblk m hO c 3 t)⌝
    ∗ owns (c : Thread nD τ) scGu fullShare d9 ∗ owns (c : Thread nD τ) scDown fullShare d10 ∗ (∃ r, prngReg c r)
    ∗ tbPt c tbE (tbl m 0) ∗ tbPt c tbN (tbl m 1))

theorem held (hO : Ok m) (c : Dev nD) (t : Fin (cfgM m hO).N) : (dats m hO 0 c).Φ t.castSucc ⊢ Held m hO c t := by
  obtain ⟨n, hn⟩ := t
  rw [show (dats m hO 0 c).Φ (Fin.castSucc ⟨n, hn⟩) = Inv m hO c n (Nat.le_of_lt hn) from rfl]
  unfold Held
  cases n with
  | zero =>
    have h := fresh_first m c ⟨0, hn⟩ rfl
    rw [Inv, scoped_eq, tables_eq]
    iintro ⟨⟨⟨⟨%d9, H9⟩, ⟨%d10, H10⟩⟩, Hg⟩, ⟨HT0, HT1⟩⟩
    iexists d9; iexists d10
    isplitr
    · ipureintro; exact ⟨if_pos h, if_pos h⟩
    isplitl [H9]; · iexact H9
    isplitl [H10]; · iexact H10
    isplitl [Hg]; · iexact Hg
    isplitl [HT0]; · iexact HT0
    iexact HT1
  | succ n =>
    rw [Inv, tables_eq]
    iintro ⟨⟨⟨H9, H10⟩, Hg⟩, ⟨HT0, HT1⟩⟩
    iexists _; iexists _
    isplitr
    swap
    · isplitl [H9]; · iexact H9
      isplitl [H10]; · iexact H10
      isplitl [Hg]; · iexact Hg
      isplitl [HT0]; · iexact HT0
      iexact HT1
    ipureintro
    exact ⟨nextGu_eq m hO c ⟨n + 1, hn⟩ (Nat.succ_ne_zero n) (Nat.lt_of_succ_lt hn), nextDown_eq m hO c ⟨n + 1, hn⟩ (Nat.succ_ne_zero n) (Nat.lt_of_succ_lt hn)⟩

set_option maxHeartbeats 3000000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  refine (show bodyPre m hO c t ⊢ iprop(Held m hO c t ∗ (dats m hO 0 c).owesAt () t.castSucc
    ∗ owns (c : Thread nD τ) (ms0 m hO t) fullShare (iblk m hO c 0 t) ∗ owns (c : Thread nD τ) (ms1 m hO t) fullShare (iblk m hO c 1 t)
    ∗ owns (c : Thread nD τ) (ms2 m hO t) fullShare (iblk m hO c 2 t) ∗ owns (c : Thread nD τ) (ms3 m hO t) fullShare (iblk m hO c 3 t)
    ∗ owns (c : Thread nD τ) (ms4 m hO t) fullShare (iblk m hO c 4 t) ∗ (∃ d, owns (c : Thread nD τ) (ms5 m hO t) fullShare d)) from ?_).trans ?_
  · unfold bodyPre
    simp only [before_0 (dats m hO 0 c) (A_eq m hO c 0) (after_0 m hO c), before_1 (dats m hO 0 c) (A_eq m hO c 1) (after_1 m hO c),
      before_2 (dats m hO 0 c) (A_eq m hO c 2) (after_2 m hO c), before_3 (dats m hO 0 c) (A_eq m hO c 3) (after_3 m hO c),
      before_4 (dats m hO 0 c) (A_eq m hO c 4) (after_4 m hO c)]
    iintro ⟨HΦ, Ho, ⟨%d0, H0⟩, ⟨%d1, H1⟩, ⟨%d2, H2⟩, ⟨%d3, H3⟩, ⟨%d4, H4⟩, ⟨%d5, H5⟩⟩
    isplitl [HΦ]; · iapply (held m hO c t); iexact HΦ
    isplitl [Ho]; · iexact Ho
    isplitl [H0]; · iexact H0
    isplitl [H1]; · iexact H1
    isplitl [H2]; · iexact H2
    isplitl [H3]; · iexact H3
    isplitl [H4]; · iexact H4
    iexists _; iexact H5
  · unfold bodyPost bodyAt
    rw [show (dats m hO 0 c).owesAt () t.succ = (dats m hO 0 c).owesAt () t.castSucc from rfl,
      after_0, after_1, after_2, after_3, after_4, after_5,
      show (dats m hO 0 c).Φ t.succ = Inv m hO c (t.val + 1) t.isLt from rfl, Inv, tables_eq]
    unfold Held
    iintro ⟨⟨%d9, %d10, %hd, H9, H10, Hg, HT0, HT1⟩, Ho, H0, H1, H2, H3, H4, H5⟩
    iapply (run_body c (grid0.coords t) _ _ _ _ _ _ _ _ _ _ _ _ _ _ _ _ (iblk m hO c 0 t) (iblk m hO c 1 t) (iblk m hO c 2 t) (iblk m hO c 3 t)
      (iblk m hO c 4 t) d9 d10 (tbl m 0) (tbl m 1) Set.univ _)
    rw [hd.1, hd.2]
    isplitl [H0]; · iexact H0
    isplitl [H1]; · iexact H1
    isplitl [H2]; · iexact H2
    isplitl [H3]; · iexact H3
    isplitl [H4]; · iexact H4
    isplitl [H5]; · iexact H5
    isplitl [H9]; · iexact H9
    isplitl [H10]; · iexact H10
    isplitl [HT0]; · iexact HT0
    isplitl [HT1]; · iexact HT1
    iintro ⟨H0, H1, H2, H3, H4, H5, H9, H10, HT0, HT1⟩
    isplitl [H9 H10 Hg HT0 HT1]
    · isplitl [H9 H10 Hg]
      · isplitl [H9 H10]
        · isplitl [H9]; · iexact H9
          iexact H10
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5

theorem defs_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The output is written back at every point, so what a point leaves there is asked for whether or not it stored. -/
theorem body_obligation (hO : Ok m) (c : Dev nD) : BodyObligation (dats (F := F) m hO 0 c) (defs₀ (F := F)) Variants.none () Set.univ := fun t => by
  rw [bigSep_W0, bigSep_W0, defs_row m hO]
  refine triple_restated (sound_body m hO c t) rfl .rfl fun _ => ?_
  have hf := flush_out (adm m hO) t
  unfold bodyPost
  iintro ⟨HΦ, Ho, H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  dsimp only
  split
  · split
    · rename_i h
      exact absurd (hf.symm.trans h) (by decide)
    · iexact H5
  · iexact H5

/-! ## The run -/

theorem inv_in (hO : Ok m) (c : Dev nD) : iprop(Pipeline.ΦA spec0 c ∗ Pipeline.ΦT pre0 (tbl m) c) ⊢ (dats m hO 0 c).Φ 0 :=
  Idealize.SL.BI.Entails.refl _

theorem inv_out (hO : Ok m) (c : Dev nD) : (dats m hO 0 c).Φ (Fin.last (cfgM m hO).N) ⊢ Pipeline.ΦA spec0 c := by
  have hN : (cfgM m hO).N = 190 + 1 := N_0
  rw [show (dats m hO 0 c).Φ (Fin.last (cfgM m hO).N) = Inv m hO c (cfgM m hO).N le_rfl from rfl]
  have key : ∀ n (h : n + 1 ≤ (cfgM m hO).N), Inv m hO c (n + 1) h ⊢ Pipeline.ΦA spec0 c := by
    intro n h
    rw [Inv, scoped_eq]
    iintro ⟨⟨⟨H9, H10⟩, Hg⟩, -⟩
    isplitl [H9 H10]
    · isplitl [H9]
      · iexists _; iexact H9
      iexists _; iexact H10
    iexact Hg
  have gen : ∀ n (h : n ≤ (cfgM m hO).N), n = 190 + 1 → Inv m hO c n h ⊢ Pipeline.ΦA spec0 c := by
    rintro n h rfl; exact key 190 h
  exact gen _ _ hN

set_option backward.isDefEq.respectTransparency.types false in
/-- The whole program's run: the arrays end at what the data says, every other buffer as found, every counter at zero. -/
theorem run (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := host_main m Variants.none) (hA := A_eq m hO) (hpf := V_tbl m)
    (hin := inv_in m hO) (hout := inv_out m hO)

/-- After the run every argument is as launched. -/
theorem kept_of (hO : Ok m) (r : PUnit × MemSt nD τ sig (Elt F))
    (h : (Pipeline.FramePost (Pipeline.pin pcfgs fun _ => adm m hO) (dats m hO) 0 (V m)) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨
    (((h c).2 main_arg0 (by decide : main_arg0 ∈ Pipeline.restRefs sig spec0)).trans (V_kept m c _ (by decide) (by decide))),
    (((h c).2 main_arg1 (by decide : main_arg1 ∈ Pipeline.restRefs sig spec0)).trans (V_kept m c _ (by decide) (by decide))),
    (((h c).1 0).trans (((dats m hO 0 c).arrAt_in 0 rfl _).trans ((A_eq m hO c 0).trans (V_kept m c main_arg2 (by decide) (by decide))))),
    (((h c).1 1).trans (((dats m hO 0 c).arrAt_in 1 rfl _).trans ((A_eq m hO c 1).trans (V_kept m c main_arg3 (by decide) (by decide))))),
    (((h c).2 main_arg4 (by decide : main_arg4 ∈ Pipeline.restRefs sig spec0)).trans (V_kept m c _ (by decide) (by decide))),
    (((h c).1 3).trans (((dats m hO 0 c).arrAt_in 3 rfl _).trans ((A_eq m hO c 3).trans (V_kept m c main_arg5 (by decide) (by decide))))),
    (((h c).2 main_arg6 (by decide : main_arg6 ∈ Pipeline.restRefs sig spec0)).trans (V_kept m c _ (by decide) (by decide)))⟩

/-- Every argument ends unchanged, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => kept_of m hO r h.1 c, h.2⟩) (run m ρ hO)

end Cert.Kernel2Ideal.Expert

end
-- ==== Proof.ExpertOk.lean ====
/- The experts' precondition, read: the words of the tables it bounds, and that every block they name lies inside its array. -/
module

public import proofs.«01_k».proof.Proof.Gen.Pre_routed
public import proofs.«01_k».proof.Proof.ExpertFrame
public import Idealize.ShloMosaic.Lib.ReduceAll

@[expose] public section

set_option maxRecDepth 16384

noncomputable section

namespace Cert.Pre_routed.Read

open Idealize.ShloMosaic Cert.Pre_routed.Gen

variable {F : FTy → Type} [FloatOps F]

theorem toInt_cases (w : BitVec 32) : (w.toInt = w.toNat ∧ w.toNat < 2 ^ 31) ∨ w.toInt < 0 := by
  have := w.isLt
  rw [BitVec.toInt_eq_toNat_cond]
  split <;> omega

theorem word {b : Bool} (h : BitVec.ofBool b = 1#1) : b = true := by
  revert h; revert b; decide

theorem lt_of_words (w : BitVec 32) (a : IntOp.cmpi .sge w 0#32 = 1#1) (b : IntOp.cmpi .slt w 32#32 = 1#1) : w.toNat < 32 := by
  have a' : (0#32).toInt ≤ w.toInt := by have := word (b := BitVec.sle 0#32 w) a; rwa [BitVec.sle_eq_decide, decide_eq_true_eq] at this
  have b' : w.toInt < (32#32).toInt := by have := word (b := BitVec.slt w 32#32) b; rwa [BitVec.slt_eq_decide, decide_eq_true_eq] at this
  rw [show (0#32).toInt = 0 from by decide] at a'
  rw [show (32#32).toInt = 32 from by decide] at b'
  rcases toInt_cases w with ⟨h, -⟩ | h <;> omega

theorem pos_of_word (w : BitVec 32) (a : IntOp.cmpi .sge w 1#32 = 1#1) : 1 ≤ w.toNat ∧ w.toNat < 2 ^ 31 := by
  have a' : (1#32).toInt ≤ w.toInt := by have := word (b := BitVec.sle 1#32 w) a; rwa [BitVec.sle_eq_decide, decide_eq_true_eq] at this
  rw [show (1#32).toInt = 1 from by decide] at a'
  rcases toInt_cases w with ⟨h, h'⟩ | h <;> omega

/-- The experts lie in 0 … 31 and the number of blocks is at least 1. -/
theorem bounds (e : IVec S191 32) (n : IVec S1 32) (x : FVec F S97792x1024 .f32) (wg : FVec F S2x32x1024x2048 .f32) (bg : FVec F S2x32x2048 .f32)
    (wd : FVec F S2x32x1024x1024 .f32) (bd : FVec F S2x32x1024 .f32) (h : Cert.Pre_routed.fn (F := F) e n x wg bg wd bd = fun _ => 1#1) :
    (∀ i, (e i).toNat < 32) ∧ ∀ i, 1 ≤ (n i).toNat ∧ (n i).toNat < 2 ^ 31 := by
  have h0 := congrFun h (Shape.Idx.first h_S_)
  obtain ⟨h1, h3⟩ := IntOp.andi_eq_one.mp h0
  obtain ⟨h1, h2⟩ := IntOp.andi_eq_one.mp h1
  constructor
  · intro i
    exact lt_of_words (e i) (Host.reduce_andi_all _ _ _ _ _ h1 i) (Host.reduce_andi_all _ _ _ _ _ h2 i)
  · intro i
    exact pos_of_word (n i) (Host.reduce_andi_all _ _ _ _ _ h3 i)

end Cert.Pre_routed.Read

namespace Cert.Kernel2Ideal.Expert

open Idealize.ShloMosaic Idealize.ShloMosaic.TcCoe Idealize.SL.Sem
open Cert.Kernel2Ideal.Gen

variable {F : FTy → Type} [FloatOps F]
variable (m : (ℓ : Loc nD τ sig) → Buf (Elt F) ℓ)

/-- The tables' words are within bounds. -/
structure Routed : Prop where
  expert : ∀ i : S191.Idx, (tbl m 0 i : BitVec 32).toNat < 32
  pos : 1 ≤ (tbl m 1 pt1 : BitVec 32).toNat
  lt : (tbl m 1 pt1 : BitVec 32).toNat < 2 ^ 31

theorem routed_of (h : ∀ c : Dev nD, Cert.Pre_routed.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = fun _ => 1#1) : Routed m := by
  obtain ⟨he, hn⟩ := Cert.Pre_routed.Read.bounds _ _ _ _ _ _ _ (h 0)
  have e0 : tbl m 0 = m (((0 : Dev nD) : Thread nD τ).loc main_arg0) := V_kept m 0 main_arg0 (by decide) (by decide)
  have e1 : tbl m 1 = m (((0 : Dev nD) : Thread nD τ).loc main_arg1) := V_kept m 0 main_arg1 (by decide) (by decide)
  exact ⟨fun i => by rw [e0]; exact he i, by rw [e1]; exact (hn pt1).1, by rw [e1]; exact (hn pt1).2⟩

/-- The block of rows a point reads: its own, or the last block in use past the end. -/
theorem minsi_toNat (a : ℕ) (w : BitVec 32) (ha : a < 191) (h1 : 1 ≤ w.toNat) (h2 : w.toNat < 2 ^ 31) :
    (Scalar.minsi (BitVec.ofNat 32 a) (Scalar.subi w 1#32)).toNat = min a (w.toNat - 1) := by
  have hs : (Scalar.subi w 1#32).toNat = w.toNat - 1 := by
    show (w - 1#32).toNat = _
    rw [BitVec.toNat_sub]; simp; omega
  show (if (BitVec.ofNat 32 a).slt (Scalar.subi w 1#32) then BitVec.ofNat 32 a else Scalar.subi w 1#32).toNat = _
  have hx : (BitVec.ofNat 32 a).toNat = a := by rw [BitVec.toNat_ofNat]; omega
  have hc : (BitVec.ofNat 32 a).slt (Scalar.subi w 1#32) = decide (a < w.toNat - 1) := by
    rw [BitVec.slt_eq_decide, BitVec.toInt_eq_toNat_cond, BitVec.toInt_eq_toNat_cond, hx, hs, if_pos (by omega), if_pos (by omega)]
    simp
  rw [hc]
  by_cases h : a < w.toNat - 1
  · simp only [h, decide_true, if_true]; rw [hx]; omega
  · simp only [h, decide_false]; rw [if_neg (by decide), hs]; omega

theorem index0' (i : grid0.Coords) : cc0_transform_0 inb_S1_S1_0 numel1_S1 (tbl m) i
    = ![(Scalar.minsi (BitVec.ofNat 32 (i 0).val) (Scalar.subi (tbl m 1 pt1) 1#32)).toNat, 0] :=
  congrArg (fun y : S1.Idx => ![(Scalar.minsi (BitVec.ofNat 32 (i 0).val) (Scalar.subi (tbl m 1 y) 1#32)).toNat, 0])
    (emb_first (n := 1) ![0] inb_S1_S1_0 (numel1_S1.symm ▸ Nat.one_pos) pt1 rfl)

/-- With the words in bounds every block lies inside its array. -/
theorem ok_of (h : Routed m) : Ok m := by
  have e : ∀ i : grid0.Coords, ((cc0_transform_1 k0_off1_inb numel1_S1 (tbl m) i) : Fin 4 → ℕ) = ![0, (tbl m 0 (pt i) : BitVec 32).toNat, 0, 0] := fun i =>
    congrArg (fun y : S191.Idx => ![0, (tbl m 0 y : BitVec 32).toNat, 0, 0]) (emb_first (n := 191) (k0_off1 i) (k0_off1_inb _)
      (numel1_S1.symm ▸ Nat.one_pos) (pt i) (congrFun (k0_off1_eq _) 0).symm)
  refine ⟨fun i => ⟨?_, .inl rfl⟩, fun i => ⟨?_, .inl rfl⟩, fun i => ⟨?_, .inl rfl⟩, fun i => ⟨?_, .inl rfl⟩, fun i => ⟨?_, .inl rfl⟩⟩
  · rw [index0', minsi_toNat _ _ (i 0).isLt h.pos h.lt]
    have h0 : (i 0).val < 191 := (i 0).isLt
    intro a
    match a with
    | ⟨0, _⟩ => show (min (i 0).val _ + 1) * 512 ≤ 97792; omega
    | ⟨1, _⟩ => show (0 + 1) * 1024 ≤ 1024; omega
  · rw [e]
    have := Nat.succ_le_of_lt (h.expert (pt i))
    intro a
    match a with
    | ⟨0, _⟩ => show (0 + 1) * 1 ≤ 2; omega
    | ⟨1, _⟩ => exact (Nat.mul_one _).le.trans this
    | ⟨2, _⟩ => show (0 + 1) * 1024 ≤ 1024; omega
    | ⟨3, _⟩ => show (0 + 1) * 2048 ≤ 2048; omega
  · rw [show cc0_transform_2 k0_off1_inb numel1_S1 (tbl m) i = _ from e i]
    have := Nat.succ_le_of_lt (h.expert (pt i))
    intro a
    match a with
    | ⟨0, _⟩ => show (0 + 1) * 1 ≤ 2; omega
    | ⟨1, _⟩ => exact (Nat.mul_one _).le.trans this
    | ⟨2, _⟩ => show (0 + 1) * 1 ≤ 1; omega
    | ⟨3, _⟩ => show (0 + 1) * 2048 ≤ 2048; omega
  · rw [show cc0_transform_3 k0_off1_inb numel1_S1 (tbl m) i = _ from e i]
    have := Nat.succ_le_of_lt (h.expert (pt i))
    intro a
    match a with
    | ⟨0, _⟩ => show (0 + 1) * 1 ≤ 2; omega
    | ⟨1, _⟩ => exact (Nat.mul_one _).le.trans this
    | ⟨2, _⟩ => show (0 + 1) * 1024 ≤ 1024; omega
    | ⟨3, _⟩ => show (0 + 1) * 1024 ≤ 1024; omega
  · rw [show cc0_transform_4 k0_off1_inb numel1_S1 (tbl m) i = _ from e i]
    have := Nat.succ_le_of_lt (h.expert (pt i))
    intro a
    match a with
    | ⟨0, _⟩ => show (0 + 1) * 1 ≤ 2; omega
    | ⟨1, _⟩ => exact (Nat.mul_one _).le.trans this
    | ⟨2, _⟩ => show (0 + 1) * 1 ≤ 1; omega
    | ⟨3, _⟩ => show (0 + 1) * 1024 ≤ 1024; omega

end Cert.Kernel2Ideal.Expert

end
-- ==== Proof.ExpertPay.lean ====
/- One expert's layer on one row, and the kernel body's value read at an index: that layer. -/
module

public import proofs.«01_k».proof.Proof.Gen.Kernel2Ideal
public import proofs.«01_k».proof.Proof.Gen.Kernel2Ideal.Skeleton
public import Idealize.ShloMosaic.Lib.Pointwise
public import Idealize.ShloMosaic.PureOps.Ideal.Laws

@[expose] public section

set_option maxRecDepth 16384

noncomputable section

namespace Cert.Expert

open Idealize.ShloMosaic

/-- The two halves of the first product of a row, with its bias. -/
def gateUp (x : Fin 1024 → EReal) (w : Fin 1024 → Fin 2048 → EReal) (b : Fin 2048 → EReal) (j : Fin 2048) : EReal :=
  (∑ k : Fin 1024, x k * w k j) + b j

/-- The clipped gate. -/
def gate (g : EReal) : EReal := min g (Ideal.ofBits .f32 0x40E00000#32)

/-- The activation of a gate and the value beside it. -/
def act (g u : EReal) : EReal :=
  (min (Ideal.ofBits .f32 0x40E00000#32) (max (Ideal.ofBits .f32 0xC0E00000#32) u) + Ideal.ofBits .f32 0x3F800000#32)
    * (gate g * Ideal.div (Ideal.ofBits .f32 0x3F800000#32) (Ideal.ofBits .f32 0x3F800000#32 + Ideal.exp (-(Ideal.ofBits .f32 0x3FD9DB23#32 * gate g))))

def lo (k : Fin 1024) : Fin 2048 := ⟨k.val, by omega⟩
def hi (k : Fin 1024) : Fin 2048 := ⟨1024 + k.val, by omega⟩

/-- One expert's layer on one row. -/
def layer (x : Fin 1024 → EReal) (w : Fin 1024 → Fin 2048 → EReal) (b : Fin 2048 → EReal) (d : Fin 1024 → Fin 1024 → EReal) (e : Fin 1024 → EReal)
    (j : Fin 1024) : EReal :=
  (∑ k : Fin 1024, act (gateUp x w b (lo k)) (gateUp x w b (hi k)) * d k j) + e j

end Cert.Expert

namespace Cert.Kernel2Ideal.Expert

open Idealize.ShloMosaic Cert.Kernel2Ideal.Gen Cert.Expert

theorem pay1_apply (x1 : Vec Ideal S1x1x1024x2048 .f32) (k : Fin 1024) (j : Fin 2048) :
    k0_pay1 x1 (ix2 k j) = x1 (ix4 0 0 k j) := by
  pointwise [k0_pay1]

theorem pay2_apply (x3 : Vec Ideal S1x1x1024x1024 .f32) (k j : Fin 1024) :
    k0_pay2 x3 (ix2 k j) = x3 (ix4 0 0 k j) := by
  pointwise [k0_pay2]

theorem pay3_apply (x0 : Vec Ideal S512x1024 .f32) (w : Vec Ideal S1024x2048 .bf16) (x2 : Vec Ideal S1x1x1x2048 .f32) (d : Vec Ideal S1024x1024 .bf16)
    (x4 : Vec Ideal S1x1x1x1024 .f32) (r : Fin 512) (j : Fin 1024) :
    k0_pay3 x0 w x2 d x4 (ix2 r j)
      = layer (fun k => x0 (ix2 r k)) (fun k j => w (ix2 k j)) (fun j => x2 (ix4 0 0 0 j)) (fun k j => d (ix2 k j)) (fun j => x4 (ix4 0 0 0 j)) j := by
  pointwise [k0_pay3, layer, gateUp, act, gate]
  rfl

theorem pay4_apply (r : Fin 512) (j : Fin 1024) : k0_pay4 (F := Ideal) (ix2 r j) = (0 : EReal) := by
  pointwise [k0_pay4]

end Cert.Kernel2Ideal.Expert

end
-- ==== Proof.ExpertRef.lean ====
/- The reference's experts at an index: the same layer, at the expert of the row's block, and zero past the blocks in use. -/
module

public import proofs.«01_k».proof.Proof.Gen.Reference2Ideal.Read
public import proofs.«01_k».proof.Proof.ExpertPay
public import Idealize.ShloMosaic.Lib.Routing.Ops

@[expose] public section

set_option maxRecDepth 16384

noncomputable section

namespace Cert.Expert

open Idealize.ShloMosaic

/-- The dimension numbers of `table[index]` for a table of matrices. -/
abbrev pickDims (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

theorem one_ne : ¬(1 : Fin 3) = 0 := by decide
theorem two_ne : ¬(2 : Fin 3) = 0 := by decide

/-- `table[index]` picks the matrix of that number. -/
theorem pick_apply {α : Type} {N A B n : ℕ} (wf) (x : (⟨3, ![N, A, B]⟩ : Shape).Idx → α) (idx : IVec ⟨2, ![n, 1]⟩ 32)
    (t : Fin n) (a : Fin A) (b : Fin B) (e : Fin N) (he : idx (ix2 t (0 : Fin 1)) = BitVec.ofNat 32 e.val) (hN : N < 2 ^ 31) :
    Host.gather (pickDims N A B n wf) x idx (ix3 t a b) = x (ix3 e a b) := by
  unfold Host.gather
  refine congrArg x (funext fun i => Fin.ext ?_)
  match i with
  | ⟨0, _⟩ =>
    show (pickDims N A B n wf).start (ix3 t a b) idx 0 + (pickDims N A B n wf).batchCoord (ix3 t a b) 0 + (pickDims N A B n wf).offCoord (ix3 t a b) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (pickDims N A B n wf).startIndexMap from List.mem_singleton.mpr rfl)]
    have hsi : (pickDims N A B n wf).siIdx (ix3 t a b) ⟨List.idxOf (0 : Fin 3) (pickDims N A B n wf).startIndexMap,
        List.idxOf_lt_length_iff.2 (List.mem_singleton.mpr rfl)⟩ = ix2 t (0 : Fin 1) := by
      funext y; refine Fin.ext ?_
      match y with
      | ⟨0, _⟩ => rfl
      | ⟨1, _⟩ => rfl
    have hel := e.isLt
    rw [hsi, he, StableHlo.Predicate.toInt_ofNat_small _ (by omega)]
    show min ((e.val : ℤ)).toNat (N - 1) = e.val
    omega
  | ⟨1, _⟩ =>
    show (pickDims N A B n wf).start (ix3 t a b) idx 1 + (pickDims N A B n wf).batchCoord (ix3 t a b) 1 + (pickDims N A B n wf).offCoord (ix3 t a b) 1 = a.val
    rw [GatherDims.batchCoord_eq_zero _ _ _ List.not_mem_nil]
    unfold GatherDims.start GatherDims.offCoord
    rw [dif_neg (show (1 : Fin 3) ∉ (pickDims N A B n wf).startIndexMap from fun h => absurd (List.mem_singleton.mp h) one_ne),
      dif_pos (show (1 : Fin 3) ∈ (pickDims N A B n wf).sKept from (GatherDims.mem_sKept _ _).mpr ⟨fun h => absurd (List.mem_singleton.mp h) one_ne, List.not_mem_nil⟩)]
    simp only [Nat.add_zero, Nat.zero_add]
    rfl
  | ⟨2, _⟩ =>
    show (pickDims N A B n wf).start (ix3 t a b) idx 2 + (pickDims N A B n wf).batchCoord (ix3 t a b) 2 + (pickDims N A B n wf).offCoord (ix3 t a b) 2 = b.val
    rw [GatherDims.batchCoord_eq_zero _ _ _ List.not_mem_nil]
    unfold GatherDims.start GatherDims.offCoord
    rw [dif_neg (show (2 : Fin 3) ∉ (pickDims N A B n wf).startIndexMap from fun h => absurd (List.mem_singleton.mp h) two_ne),
      dif_pos (show (2 : Fin 3) ∈ (pickDims N A B n wf).sKept from (GatherDims.mem_sKept _ _).mpr ⟨fun h => absurd (List.mem_singleton.mp h) two_ne, List.not_mem_nil⟩)]
    simp only [Nat.add_zero, Nat.zero_add]
    rfl

end Cert.Expert

namespace Cert.Reference2Ideal.Layer

open Idealize.ShloMosaic Cert.Reference2Ideal Cert.Reference2Ideal.Gen Cert.Reference2Ideal.Read Cert.Expert

variable (x0 : IVec S191 32) (x1 : IVec S1 32) (x2 : FVec Ideal S97792x1024 .f32) (x3 : FVec Ideal S2x32x1024x2048 .f32)
  (x4 : FVec Ideal S2x32x2048 .f32) (x5 : FVec Ideal S2x32x1024x1024 .f32) (x6 : FVec Ideal S2x32x1024 .f32)

/-- A word that is a small number is not negative, and its wrapped index is itself. -/
theorem wrap (w : BitVec 32) (h : w.toNat < 32) : Scalar.select (IntOp.cmpi .slt w 0#32) (IntOp.addi w 32#32) w = BitVec.ofNat 32 w.toNat := by
  have hs : BitVec.slt w 0#32 = false := by
    rw [BitVec.slt_eq_decide, decide_eq_false_iff_not, BitVec.toInt_eq_toNat_cond, if_pos (by omega), show (0#32).toInt = 0 from by decide]
    omega
  have hc : IntOp.cmpi .slt w 0#32 = 0#1 := by
    show BitVec.ofBool (BitVec.slt w 0#32) = _
    rw [hs]; rfl
  rw [hc, BitVec.ofNat_toNat, BitVec.setWidth_eq]
  rfl

/-- A row of a block, as a row of the whole. -/
def rowOf (t : Fin 191) (r : Fin 512) : Fin 97792 := ⟨512 * t.val + r.val, by omega⟩

section
variable {x0} (t : Fin 191) (e : Fin 32) (he : (x0 (ix1 t)).toNat = e.val)
include he

theorem index8 : val_main_v8 (F := Ideal) x0 (ix2 t (0 : Fin 1)) = BitVec.ofNat 32 e.val := by
  rw [← he, ← wrap (x0 (ix1 t)) (he ▸ e.isLt)]
  pointwise [val_main_v8, val_main_v7, val_main_v6, val_main_v5, val_main_v4, val_main_v3, val_main_c, val_main_c_0]
theorem index18 : val_main_v18 (F := Ideal) x0 (ix2 t (0 : Fin 1)) = BitVec.ofNat 32 e.val := by
  rw [← he, ← wrap (x0 (ix1 t)) (he ▸ e.isLt)]
  pointwise [val_main_v18, val_main_v17, val_main_v16, val_main_v15, val_main_v14, val_main_v13, val_main_c_1, val_main_c_2]
theorem index47 : val_main_v47 (F := Ideal) x0 (ix2 t (0 : Fin 1)) = BitVec.ofNat 32 e.val := by
  rw [← he, ← wrap (x0 (ix1 t)) (he ▸ e.isLt)]
  pointwise [val_main_v47, val_main_v46, val_main_v45, val_main_v44, val_main_v43, val_main_v42, val_main_c_9, val_main_c_10]
theorem index57 : val_main_v57 (F := Ideal) x0 (ix2 t (0 : Fin 1)) = BitVec.ofNat 32 e.val := by
  rw [← he, ← wrap (x0 (ix1 t)) (he ▸ e.isLt)]
  pointwise [val_main_v57, val_main_v56, val_main_v55, val_main_v54, val_main_v53, val_main_v52, val_main_c_11, val_main_c_12]

theorem weight9 (k : Fin 1024) (j : Fin 2048) : val_main_v9 (F := Ideal) x0 x3 (ix3 t k j) = x3 (ix4 0 e k j) := by
  refine (pick_apply _ _ _ t k j e (index8 t e he) (by norm_num)).trans ?_
  pointwise [val_main_v2, val_main_v1]
theorem weight48 (k j : Fin 1024) : val_main_v48 (F := Ideal) x0 x5 (ix3 t k j) = x5 (ix4 0 e k j) := by
  refine (pick_apply _ _ _ t k j e (index47 t e he) (by norm_num)).trans ?_
  pointwise [val_main_v41, val_main_v40]
theorem bias19 (j : Fin 2048) : val_main_v19 (F := Ideal) x0 x4 (ix2 t j) = x4 (ix3 0 e j) := by
  refine (Routing.gather_row _ rfl rfl rfl rfl rfl _ _ t j e (index18 t e he) (by norm_num)).trans ?_
  pointwise [val_main_v12, val_main_v11]
theorem bias58 (j : Fin 1024) : val_main_v58 (F := Ideal) x0 x6 (ix2 t j) = x6 (ix3 0 e j) := by
  refine (Routing.gather_row _ rfl rfl rfl rfl rfl _ _ t j e (index57 t e he) (by norm_num)).trans ?_
  pointwise [val_main_v51, val_main_v50]

omit he in
theorem rows0 (r : Fin 512) (k : Fin 1024) : val_main_v0 (F := Ideal) x2 (ix3 t r k) = x2 (ix2 (rowOf t r) k) := by
  refine (val_main_v0_apply (F := Ideal) x2 (ix3 t r k)).trans (congrArg (fun y : S97792x1024.Idx => x2 y) (funext fun a => Fin.ext ?_))
  have ht := t.isLt
  have hr := r.isLt
  have hk := k.isLt
  match a with
  | ⟨0, _⟩ => show ((t.val * 512 + r.val) * 1024 + k.val) / 1024 = 512 * t.val + r.val; omega
  | ⟨1, _⟩ => show ((t.val * 512 + r.val) * 1024 + k.val) % 1024 = k.val; omega

theorem first_product (r : Fin 512) (j : Fin 2048) :
    val_main_v22 (F := Ideal) x0 x2 x3 x4 (ix3 t r j)
      = gateUp (fun k => x2 (ix2 (rowOf t r) k)) (fun k j => x3 (ix4 0 e k j)) (fun j => x4 (ix3 0 e j)) j := by
  have h : val_main_v22 (F := Ideal) x0 x2 x3 x4 (ix3 t r j)
      = (∑ k : Fin 1024, val_main_v0 (F := Ideal) x2 (ix3 t r k) * val_main_v9 (F := Ideal) x0 x3 (ix3 t k j)) + val_main_v19 (F := Ideal) x0 x4 (ix2 t j) := by
    pointwise [val_main_v22, val_main_v10, val_main_v21, val_main_v20]
  rw [h, bias19 x4 t e he]
  exact congrArg (· + _) (Finset.sum_congr rfl fun k _ => by rw [rows0, weight9 x3 t e he])

theorem activation (r : Fin 512) (k : Fin 1024) :
    val_main_v39 (F := Ideal) x0 x2 x3 x4 (ix3 t r k)
      = act (val_main_v22 (F := Ideal) x0 x2 x3 x4 (ix3 t r (lo k))) (val_main_v22 (F := Ideal) x0 x2 x3 x4 (ix3 t r (hi k))) := by
  have h23 : val_main_v23 (F := Ideal) x0 x2 x3 x4 (ix3 t r k) = val_main_v22 (F := Ideal) x0 x2 x3 x4 (ix3 t r (lo k)) := by
    pointwise [val_main_v23]
    rfl
  have h24 : val_main_v24 (F := Ideal) x0 x2 x3 x4 (ix3 t r k) = val_main_v22 (F := Ideal) x0 x2 x3 x4 (ix3 t r (hi k)) := by
    pointwise [val_main_v24]
    rfl
  rw [← h23, ← h24]
  pointwise [val_main_v39, val_main_v38, val_main_v37, val_main_v36, val_main_v35, val_main_v34, val_main_v33, val_main_v32, val_main_v31, val_main_v30,
    val_main_v29, val_main_v28, val_main_v27, val_main_v26, val_main_v25, val_main_call0_v0, val_main_call0_v1, val_main_call0_v2, val_main_call0_v3, val_main_call0_v4,
    val_main_cst, val_main_cst_3, val_main_cst_4, val_main_cst_5, val_main_cst_6, val_main_cst_7, val_main_cst_8, act, gate]
  rfl

theorem second_product (r : Fin 512) (j : Fin 1024) :
    val_main_v61 (F := Ideal) x0 x2 x3 x4 x5 x6 (ix3 t r j)
      = layer (fun k => x2 (ix2 (rowOf t r) k)) (fun k j => x3 (ix4 0 e k j)) (fun j => x4 (ix3 0 e j)) (fun k j => x5 (ix4 0 e k j)) (fun j => x6 (ix3 0 e j)) j := by
  have h : val_main_v61 (F := Ideal) x0 x2 x3 x4 x5 x6 (ix3 t r j)
      = (∑ k : Fin 1024, val_main_v39 (F := Ideal) x0 x2 x3 x4 (ix3 t r k) * val_main_v48 (F := Ideal) x0 x5 (ix3 t k j)) + val_main_v58 (F := Ideal) x0 x6 (ix2 t j) := by
    pointwise [val_main_v61, val_main_v49, val_main_v60, val_main_v59]
  rw [h, bias58 x6 t e he]
  exact congrArg (· + _) (Finset.sum_congr rfl fun k _ => by
    rw [activation x2 x3 x4 t e he, first_product x2 x3 x4 t e he, first_product x2 x3 x4 t e he, weight48 x5 t e he])

omit he in
/-- The comparison of a block's number with the number of blocks. -/
theorem inUse (h1 : (x1 (ix1 0)).toNat < 2 ^ 31) (r : Fin 512) (j : Fin 1024) :
    val_main_call1_v1 (F := Ideal) x1 (ix3 t r j) = if t.val < (x1 (ix1 0)).toNat then 1#1 else 0#1 := by
  have h : val_main_call1_v1 (F := Ideal) x1 (ix3 t r j) = IntOp.cmpi .slt (BitVec.ofNat 32 t.val) (x1 (ix1 0)) := by
    pointwise [val_main_call1_v1, val_main_v65, val_main_v64, val_main_v63, val_main_v62]
  rw [h]
  show BitVec.ofBool (BitVec.slt (BitVec.ofNat 32 t.val) (x1 (ix1 0))) = _
  have ht : (BitVec.ofNat 32 t.val).toNat = t.val := by rw [BitVec.toNat_ofNat]; have := t.isLt; omega
  have hs : BitVec.slt (BitVec.ofNat 32 t.val) (x1 (ix1 0)) = decide (t.val < (x1 (ix1 0)).toNat) := by
    have := t.isLt
    rw [BitVec.slt_eq_decide, BitVec.toInt_eq_toNat_cond, BitVec.toInt_eq_toNat_cond, ht, if_pos (by omega), if_pos (by omega)]
    simp
  rw [hs]
  by_cases hx : t.val < (x1 (ix1 0)).toNat <;> simp [hx]

/-- The reference's result. -/
theorem result (h1 : (x1 (ix1 0)).toNat < 2 ^ 31) (r : Fin 512) (j : Fin 1024) :
    val_main_v67 (F := Ideal) x0 x1 x2 x3 x4 x5 x6 (ix2 (rowOf t r) j)
      = if t.val < (x1 (ix1 0)).toNat then layer (fun k => x2 (ix2 (rowOf t r) k)) (fun k j => x3 (ix4 0 e k j)) (fun j => x4 (ix3 0 e j)) (fun k j => x5 (ix4 0 e k j)) (fun j => x6 (ix3 0 e j)) j
        else (0 : EReal) := by
  have hidx : idx_main_v67 (ix2 (rowOf t r) j) = ix3 t r j := funext fun a => Fin.ext (by
    have ht := t.isLt
    have hr := r.isLt
    have hj := j.isLt
    match a with
    | ⟨0, _⟩ => show ((512 * t.val + r.val) * 1024 + j.val) / 524288 = t.val; omega
    | ⟨1, _⟩ => show ((512 * t.val + r.val) * 1024 + j.val) / 1024 % 512 = r.val; omega
    | ⟨2, _⟩ => show ((512 * t.val + r.val) * 1024 + j.val) % 1024 = j.val; omega)
  have hz : val_main_call1_v2 (F := Ideal) (ix3 t r j) = (0 : EReal) := by
    pointwise [val_main_call1_v2, val_main_call1_v0, val_main_cst_13]
    show Ideal.ofBits .f32 0x00000000#32 = 0
    simp [Ideal.ofBits, Ideal.ieee]
  rw [val_main_v67_apply, hidx, val_main_v66_apply, inUse x1 t h1, second_product x2 x3 x4 x5 x6 t e he, hz]
  by_cases hx : t.val < (x1 (ix1 0)).toNat
  · rw [if_pos hx, if_pos hx]; rfl
  · rw [if_neg hx, if_neg hx]; rfl

end

end Cert.Reference2Ideal.Layer

end
-- ==== Proof.ExpertValue.lean ====
/- The experts' call: the windows' blocks as entries of the arguments, and the result array at an index. -/
module

public import proofs.«01_k».proof.Proof.ExpertOk
public import proofs.«01_k».proof.Proof.ExpertRef
public import Idealize.ShloMosaic.Lib.Pipeline.Value
public import Idealize.ShloMosaic.Lib.Pipeline.ValueKit
public import Idealize.ShloMosaic.Lib.Claim

@[expose] public section

set_option maxRecDepth 16384

noncomputable section

namespace Cert.Kernel2Ideal.Expert

open Idealize.ShloMosaic Idealize.ShloMosaic.TcCoe Idealize.SL.Sem
open Idealize.ShloMosaic.Pipeline (Dat Cfg Window)
open Cert.Kernel2Ideal.Gen Cert.Expert

variable (m : (ℓ : Loc nD τ sig) → Buf (Elt Ideal) ℓ) (hO : Ok m) (c : Dev nD)

/-- The expert of a point, as a number. -/
abbrev num (t : Fin (cfgM m hO).N) : ℕ := (tbl m 0 (pt (grid0.coords t)) : BitVec 32).toNat

theorem index2 (t : Fin (cfgM m hO).N) :
    ((cfgM m hO).win 2).index t = ![0, num m hO t, 0, 0] :=
  congrArg (fun y : S191.Idx => ![0, (tbl m 0 y : BitVec 32).toNat, 0, 0]) (emb_first (n := 191) (k0_off1 (grid0.coords t)) (k0_off1_inb _)
    (numel1_S1.symm ▸ Nat.one_pos) (pt (grid0.coords t)) (congrFun (k0_off1_eq _) 0).symm)
theorem index4 (t : Fin (cfgM m hO).N) :
    ((cfgM m hO).win 4).index t = ![0, num m hO t, 0, 0] :=
  congrArg (fun y : S191.Idx => ![0, (tbl m 0 y : BitVec 32).toNat, 0, 0]) (emb_first (n := 191) (k0_off1 (grid0.coords t)) (k0_off1_inb _)
    (numel1_S1.symm ▸ Nat.one_pos) (pt (grid0.coords t)) (congrFun (k0_off1_eq _) 0).symm)

theorem index0 (h : Routed m) (t : Fin (cfgM m hO).N) :
    ((cfgM m hO).win 0).index t = ![min t.val ((tbl m 1 pt1 : BitVec 32).toNat - 1), 0] := by
  refine (index0' m (grid0.coords t)).trans ?_
  rw [minsi_toNat _ _ (grid0.coords t 0).isLt h.pos h.lt, coords_zero]

theorem index5 (t : Fin (cfgM m hO).N) : ((cfgM m hO).win 5).index t = ![t.val, 0] := by
  have : ∀ t : Fin grid0.N, cc0_transform_5 (grid0.coords t) = ![t.val, 0] := by decide +kernel
  exact this t

theorem lt_points (t : Fin (cfgM m hO).N) : t.val < 191 := lt_of_lt_of_eq t.isLt (show (cfgM m hO).N = 191 from N_0)

theorem block0 (h : Routed m) (t : Fin (cfgM m hO).N) (ht : t.val < (tbl m 1 pt1 : BitVec 32).toNat) (r : Fin 512) (k : Fin 1024) :
    (iblk m hO c 0 t : Vec Ideal S512x1024 .f32) (ix2 r k)
      = (V m c main_arg2 : Vec Ideal S97792x1024 .f32) (ix2 ⟨512 * t.val + r.val, by have := lt_points m hO t; omega⟩ k) := by
  have hi : ((cfgM m hO).win 0).index t = ![t.val, 0] := by rw [index0 m hO h, min_eq_left (by omega)]
  blk_ext [iblk, hi]

theorem block1 (t : Fin (cfgM m hO).N) (e : Fin 32) (he : num m hO t = e.val) (k : Fin 1024) (j : Fin 2048) :
    (iblk m hO c 1 t : Vec Ideal S1x1x1024x2048 .f32) (ix4 0 0 k j) = (V m c main_arg3 : Vec Ideal S2x32x1024x2048 .f32) (ix4 0 e k j) := by
  have hi : ((cfgM m hO).win 1).index t = ![0, e.val, 0, 0] := by rw [index1, ← he]
  blk_ext [iblk, hi]

theorem block2 (t : Fin (cfgM m hO).N) (e : Fin 32) (he : num m hO t = e.val) (j : Fin 2048) :
    (iblk m hO c 2 t : Vec Ideal S1x1x1x2048 .f32) (ix4 0 0 0 j) = (V m c main_v0 : Vec Ideal S2x32x1x2048 .f32) (ix4 0 e 0 j) := by
  have hi : ((cfgM m hO).win 2).index t = ![0, e.val, 0, 0] := by rw [index2, ← he]
  blk_ext [iblk, hi]

theorem block3 (t : Fin (cfgM m hO).N) (e : Fin 32) (he : num m hO t = e.val) (k j : Fin 1024) :
    (iblk m hO c 3 t : Vec Ideal S1x1x1024x1024 .f32) (ix4 0 0 k j) = (V m c main_arg5 : Vec Ideal S2x32x1024x1024 .f32) (ix4 0 e k j) := by
  have hi : ((cfgM m hO).win 3).index t = ![0, e.val, 0, 0] := by rw [index3, ← he]
  blk_ext [iblk, hi]

theorem block4 (t : Fin (cfgM m hO).N) (e : Fin 32) (he : num m hO t = e.val) (j : Fin 1024) :
    (iblk m hO c 4 t : Vec Ideal S1x1x1x1024 .f32) (ix4 0 0 0 j) = (V m c main_v1 : Vec Ideal S2x32x1x1024 .f32) (ix4 0 e 0 j) := by
  have hi : ((cfgM m hO).win 4).index t = ![0, e.val, 0, 0] := by rw [index4, ← he]
  blk_ext [iblk, hi]

/-- The two rows of biases, as the reshapes before the call left them. -/
theorem bias2 (e : Fin 32) (j : Fin 2048) :
    (V m c main_v0 : Vec Ideal S2x32x1x2048 .f32) (ix4 0 e 0 j) = (m ((c.tc : Thread nD τ).loc main_arg4) : Vec Ideal S2x32x2048 .f32) (ix3 0 e j) := by
  simp only [V, hostOps0, List.flatten_cons, List.flatten_nil, List.append_nil, List.cons_append, List.nil_append]
  entry_read
  pointwise

theorem bias4 (e : Fin 32) (j : Fin 1024) :
    (V m c main_v1 : Vec Ideal S2x32x1x1024 .f32) (ix4 0 e 0 j) = (m ((c.tc : Thread nD τ).loc main_arg6) : Vec Ideal S2x32x1024 .f32) (ix3 0 e j) := by
  simp only [V, hostOps0, List.flatten_cons, List.flatten_nil, List.append_nil, List.cons_append, List.nil_append]
  entry_read
  pointwise

/-- A block is in use exactly when its number is below the number of blocks. -/
theorem cond_iff (i : grid0.Coords) (w : BitVec 32) (hw : w.toNat < 2 ^ 31) : k0_cond2 i w = 1#1 ↔ (i 0).val < w.toNat := by
  have h191 : (i 0).val < 191 := (i 0).isLt
  have ht : (BitVec.ofNat 32 (i 0).val).toNat = (i 0).val := by rw [BitVec.toNat_ofNat]; omega
  have hs : BitVec.slt (BitVec.ofNat 32 (i 0).val) w = decide ((i 0).val < w.toNat) := by
    rw [BitVec.slt_eq_decide, BitVec.toInt_eq_toNat_cond, BitVec.toInt_eq_toNat_cond, ht, if_pos (by omega), if_pos (by omega)]
    simp
  unfold k0_cond2
  show IntOp.cmpi .ne (Scalar.extui (BitVec.ofBool (BitVec.slt (BitVec.ofNat 32 (i 0).val) w))) 0#32 = 1#1 ↔ _
  rw [hs]
  by_cases h : (i 0).val < w.toNat
  · simp only [h, decide_true]; exact ⟨fun _ => trivial, fun _ => rfl⟩
  · simp only [h, decide_false]; exact ⟨fun h => absurd h (by decide), False.elim⟩

theorem layer_congr {x x' : Fin 1024 → EReal} {w w' : Fin 1024 → Fin 2048 → EReal} {b b' : Fin 2048 → EReal} {d d' : Fin 1024 → Fin 1024 → EReal}
    {e e' : Fin 1024 → EReal} (hx : ∀ k, x k = x' k) (hw : ∀ k j, w k j = w' k j) (hb : ∀ j, b j = b' j) (hd : ∀ k j, d k j = d' k j)
    (he : ∀ j, e j = e' j) (j : Fin 1024) : layer x w b d e j = layer x' w' b' d' e' j := by
  rw [funext hx, funext fun k => funext (hw k), funext hb, funext fun k => funext (hd k), funext he]

theorem out_apply (h : Routed m) (t : Fin (cfgM m hO).N) (e : Fin 32) (he : num m hO t = e.val) (r : Fin 512) (j : Fin 1024) :
    out m hO c t (ix2 r j)
      = if t.val < (tbl m 1 pt1 : BitVec 32).toNat then
          layer (fun k => (m ((c.tc : Thread nD τ).loc main_arg2) : Vec Ideal S97792x1024 .f32) (ix2 ⟨512 * t.val + r.val, by have := lt_points m hO t; omega⟩ k))
            (fun k j => (m ((c.tc : Thread nD τ).loc main_arg3) : Vec Ideal S2x32x1024x2048 .f32) (ix4 0 e k j))
            (fun j => (m ((c.tc : Thread nD τ).loc main_arg4) : Vec Ideal S2x32x2048 .f32) (ix3 0 e j))
            (fun k j => (m ((c.tc : Thread nD τ).loc main_arg5) : Vec Ideal S2x32x1024x1024 .f32) (ix4 0 e k j))
            (fun j => (m ((c.tc : Thread nD τ).loc main_arg6) : Vec Ideal S2x32x1024 .f32) (ix3 0 e j)) j
        else (0 : EReal) := by
  have hu : InUse c (tbl m 1) (grid0.coords t) ↔ t.val < (tbl m 1 pt1 : BitVec 32).toNat := by
    refine (iff_of_eq (congrArg (fun w => k0_cond2 (grid0.coords t) w = 1#1) (used_eq c (tbl m 1)))).trans ((cond_iff _ _ h.lt).trans ?_)
    rw [coords_zero]
  unfold out outAt
  by_cases hx : t.val < (tbl m 1 pt1 : BitVec 32).toNat
  · rw [if_pos hx, if_pos (hu.mpr hx)]
    refine (pay3_apply _ _ _ _ _ r j).trans (layer_congr (fun k => ?_) (fun k j => ?_) (fun j => ?_) (fun k j => ?_) (fun j => ?_) j)
    · exact (block0 m hO c h t hx r k).trans (congrFun (V_kept m c main_arg2 (by decide) (by decide)) _)
    · exact (pay1_apply _ k j).trans ((block1 m hO c t e he k j).trans (congrFun (V_kept m c main_arg3 (by decide) (by decide)) _))
    · exact (block2 m hO c t e he j).trans (bias2 m c e j)
    · exact (pay2_apply _ k j).trans ((block3 m hO c t e he k j).trans (congrFun (V_kept m c main_arg5 (by decide) (by decide)) _))
    · exact (block4 m hO c t e he j).trans (bias4 m c e j)
  · rw [if_neg hx, if_neg (hx ∘ hu.mp), pay4_apply]

/-! ## The result array -/

theorem place (t : Fin (cfgM m hO).N) (r : Fin 512) (j : Fin 1024) :
    (((cfgM m hO).win 5).blk t).view.emb (ix2 r j : S512x1024.Idx) = (ix2 ⟨512 * t.val + r.val, by have := lt_points m hO t; omega⟩ j : S97792x1024.Idx) := by
  have hi := index5 m hO t
  funext a
  apply Fin.ext
  refine (Window.rect_emb_val ((cfgM m hO).win 5) t (ix2 r j : S512x1024.Idx) a).trans ?_
  rw [hi]
  match a with
  | ⟨0, _⟩ => show t.val * 512 + r.val = 512 * t.val + r.val; omega
  | ⟨1, _⟩ => show 0 * 1024 + j.val = j.val; omega

/-- Every element of the result is in the block of its rows' point. -/
theorem covered (i : S97792x1024.Idx) :
    ∃ t : Fin (cfgM m hO).N, ((cfgM m hO).win 5).flush t = true ∧ i ∈ (((cfgM m hO).win 5).blk t).view.set := by
  have h0 : (i 0).val < 97792 := (i 0).isLt
  have hN : (cfgM m hO).N = 191 := N_0
  let t : Fin (cfgM m hO).N := ⟨(i 0).val / 512, by rw [hN]; omega⟩
  have hp := place m hO t ⟨(i 0).val % 512, Nat.mod_lt _ (by omega)⟩ (i 1)
  have hi : (ix2 ⟨512 * ((i 0).val / 512) + (i 0).val % 512, by omega⟩ (i 1) : S97792x1024.Idx) = i := by
    funext a
    match a with
    | ⟨0, _⟩ => exact Fin.ext (Nat.div_add_mod _ _)
    | ⟨1, _⟩ => rfl
  exact ⟨t, flush_out (adm m hO) t, cast (congrArg (fun z : (((cfgM m hO).win 5).blk t).view.ty.Idx => z ∈ (((cfgM m hO).win 5).blk t).view.set)
    (hp.trans hi)) (View.emb_mem_set _ _)⟩

/-- What holds of every block holds of the array: a result that agrees with every point's rows is the array after the run. -/
theorem final (G : Vec Ideal S97792x1024 .f32)
    (hG : ∀ (t : Fin (cfgM m hO).N) (r : Fin 512) (j : Fin 1024), out m hO c t (ix2 r j) = G (ix2 ⟨512 * t.val + r.val, by have := lt_points m hO t; omega⟩ j)) :
    (dats m hO 0 c).arrAt 5 (cfgM m hO).N = G := by
  have key : ∀ (t : Fin (cfgM m hO).N) (y : S512x1024.Idx), out m hO c t y = G ((((cfgM m hO).win 5).blk t).view.emb y) := by
    intro t y
    have hy : y = ix2 (y 0) (y 1) := by
      funext a
      match a with
      | ⟨0, _⟩ => rfl
      | ⟨1, _⟩ => rfl
    rw [hy]
    exact (hG t (y 0) (y 1)).trans (congrArg G (place m hO t (y 0) (y 1)).symm)
  have left : ∀ t, ((cfgM m hO).win 5).flush t = true → ∀ y : (((cfgM m hO).win 5).xblock ((cfgM m hO).grid.coords t)).Idx,
      cast (congrArg (Elt Ideal) (((cfgM m hO).win 5).blk t).view.elt_eq.symm)
          ((dats m hO 0 c).after 5 t (((cfgM m hO).win 5).xinj ((cfgM m hO).grid.coords t) y)) = G ((((cfgM m hO).win 5).blk t).view.emb y) := by
    intro t _ y
    exact (congrFun (after_5 m hO c t) _).trans (key t y)
  exact Dat.arrAt_eq_of_emb (dats m hO 0 c) (5 : Fin 6) G left (covered m hO)

end Cert.Kernel2Ideal.Expert

end
-- ==== Proof.ExpertEqual.lean ====
/- The experts' call: the array the kernel leaves is the reference's. -/
module

public import proofs.«01_k».proof.Proof.ExpertValue

@[expose] public section

noncomputable section

namespace Cert.Kernel2Ideal.Expert

open Idealize.ShloMosaic Idealize.ShloMosaic.TcCoe Idealize.SL.Sem
open Cert.Kernel2Ideal.Gen Cert.Expert

variable (m : (ℓ : Loc nD τ sig) → Buf (Elt Ideal) ℓ) (ρ : Dev nD → PrngReg) (hO : Ok m) (c : Dev nD)

/-- The reference's result, of this program's arguments. -/
abbrev wanted : Vec Ideal S97792x1024 .f32 :=
  Cert.Reference2Ideal.Read.val_main_v67 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

theorem pt_eq (t : Fin (cfgM m hO).N) : (pt (grid0.coords t) : S191.Idx) = ix1 ⟨t.val, lt_points m hO t⟩ := by
  funext a
  match a with
  | ⟨0, _⟩ => exact Fin.ext (coords_zero t)

theorem pt1_eq : (pt1 : S1.Idx) = ix1 0 := by
  funext a
  match a with
  | ⟨0, _⟩ => rfl

theorem equal (h : Routed m) : (dats m hO 0 c).arrAt 5 (cfgM m hO).N = wanted m c := by
  obtain rfl : c = (0 : Fin 1) := Subsingleton.elim (α := Fin 1) c 0
  refine final m hO _ _ fun t r j => ?_
  have e0 : tbl m 0 = m (((0 : Dev nD) : Thread nD τ).loc main_arg0) := V_kept m 0 main_arg0 (by decide) (by decide)
  have e1 : tbl m 1 = m (((0 : Dev nD) : Thread nD τ).loc main_arg1) := V_kept m 0 main_arg1 (by decide) (by decide)
  have hn : (tbl m 1 pt1 : BitVec 32) = (m (((0 : Dev nD) : Thread nD τ).loc main_arg1) : Vec Ideal S1 .i32) (ix1 0) := by
    rw [e1]; exact congrArg _ pt1_eq
  have he : (tbl m 0 (pt (grid0.coords t)) : BitVec 32) = (m (((0 : Dev nD) : Thread nD τ).loc main_arg0) : Vec Ideal S191 .i32) (ix1 ⟨t.val, lt_points m hO t⟩) := by
    rw [e0]; exact congrArg _ (pt_eq m hO t)
  let e : Fin 32 := ⟨num m hO t, h.expert _⟩
  refine (out_apply m hO _ h t e rfl r j).trans ?_
  have hr := Cert.Reference2Ideal.Layer.result (x0 := m (((0 : Dev nD) : Thread nD τ).loc main_arg0)) (m (((0 : Dev nD) : Thread nD τ).loc main_arg1)) (m (((0 : Dev nD) : Thread nD τ).loc main_arg2))
    (m (((0 : Dev nD) : Thread nD τ).loc main_arg3)) (m (((0 : Dev nD) : Thread nD τ).loc main_arg4)) (m (((0 : Dev nD) : Thread nD τ).loc main_arg5))
    (m (((0 : Dev nD) : Thread nD τ).loc main_arg6)) ⟨t.val, lt_points m hO t⟩ e (congrArg BitVec.toNat he.symm) (hn ▸ h.lt) r j
  refine Eq.trans ?_ hr.symm
  rw [hn]
  rfl

/-- The run, with the result named and every argument unchanged. -/
theorem run_result (h : Routed m) : θ_run defs (onTc (τ := τ) (main (F := Ideal))) ⟨m, fun _ => 0, ρ⟩ (fun r => ∀ c : Dev nD,
      r.2.mem ((c.tc : Thread nD τ).loc main_v2) = wanted m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => ⟨((hr.1 c).1 5).trans (equal m (ok_of m h) c h), kept_of m (ok_of m h) r hr.1 c⟩) (run m ρ (ok_of m h))

end Cert.Kernel2Ideal.Expert

end
-- ==== Proof.OutPay.lean ====
/- One row of the output projection's call, and the kernel body's two values read at an index: that row. -/
module

public import proofs.«01_k».proof.Proof.Gen.Kernel3Ideal
public import proofs.«01_k».proof.Proof.Gen.Kernel3Ideal.Skeleton
public import Idealize.ShloMosaic.Lib.Pointwise
public import Idealize.ShloMosaic.PureOps.Ideal.Laws

@[expose] public section

set_option maxRecDepth 16384

noncomputable section

namespace Cert.Out

open Idealize.ShloMosaic

/-- Four rows of 256 side by side. -/
def side (a b c d : Fin 256 → EReal) (k : Fin 1024) : EReal :=
  if h : k.val < 256 then a ⟨k.val, h⟩
  else if h : k.val - 256 < 256 then b ⟨k.val - 256, h⟩
  else if h : k.val - 256 - 256 < 256 then c ⟨k.val - 256 - 256, h⟩
  else d ⟨k.val - 256 - 256 - 256, by omega⟩

/-- A row after the attention's projection is added, gated. -/
def added (x g y : Fin 1024 → EReal) (w : Fin 1024 → Fin 1024 → EReal) (j : Fin 1024) : EReal :=
  x j + g j * ∑ k : Fin 1024, y k * w k j

/-- A row normed by its root mean square, scaled and shifted. -/
def normed (v n sc sh : Fin 1024 → EReal) (j : Fin 1024) : EReal :=
  v j * Ideal.rsqrt ((∑ k : Fin 1024, v k * v k) * Ideal.ofBits .f32 0x3A800000#32 + Ideal.ofBits .f32 0x358637BD#32) * n j
    * (Ideal.ofBits .f32 0x3F800000#32 + sc j) + sh j

/-- Which of the two rows of scales and shifts a row of the array takes: the second from row 16384 on. -/
def part (r : Fin 16640) : Fin 2 := if 16384 ≤ r.val then 1 else 0

variable (a b c d : Fin 16640 → Fin 256 → EReal) (x : Fin 16640 → Fin 1024 → EReal) (mods : Fin 2 → Fin 6 → Fin 1024 → EReal)
  (w : Fin 1024 → Fin 1024 → EReal) (n : Fin 1024 → EReal)

/-- The first result: every row, the projection added. -/
def lat (r : Fin 16640) : Fin 1024 → EReal := added (x r) (mods (part r) 2) (side (a r) (b r) (c r) (d r)) w

/-- The second result: the first's rows normed. -/
def fin (r : Fin 16640) : Fin 1024 → EReal := normed (lat a b c d x mods w r) n (mods (part r) 4) (mods (part r) 3)

end Cert.Out

namespace Cert.Kernel3Ideal.Out

open Idealize.ShloMosaic Cert.Kernel3Ideal.Gen Cert.Out

/-- The mask of a block's rows: set from row 16384 of the array on. -/
theorem pay3_apply (i : grid0.Coords) (r : Fin 640) :
    k0_pay3 i (ix2 r 0) = if 16384 ≤ 640 * (i 0).val + r.val then 1#1 else 0#1 := by
  have hi : (i 0).val < 26 := (i 0).isLt
  have hs : IntOp.addi (Scalar.muli (BitVec.ofNat 32 (i 0).val) 640#32) (BitVec.ofNat 32 r.val) = BitVec.ofNat 32 (640 * (i 0).val + r.val) := by
    rw [Nat.mul_comm]
    exact (congrArg (· + BitVec.ofNat 32 r.val) (BitVec.ofNat_mul (i 0).val 640).symm).trans (BitVec.ofNat_add _ _).symm
  have ht : (BitVec.ofNat 32 (640 * (i 0).val + r.val)).toNat = 640 * (i 0).val + r.val := by rw [BitVec.toNat_ofNat]; omega
  have hc : IntOp.cmpi .sge (BitVec.ofNat 32 (640 * (i 0).val + r.val)) 16384#32
      = BitVec.ofBool (decide (16384 ≤ 640 * (i 0).val + r.val)) := by
    show BitVec.ofBool (BitVec.sle 16384#32 (BitVec.ofNat 32 (640 * (i 0).val + r.val))) = _
    rw [BitVec.sle_eq_decide, BitVec.toInt_eq_toNat_cond, BitVec.toInt_eq_toNat_cond, ht, if_pos (by decide), if_pos (by omega)]
    congr 1
    exact decide_eq_decide.mpr Int.ofNat_le
  have h : k0_pay3 i (ix2 r 0) = IntOp.cmpi .sge (IntOp.addi (Scalar.muli (BitVec.ofNat 32 (i 0).val) 640#32) (BitVec.ofNat 32 r.val)) 16384#32 := by
    pointwise [k0_pay3]
  rw [h, hs, hc]
  by_cases hx : 16384 ≤ 640 * (i 0).val + r.val <;> simp [hx]

theorem pay4_apply (i : grid0.Coords) (a b c d : Vec Ideal S640x256 .bf16) (w : Vec Ideal S1024x1024 .bf16) (x : Vec Ideal S640x1024 .f32)
    (g1 g0 : Vec Ideal S1x1x1024 .f32) (r : Fin 640) (j : Fin 1024) :
    k0_pay4 i a b c d w x g1 g0 (ix2 r j)
      = added (fun j => x (ix2 r j)) (fun j => Scalar.select (k0_pay3 i (ix2 r 0)) (g1 (ix3 0 0 j)) (g0 (ix3 0 0 j)))
          (side (fun k => a (ix2 r k)) (fun k => b (ix2 r k)) (fun k => c (ix2 r k)) (fun k => d (ix2 r k))) (fun k j => w (ix2 k j)) j := by
  pointwise [k0_pay4, added, side]

theorem pay6_apply (p : IVec S640x1 1) (v sq : FVec Ideal S640x1024 .f32) (n : Vec Ideal S1x1024 .f32)
    (sc1 sc0 sh1 sh0 : Vec Ideal S1x1x1024 .f32) (r : Fin 640) (j : Fin 1024) (hs : ∀ k : Fin 1024, sq (ix2 r k) = v (ix2 r k) * v (ix2 r k)) :
    k0_pay6 p v sq n sc1 sc0 sh1 sh0 (ix2 r j)
      = normed (fun j => v (ix2 r j)) (fun j => n (ix2 0 j)) (fun j => Scalar.select (p (ix2 r 0)) (sc1 (ix3 0 0 j)) (sc0 (ix3 0 0 j)))
          (fun j => Scalar.select (p (ix2 r 0)) (sh1 (ix3 0 0 j)) (sh0 (ix3 0 0 j))) j := by
  pointwise [k0_pay6, normed, hs]

end Cert.Kernel3Ideal.Out

end
-- ==== Proof.OutValue.lean ====
/- The output projection's call: the windows' blocks as entries of the arguments, and its first two result arrays at an index. -/
module

public import proofs.«01_k».proof.Proof.OutPay
public import proofs.«01_k».proof.Proof.Gen.Kernel3Ideal.Value
public import Idealize.ShloMosaic.Lib.Pipeline.Value
public import Idealize.ShloMosaic.Lib.Pipeline.ValueKit
public import Idealize.ShloMosaic.Lib.Claim

@[expose] public section

set_option maxRecDepth 16384

noncomputable section

namespace Cert.Kernel3Ideal.Out

open Idealize.ShloMosaic Idealize.ShloMosaic.TcCoe Idealize.SL.Sem
open Idealize.ShloMosaic.Pipeline (Dat Cfg Window)
open Cert.Kernel3Ideal.Gen Cert.Out

variable (m : (ℓ : Loc nD τ sig) → Buf (Elt Ideal) ℓ) (c : Dev nD)

theorem lt_points (t : Fin cfg0.N) : t.val < 26 := lt_of_lt_of_eq t.isLt (show cfg0.N = 26 from N_0)

theorem coord (t : Fin cfg0.N) : (grid0.coords t 0).val = t.val := by
  have : ∀ t : Fin grid0.N, (grid0.coords t 0).val = t.val := by decide +kernel
  exact this t

/-- Row `r` of point `t`'s block, as a row of the array. -/
def row (t : Fin cfg0.N) (r : Fin 640) : Fin 16640 := ⟨640 * t.val + r.val, by have := lt_points t; omega⟩

theorem index0 : ∀ t : Fin cfg0.N, (cfg0.win 0).index t = ![t.val, 0] :=
  (by decide +kernel : ∀ t : Fin grid0.N, cc0_transform_0 (grid0.coords t) = ![t.val, 0])
theorem index1 : ∀ t : Fin cfg0.N, (cfg0.win 1).index t = ![t.val, 0] :=
  (by decide +kernel : ∀ t : Fin grid0.N, cc0_transform_1 (grid0.coords t) = ![t.val, 0])
theorem index2 : ∀ t : Fin cfg0.N, (cfg0.win 2).index t = ![t.val, 0] :=
  (by decide +kernel : ∀ t : Fin grid0.N, cc0_transform_2 (grid0.coords t) = ![t.val, 0])
theorem index3 : ∀ t : Fin cfg0.N, (cfg0.win 3).index t = ![t.val, 0] :=
  (by decide +kernel : ∀ t : Fin grid0.N, cc0_transform_3 (grid0.coords t) = ![t.val, 0])
theorem index4 : ∀ t : Fin cfg0.N, (cfg0.win 4).index t = ![t.val, 0] :=
  (by decide +kernel : ∀ t : Fin grid0.N, cc0_transform_4 (grid0.coords t) = ![t.val, 0])
theorem index5 : ∀ t : Fin cfg0.N, (cfg0.win 5).index t = ![0, 0, 0] :=
  (by decide +kernel : ∀ t : Fin grid0.N, cc0_transform_5 (grid0.coords t) = ![0, 0, 0])
theorem index6 : ∀ t : Fin cfg0.N, (cfg0.win 6).index t = ![0, 0] :=
  (by decide +kernel : ∀ t : Fin grid0.N, cc0_transform_6 (grid0.coords t) = ![0, 0])
theorem index7 : ∀ t : Fin cfg0.N, (cfg0.win 7).index t = ![0, 0] :=
  (by decide +kernel : ∀ t : Fin grid0.N, cc0_transform_7 (grid0.coords t) = ![0, 0])
theorem index10 : ∀ t : Fin cfg0.N, (cfg0.win 10).index t = ![t.val, 0] :=
  (by decide +kernel : ∀ t : Fin grid0.N, cc0_transform_10 (grid0.coords t) = ![t.val, 0])
theorem index11 : ∀ t : Fin cfg0.N, (cfg0.win 11).index t = ![t.val, 0] :=
  (by decide +kernel : ∀ t : Fin grid0.N, cc0_transform_11 (grid0.coords t) = ![t.val, 0])

theorem block0 (t : Fin cfg0.N) (r : Fin 640) (k : Fin 256) :
    (iblk m c 0 t : Vec Ideal S640x256 .bf16) (ix2 r k) = (V m c main_v7 : Vec Ideal S16640x256 .bf16) (ix2 (row t r) k) := by
  have hi := index0 t
  unfold row
  blk_ext [iblk, hi]
theorem block1 (t : Fin cfg0.N) (r : Fin 640) (k : Fin 256) :
    (iblk m c 1 t : Vec Ideal S640x256 .bf16) (ix2 r k) = (V m c main_v8 : Vec Ideal S16640x256 .bf16) (ix2 (row t r) k) := by
  have hi := index1 t
  unfold row
  blk_ext [iblk, hi]
theorem block2 (t : Fin cfg0.N) (r : Fin 640) (k : Fin 256) :
    (iblk m c 2 t : Vec Ideal S640x256 .bf16) (ix2 r k) = (V m c main_v9 : Vec Ideal S16640x256 .bf16) (ix2 (row t r) k) := by
  have hi := index2 t
  unfold row
  blk_ext [iblk, hi]
theorem block3 (t : Fin cfg0.N) (r : Fin 640) (k : Fin 256) :
    (iblk m c 3 t : Vec Ideal S640x256 .bf16) (ix2 r k) = (V m c main_v10 : Vec Ideal S16640x256 .bf16) (ix2 (row t r) k) := by
  have hi := index3 t
  unfold row
  blk_ext [iblk, hi]
theorem block4 (t : Fin cfg0.N) (r : Fin 640) (j : Fin 1024) :
    (iblk m c 4 t : Vec Ideal S640x1024 .f32) (ix2 r j) = (V m c main_arg4 : Vec Ideal S16640x1024 .f32) (ix2 (row t r) j) := by
  have hi := index4 t
  unfold row
  blk_ext [iblk, hi]
theorem block5 (t : Fin cfg0.N) (p : Fin 2) (q : Fin 6) (j : Fin 1024) :
    (iblk m c 5 t : Vec Ideal S2x6x1024 .f32) (ix3 p q j) = (V m c main_arg5 : Vec Ideal S2x6x1024 .f32) (ix3 p q j) := by
  have hi := index5 t
  blk_ext [iblk, hi]
theorem block6 (t : Fin cfg0.N) (k j : Fin 1024) :
    (iblk m c 6 t : Vec Ideal S1024x1024 .bf16) (ix2 k j) = (V m c main_v11 : Vec Ideal S1024x1024 .bf16) (ix2 k j) := by
  have hi := index6 t
  blk_ext [iblk, hi]
theorem block7 (t : Fin cfg0.N) (j : Fin 1024) :
    (iblk m c 7 t : Vec Ideal S1x1024 .f32) (ix2 0 j) = (V m c main_v12 : Vec Ideal S1x1024 .f32) (ix2 0 j) := by
  have hi := index7 t
  blk_ext [iblk, hi]

/-! ## The arrays the call reads, from the arguments: casts keep every entry -/

theorem host7 (r : Fin 16640) (k : Fin 256) :
    (V m c main_v7 : Vec Ideal S16640x256 .bf16) (ix2 r k) = (m ((c.tc : Thread nD τ).loc main_arg0) : Vec Ideal S16640x256 .f32) (ix2 r k) := by
  simp only [V, hostOps0, hostOps0_1, hostOps0_2, hostOps0_3, hostOps0_4, List.flatten_cons, List.flatten_nil, List.append_nil, List.cons_append, List.nil_append]
  entry_read
  pointwise
theorem host8 (r : Fin 16640) (k : Fin 256) :
    (V m c main_v8 : Vec Ideal S16640x256 .bf16) (ix2 r k) = (m ((c.tc : Thread nD τ).loc main_arg1) : Vec Ideal S16640x256 .f32) (ix2 r k) := by
  simp only [V, hostOps0, hostOps0_1, hostOps0_2, hostOps0_3, hostOps0_4, List.flatten_cons, List.flatten_nil, List.append_nil, List.cons_append, List.nil_append]
  entry_read
  pointwise
theorem host9 (r : Fin 16640) (k : Fin 256) :
    (V m c main_v9 : Vec Ideal S16640x256 .bf16) (ix2 r k) = (m ((c.tc : Thread nD τ).loc main_arg2) : Vec Ideal S16640x256 .f32) (ix2 r k) := by
  simp only [V, hostOps0, hostOps0_1, hostOps0_2, hostOps0_3, hostOps0_4, List.flatten_cons, List.flatten_nil, List.append_nil, List.cons_append, List.nil_append]
  entry_read
  pointwise
theorem host10 (r : Fin 16640) (k : Fin 256) :
    (V m c main_v10 : Vec Ideal S16640x256 .bf16) (ix2 r k) = (m ((c.tc : Thread nD τ).loc main_arg3) : Vec Ideal S16640x256 .f32) (ix2 r k) := by
  simp only [V, hostOps0, hostOps0_1, hostOps0_2, hostOps0_3, hostOps0_4, List.flatten_cons, List.flatten_nil, List.append_nil, List.cons_append, List.nil_append]
  entry_read
  pointwise
theorem host11 (k j : Fin 1024) :
    (V m c main_v11 : Vec Ideal S1024x1024 .bf16) (ix2 k j) = (m ((c.tc : Thread nD τ).loc main_arg6) : Vec Ideal S1024x1024 .f32) (ix2 k j) := by
  simp only [V, hostOps0, hostOps0_1, hostOps0_2, hostOps0_3, hostOps0_4, List.flatten_cons, List.flatten_nil, List.append_nil, List.cons_append, List.nil_append]
  entry_read
  pointwise
theorem host12 (j : Fin 1024) :
    (V m c main_v12 : Vec Ideal S1x1024 .f32) (ix2 0 j) = (m ((c.tc : Thread nD τ).loc main_arg7) : Vec Ideal S1024 .f32) (ix1 j) := by
  simp only [V, hostOps0, hostOps0_1, hostOps0_2, hostOps0_3, hostOps0_4, List.flatten_cons, List.flatten_nil, List.append_nil, List.cons_append, List.nil_append]
  entry_read
  pointwise

end Cert.Kernel3Ideal.Out

end
-- ==== Proof.OutRef.lean ====
/- The output projection's reference read at an index: the same rows. -/
module

public import proofs.«01_k».proof.Proof.OutPay
public import proofs.«01_k».proof.Proof.Gen.Reference3Ideal.Read
public import Idealize.ShloMosaic.Lib.Pointwise
public import Idealize.ShloMosaic.PureOps.Ideal.Laws

@[expose] public section

set_option maxRecDepth 16384

noncomputable section

namespace Cert.Reference3Ideal.Out

open Idealize.ShloMosaic Cert.Reference3Ideal.Read Cert.Out

variable (x0 x1 x2 x3 : Vec Ideal S16640x256 .f32) (x4 : Vec Ideal S16640x1024 .f32) (x5 : Vec Ideal S2x6x1024 .f32) (x6 : Vec Ideal S1024x1024 .f32)
  (x7 : Vec Ideal S1024 .f32)

theorem v0_apply (r : Fin 16640) (k : Fin 1024) :
    val_main_v0 (F := Ideal) x0 x1 x2 x3 (ix2 r k)
      = side (fun k => x0 (ix2 r k)) (fun k => x1 (ix2 r k)) (fun k => x2 (ix2 r k)) (fun k => x3 (ix2 r k)) k := by
  pointwise [val_main_v0, side]

theorem v1_apply (r : Fin 16640) (j : Fin 1024) :
    val_main_v1 (F := Ideal) x0 x1 x2 x3 x6 (ix2 r j)
      = ∑ k : Fin 1024, side (fun k => x0 (ix2 r k)) (fun k => x1 (ix2 r k)) (fun k => x2 (ix2 r k)) (fun k => x3 (ix2 r k)) k * x6 (ix2 k j) := by
  pointwise [val_main_v1, v0_apply]

theorem v9_apply (r : Fin 16384) (j : Fin 1024) :
    val_main_v9 (F := Ideal) x0 x1 x2 x3 x4 x5 x6 (ix2 r j)
      = added (fun j => x4 (ix2 ⟨r.val, by omega⟩ j)) (fun j => x5 (ix3 0 2 j))
          (side (fun k => x0 (ix2 ⟨r.val, by omega⟩ k)) (fun k => x1 (ix2 ⟨r.val, by omega⟩ k)) (fun k => x2 (ix2 ⟨r.val, by omega⟩ k)) (fun k => x3 (ix2 ⟨r.val, by omega⟩ k)))
          (fun k j => x6 (ix2 k j)) j := by
  pointwise [val_main_v9, val_main_v8, val_main_v7, val_main_v6, val_main_v5, val_main_v4, val_main_v3, val_main_v2, v1_apply, added]

theorem v17_apply (r : Fin 256) (j : Fin 1024) :
    val_main_v17 (F := Ideal) x0 x1 x2 x3 x4 x5 x6 (ix2 r j)
      = added (fun j => x4 (ix2 ⟨16384 + r.val, by omega⟩ j)) (fun j => x5 (ix3 1 2 j))
          (side (fun k => x0 (ix2 ⟨16384 + r.val, by omega⟩ k)) (fun k => x1 (ix2 ⟨16384 + r.val, by omega⟩ k)) (fun k => x2 (ix2 ⟨16384 + r.val, by omega⟩ k)) (fun k => x3 (ix2 ⟨16384 + r.val, by omega⟩ k)))
          (fun k j => x6 (ix2 k j)) j := by
  pointwise [val_main_v17, val_main_v16, val_main_v15, val_main_v14, val_main_v13, val_main_v12, val_main_v11, val_main_v10, v1_apply, added]

/-- The mean over 1024 elements: dividing by the count is multiplying by its inverse. -/
theorem mean (s : EReal) : Ideal.div s (Ideal.ofBits .f32 0x44800000#32) = s * Ideal.ofBits .f32 0x3A800000#32 := by
  have e1 : Ideal.ofBits .f32 0x44800000#32 = ((1024 : ℝ) : EReal) := by simp [Ideal.ofBits, Ideal.ieee, -EReal.coe_mul]; norm_num
  have e2 : Ideal.ofBits .f32 0x3A800000#32 = ((1024⁻¹ : ℝ) : EReal) := by simp [Ideal.ofBits, Ideal.ieee, -EReal.coe_mul]; norm_num
  have hz : ((1024 : ℝ) : EReal) ≠ 0 := fun h => by have := EReal.coe_eq_zero.mp h; norm_num at this
  rw [e1, e2, Ideal.div, if_neg hz, EReal.coe_inv]

/-- The rows of the first result, of the arguments as functions. -/
abbrev latOf : Fin 16640 → Fin 1024 → EReal :=
  lat (fun r k => x0 (ix2 r k)) (fun r k => x1 (ix2 r k)) (fun r k => x2 (ix2 r k)) (fun r k => x3 (ix2 r k)) (fun r j => x4 (ix2 r j))
    (fun p q j => x5 (ix3 p q j)) (fun k j => x6 (ix2 k j))

/-- The rows of the second. -/
abbrev finOf : Fin 16640 → Fin 1024 → EReal :=
  fin (fun r k => x0 (ix2 r k)) (fun r k => x1 (ix2 r k)) (fun r k => x2 (ix2 r k)) (fun r k => x3 (ix2 r k)) (fun r j => x4 (ix2 r j))
    (fun p q j => x5 (ix3 p q j)) (fun k j => x6 (ix2 k j)) (fun j => x7 (ix1 j))

theorem lat_lo (r : Fin 16384) (j : Fin 1024) :
    val_main_v18 (F := Ideal) x0 x1 x2 x3 x4 x5 x6 (ix2 ⟨r.val, by omega⟩ j) = val_main_v9 (F := Ideal) x0 x1 x2 x3 x4 x5 x6 (ix2 r j) := by
  pointwise [val_main_v18]

theorem lat_hi (r : Fin 256) (j : Fin 1024) :
    val_main_v18 (F := Ideal) x0 x1 x2 x3 x4 x5 x6 (ix2 ⟨16384 + r.val, by omega⟩ j) = val_main_v17 (F := Ideal) x0 x1 x2 x3 x4 x5 x6 (ix2 r j) := by
  pointwise [val_main_v18]

theorem fin_lo (r : Fin 16384) (j : Fin 1024) :
    val_main_v59 (F := Ideal) x0 x1 x2 x3 x4 x5 x6 x7 (ix2 ⟨r.val, by omega⟩ j) = val_main_v44 (F := Ideal) x0 x1 x2 x3 x4 x5 x6 x7 (ix2 r j) := by
  pointwise [val_main_v59, val_main_v58]

theorem fin_hi (r : Fin 256) (j : Fin 1024) :
    val_main_v59 (F := Ideal) x0 x1 x2 x3 x4 x5 x6 x7 (ix2 ⟨16384 + r.val, by omega⟩ j) = val_main_v57 (F := Ideal) x0 x1 x2 x3 x4 x5 x6 x7 (ix2 r j) := by
  pointwise [val_main_v59, val_main_v58]

theorem norm_apply (r : Fin 16640) (j : Fin 1024) :
    val_main_v31 (F := Ideal) x0 x1 x2 x3 x4 x5 x6 x7 (ix2 r j)
      = val_main_v18 (F := Ideal) x0 x1 x2 x3 x4 x5 x6 (ix2 r j)
        * Ideal.rsqrt ((∑ k : Fin 1024, val_main_v18 (F := Ideal) x0 x1 x2 x3 x4 x5 x6 (ix2 r k) * val_main_v18 (F := Ideal) x0 x1 x2 x3 x4 x5 x6 (ix2 r k))
            * Ideal.ofBits .f32 0x3A800000#32 + Ideal.ofBits .f32 0x358637BD#32) * x7 (ix1 j) := by
  rw [← mean]
  pointwise [val_main_v31, val_main_v30, val_main_v29, val_main_v28, val_main_v27, val_main_v26, val_main_v25, val_main_v24, val_main_v23, val_main_v22,
    val_main_v21, val_main_v20, val_main_v19, val_main_cst, val_main_cst_0, val_main_cst_1]

theorem v44_apply (r : Fin 16384) (j : Fin 1024) :
    val_main_v44 (F := Ideal) x0 x1 x2 x3 x4 x5 x6 x7 (ix2 r j)
      = val_main_v31 (F := Ideal) x0 x1 x2 x3 x4 x5 x6 x7 (ix2 ⟨r.val, by omega⟩ j) * (Ideal.ofBits .f32 0x3F800000#32 + x5 (ix3 0 4 j)) + x5 (ix3 0 3 j) := by
  pointwise [val_main_v44, val_main_v43, val_main_v42, val_main_v41, val_main_v40, val_main_v39, val_main_v38, val_main_v37, val_main_v36, val_main_v35,
    val_main_v34, val_main_v33, val_main_v32, val_main_cst_2]

theorem v57_apply (r : Fin 256) (j : Fin 1024) :
    val_main_v57 (F := Ideal) x0 x1 x2 x3 x4 x5 x6 x7 (ix2 r j)
      = val_main_v31 (F := Ideal) x0 x1 x2 x3 x4 x5 x6 x7 (ix2 ⟨16384 + r.val, by omega⟩ j) * (Ideal.ofBits .f32 0x3F800000#32 + x5 (ix3 1 4 j)) + x5 (ix3 1 3 j) := by
  pointwise [val_main_v57, val_main_v56, val_main_v55, val_main_v54, val_main_v53, val_main_v52, val_main_v51, val_main_v50, val_main_v49, val_main_v48,
    val_main_v47, val_main_v46, val_main_v45, val_main_cst_3]

/-- Every row before row 16384 is one of the first part, every other of the second. -/
theorem split (P : Fin 16640 → Prop) (lo : ∀ r : Fin 16384, P ⟨r.val, by omega⟩) (hi : ∀ r : Fin 256, P ⟨16384 + r.val, by omega⟩) (r : Fin 16640) : P r := by
  by_cases h : r.val < 16384
  · exact lo ⟨r.val, h⟩
  · have e : (⟨16384 + (r.val - 16384), by omega⟩ : Fin 16640) = r := Fin.ext (by show 16384 + (r.val - 16384) = r.val; omega)
    exact e ▸ hi ⟨r.val - 16384, by omega⟩

theorem part_lo (r : Fin 16384) : part ⟨r.val, by omega⟩ = 0 := if_neg (by show ¬ 16384 ≤ r.val; omega)
theorem part_hi (r : Fin 256) : part ⟨16384 + r.val, by omega⟩ = 1 := if_pos (by show 16384 ≤ 16384 + r.val; omega)

/-- The reference's first result. -/
theorem lat_apply (r : Fin 16640) (j : Fin 1024) :
    val_main_v18 (F := Ideal) x0 x1 x2 x3 x4 x5 x6 (ix2 r j) = latOf x0 x1 x2 x3 x4 x5 x6 r j := by
  revert r
  refine split _ (fun r => ?_) (fun r => ?_)
  · refine (lat_lo x0 x1 x2 x3 x4 x5 x6 r j).trans ((v9_apply x0 x1 x2 x3 x4 x5 x6 r j).trans ?_)
    simp only [latOf, lat, part_lo]
  · refine (lat_hi x0 x1 x2 x3 x4 x5 x6 r j).trans ((v17_apply x0 x1 x2 x3 x4 x5 x6 r j).trans ?_)
    simp only [latOf, lat, part_hi]

/-- The reference's second result. -/
theorem fin_apply (r : Fin 16640) (j : Fin 1024) :
    val_main_v59 (F := Ideal) x0 x1 x2 x3 x4 x5 x6 x7 (ix2 r j) = finOf x0 x1 x2 x3 x4 x5 x6 x7 r j := by
  have hl := lat_apply x0 x1 x2 x3 x4 x5 x6
  revert r
  refine split _ (fun r => ?_) (fun r => ?_)
  · refine (fin_lo x0 x1 x2 x3 x4 x5 x6 x7 r j).trans ((v44_apply x0 x1 x2 x3 x4 x5 x6 x7 r j).trans ?_)
    rw [norm_apply]
    simp only [hl, finOf, fin, normed, part_lo]
  · refine (fin_hi x0 x1 x2 x3 x4 x5 x6 x7 r j).trans ((v57_apply x0 x1 x2 x3 x4 x5 x6 x7 r j).trans ?_)
    rw [norm_apply]
    simp only [hl, finOf, fin, normed, part_hi]

end Cert.Reference3Ideal.Out

end
-- ==== Proof.OutEqual.lean ====
/- The output projection's call: the first two arrays the kernel leaves are the reference's. -/
module

public import proofs.«01_k».proof.Proof.OutValue
public import proofs.«01_k».proof.Proof.OutRef

@[expose] public section

set_option maxRecDepth 16384

noncomputable section

namespace Cert.Kernel3Ideal.Out

open Idealize.ShloMosaic Idealize.ShloMosaic.TcCoe Idealize.SL.Sem
open Idealize.ShloMosaic.Pipeline (Dat Cfg Window)
open Cert.Kernel3Ideal.Gen Cert.Out

/-! ## The body's two values, of the blocks it reads -/

section
variable (i : grid0.Coords) (x0 x1 x2 x3 : Vec Ideal S640x256 .bf16) (x4 : Vec Ideal S640x1024 .f32) (x5 : Vec Ideal S2x6x1024 .f32)
  (x6 : Vec Ideal S1024x1024 .bf16) (x7 : Vec Ideal S1x1024 .f32) (x8 : Vec Ideal S1024x256 .bf16) (x9 : Vec Ideal S32x1 .f32)

theorem zero2 : (![0, 0] : Fin 2 → ℕ) = fun _ => 0 := by
  funext a
  match a with
  | ⟨0, _⟩ => rfl
  | ⟨1, _⟩ => rfl

/-- A row of the scales and shifts, as the body loads it. -/
theorem load (p : Fin 2) (q : Fin 6) (inb : ∀ a, (![p.val, q.val, 0] : Fin 3 → ℕ) a + S1x1x1024.size a ≤ S2x6x1024.size a) (j : Fin 1024) :
    View.ld x5 (Rect.unit (s := S2x6x1024) ![p.val, q.val, 0] S1x1x1024.size inb) (ix3 0 0 j) = x5 (ix3 p q j) := by
  refine View.ld_unit_apply_of x5 _ _ inb _ _ (fun a => ?_)
  match a with
  | ⟨0, _⟩ => rfl
  | ⟨1, _⟩ => rfl
  | ⟨2, _⟩ => simp

/-- The part of a block's row. -/
def partOf (r : Fin 640) : Fin 2 := if 16384 ≤ 640 * (i 0).val + r.val then 1 else 0

theorem pick (r : Fin 640) (f : Fin 2 → EReal) : Scalar.select (k0_pay3 i (ix2 r 0)) (f 1) (f 0) = f (partOf i r) := by
  rw [pay3_apply, partOf]
  by_cases h : 16384 ≤ 640 * (i 0).val + r.val
  · rw [if_pos h, if_pos h]; rfl
  · rw [if_neg h, if_neg h]; rfl

/-- The first result's row, of the blocks. -/
abbrev latBlk (r : Fin 640) : Fin 1024 → EReal :=
  added (fun j => x4 (ix2 r j)) (fun j => x5 (ix3 (partOf i r) 2 j))
    (side (fun k => x0 (ix2 r k)) (fun k => x1 (ix2 r k)) (fun k => x2 (ix2 r k)) (fun k => x3 (ix2 r k))) (fun k j => x6 (ix2 k j))

theorem pay31_apply (r : Fin 640) (j : Fin 1024) :
    k0_pay31 i x0 x1 x2 x3 x4 x5 x6 x7 x8 x9 (ix2 r j) = latBlk i x0 x1 x2 x3 x4 x5 x6 r j := by
  refine (pay4_apply i _ _ _ _ _ _ _ _ r j).trans ?_
  have e : ∀ j, Scalar.select (k0_pay3 i (ix2 r 0)) (View.ld x5 r0_3 (ix3 0 0 j)) (View.ld x5 r0_4 (ix3 0 0 j)) = x5 (ix3 (partOf i r) 2 j) := fun j =>
    (congrArg₂ (Scalar.select (k0_pay3 i (ix2 r 0))) (load x5 1 2 _ j) (load x5 0 2 _ j)).trans (pick i r fun p => x5 (ix3 p 2 j))
  rw [funext e, View.ld_unit_zero zero2, View.ld_unit_zero zero2, View.ld_unit_zero zero2, View.ld_unit_zero zero2, View.ld_unit_zero zero2, View.ld_unit_zero zero2]

theorem out10_apply (r : Fin 640) (j : Fin 1024) :
    out0_10 i x0 x1 x2 x3 x4 x5 x6 x7 x8 x9 (ix2 r j) = latBlk i x0 x1 x2 x3 x4 x5 x6 r j :=
  (congrFun (View.canon_unit_zero zero2 _ _) _).trans (pay31_apply i x0 x1 x2 x3 x4 x5 x6 x7 x8 x9 r j)

theorem out11_apply (r : Fin 640) (j : Fin 1024) :
    out0_11 i x0 x1 x2 x3 x4 x5 x6 x7 x8 x9 (ix2 r j)
      = normed (latBlk i x0 x1 x2 x3 x4 x5 x6 r) (fun j => x7 (ix2 0 j)) (fun j => x5 (ix3 (partOf i r) 4 j)) (fun j => x5 (ix3 (partOf i r) 3 j)) j := by
  refine (congrFun (View.canon_unit_zero zero2 _ _) _).trans ?_
  refine (pay6_apply (k0_pay3 i) _ _ _ _ _ _ _ r j (fun k => ?_)).trans ?_
  · rfl
  have e4 : ∀ j, Scalar.select (k0_pay3 i (ix2 r 0)) (View.ld x5 r0_6 (ix3 0 0 j)) (View.ld x5 r0_7 (ix3 0 0 j)) = x5 (ix3 (partOf i r) 4 j) := fun j =>
    (congrArg₂ (Scalar.select (k0_pay3 i (ix2 r 0))) (load x5 1 4 _ j) (load x5 0 4 _ j)).trans (pick i r fun p => x5 (ix3 p 4 j))
  have e3 : ∀ j, Scalar.select (k0_pay3 i (ix2 r 0)) (View.ld x5 r0_8 (ix3 0 0 j)) (View.ld x5 r0_9 (ix3 0 0 j)) = x5 (ix3 (partOf i r) 3 j) := fun j =>
    (congrArg₂ (Scalar.select (k0_pay3 i (ix2 r 0))) (load x5 1 3 _ j) (load x5 0 3 _ j)).trans (pick i r fun p => x5 (ix3 p 3 j))
  rw [funext e4, funext e3, funext (pay31_apply i x0 x1 x2 x3 x4 x5 x6 x7 x8 x9 r), View.ld_unit_zero zero2]

end

/-! ## The two arrays -/

variable (m : (ℓ : Loc nD τ sig) → Buf (Elt Ideal) ℓ) (ρ : Dev nD → PrngReg) (c : Dev nD)

theorem partOf_eq (t : Fin cfg0.N) (r : Fin 640) : partOf (grid0.coords t) r = part (row t r) := by
  rw [partOf, part, coord]; rfl

/-- The first result's rows, of the arguments. -/
abbrev latArg : Fin 16640 → Fin 1024 → EReal :=
  Cert.Reference3Ideal.Out.latOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

theorem lat_row (t : Fin cfg0.N) (r : Fin 640) :
    latBlk (grid0.coords t) (iblk m c 0 t) (iblk m c 1 t) (iblk m c 2 t) (iblk m c 3 t) (iblk m c 4 t) (iblk m c 5 t) (iblk m c 6 t) r = latArg m c (row t r) := by
  have h0 : ∀ k, (iblk m c 0 t : Vec Ideal S640x256 .bf16) (ix2 r k) = (m ((c.tc : Thread nD τ).loc main_arg0) : Vec Ideal S16640x256 .f32) (ix2 (row t r) k) :=
    fun k => (block0 m c t r k).trans (host7 m c _ k)
  have h1 : ∀ k, (iblk m c 1 t : Vec Ideal S640x256 .bf16) (ix2 r k) = (m ((c.tc : Thread nD τ).loc main_arg1) : Vec Ideal S16640x256 .f32) (ix2 (row t r) k) :=
    fun k => (block1 m c t r k).trans (host8 m c _ k)
  have h2 : ∀ k, (iblk m c 2 t : Vec Ideal S640x256 .bf16) (ix2 r k) = (m ((c.tc : Thread nD τ).loc main_arg2) : Vec Ideal S16640x256 .f32) (ix2 (row t r) k) :=
    fun k => (block2 m c t r k).trans (host9 m c _ k)
  have h3 : ∀ k, (iblk m c 3 t : Vec Ideal S640x256 .bf16) (ix2 r k) = (m ((c.tc : Thread nD τ).loc main_arg3) : Vec Ideal S16640x256 .f32) (ix2 (row t r) k) :=
    fun k => (block3 m c t r k).trans (host10 m c _ k)
  have h4 : ∀ j, (iblk m c 4 t : Vec Ideal S640x1024 .f32) (ix2 r j) = (m ((c.tc : Thread nD τ).loc main_arg4) : Vec Ideal S16640x1024 .f32) (ix2 (row t r) j) :=
    fun j => (block4 m c t r j).trans (congrFun (V_main_arg4 m c) _)
  have h5 : ∀ p q j, (iblk m c 5 t : Vec Ideal S2x6x1024 .f32) (ix3 p q j) = (m ((c.tc : Thread nD τ).loc main_arg5) : Vec Ideal S2x6x1024 .f32) (ix3 p q j) :=
    fun p q j => (block5 m c t p q j).trans (congrFun (V_main_arg5 m c) _)
  have h6 : ∀ k j, (iblk m c 6 t : Vec Ideal S1024x1024 .bf16) (ix2 k j) = (m ((c.tc : Thread nD τ).loc main_arg6) : Vec Ideal S1024x1024 .f32) (ix2 k j) :=
    fun k j => (block6 m c t k j).trans (host11 m c k j)
  funext j
  unfold latBlk latArg Cert.Reference3Ideal.Out.latOf lat
  rw [funext h0, funext h1, funext h2, funext h3, funext h4, funext fun k => funext (h6 k), funext (h5 _ _), partOf_eq]

/-- The second result's rows, of the arguments. -/
abbrev finArg : Fin 16640 → Fin 1024 → EReal :=
  Cert.Reference3Ideal.Out.finOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7))

theorem after10 (t : Fin cfg0.N) (r : Fin 640) (j : Fin 1024) :
    ((dats m 0 c).after 10 t : Vec Ideal S640x1024 .f32) (ix2 r j) = latArg m c (row t r) j :=
  (congrFun (after0_10 m c t) _).trans ((out10_apply _ _ _ _ _ _ _ _ _ _ _ r j).trans (congrFun (lat_row m c t r) j))

theorem after11 (t : Fin cfg0.N) (r : Fin 640) (j : Fin 1024) :
    ((dats m 0 c).after 11 t : Vec Ideal S640x1024 .bf16) (ix2 r j) = finArg m c (row t r) j := by
  refine (congrFun (after0_11 m c t) _).trans ((out11_apply _ _ _ _ _ _ _ _ _ _ _ r j).trans ?_)
  have h7 : ∀ j, (iblk m c 7 t : Vec Ideal S1x1024 .f32) (ix2 0 j) = (m ((c.tc : Thread nD τ).loc main_arg7) : Vec Ideal S1024 .f32) (ix1 j) :=
    fun j => (block7 m c t j).trans (host12 m c j)
  have h5 : ∀ p q j, (iblk m c 5 t : Vec Ideal S2x6x1024 .f32) (ix3 p q j) = (m ((c.tc : Thread nD τ).loc main_arg5) : Vec Ideal S2x6x1024 .f32) (ix3 p q j) :=
    fun p q j => (block5 m c t p q j).trans (congrFun (V_main_arg5 m c) _)
  rw [lat_row, funext h7, funext (h5 _ _), funext (h5 _ _), partOf_eq]
  rfl

theorem place10 (t : Fin cfg0.N) (r : Fin 640) (j : Fin 1024) :
    ((cfg0.win 10).blk t).view.emb (ix2 r j : S640x1024.Idx) = (ix2 (row t r) j : S16640x1024.Idx) := by
  funext a
  apply Fin.ext
  refine (Window.rect_emb_val (cfg0.win 10) t (ix2 r j : S640x1024.Idx) a).trans ?_
  rw [index10]
  match a with
  | ⟨0, _⟩ => show t.val * 640 + r.val = 640 * t.val + r.val; omega
  | ⟨1, _⟩ => show 0 * 1024 + j.val = j.val; omega

theorem place11 (t : Fin cfg0.N) (r : Fin 640) (j : Fin 1024) :
    ((cfg0.win 11).blk t).view.emb (ix2 r j : S640x1024.Idx) = (ix2 (row t r) j : S16640x1024.Idx) := by
  funext a
  apply Fin.ext
  refine (Window.rect_emb_val (cfg0.win 11) t (ix2 r j : S640x1024.Idx) a).trans ?_
  rw [index11]
  match a with
  | ⟨0, _⟩ => show t.val * 640 + r.val = 640 * t.val + r.val; omega
  | ⟨1, _⟩ => show 0 * 1024 + j.val = j.val; omega

theorem pair (y : S640x1024.Idx) : y = ix2 (y 0) (y 1) := by
  funext a
  match a with
  | ⟨0, _⟩ => rfl
  | ⟨1, _⟩ => rfl

/-- The reference's results, of this program's arguments. -/
abbrev wantedLat : Vec Ideal S16640x1024 .f32 :=
  Cert.Reference3Ideal.Read.val_main_v18 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))
abbrev wantedFin : Vec Ideal S16640x1024 .bf16 :=
  Cert.Reference3Ideal.Read.val_main_v59 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

theorem equalLat : (dats m 0 c).arrAt 10 cfg0.N = wantedLat m c := by
  have key : ∀ (t : Fin cfg0.N) (y : S640x1024.Idx),
      ((dats m 0 c).after 10 t : Vec Ideal S640x1024 .f32) y = wantedLat m c (((cfg0.win 10).blk t).view.emb y) := by
    intro t y
    rw [pair y]
    refine (after10 m c t (y 0) (y 1)).trans ?_
    refine Eq.trans ?_ (congrArg (wantedLat m c) (place10 t (y 0) (y 1)).symm)
    exact (Cert.Reference3Ideal.Out.lat_apply _ _ _ _ _ _ _ (row t (y 0)) (y 1)).symm
  have left : ∀ t, (cfg0.win 10).flush t = true → ∀ y : ((cfg0.win 10).xblock (cfg0.grid.coords t)).Idx,
      cast (congrArg (Elt Ideal) ((cfg0.win 10).blk t).view.elt_eq.symm)
          ((dats m 0 c).after 10 t ((cfg0.win 10).xinj (cfg0.grid.coords t) y)) = wantedLat m c (((cfg0.win 10).blk t).view.emb y) :=
    fun t _ y => key t y
  exact Dat.arrAt_eq_of_covers (dats m 0 c) (10 : Fin 14) (wantedLat m c) (by decide +kernel) left

theorem equalFin : (dats m 0 c).arrAt 11 cfg0.N = wantedFin m c := by
  have key : ∀ (t : Fin cfg0.N) (y : S640x1024.Idx),
      ((dats m 0 c).after 11 t : Vec Ideal S640x1024 .bf16) y = wantedFin m c (((cfg0.win 11).blk t).view.emb y) := by
    intro t y
    rw [pair y]
    refine (after11 m c t (y 0) (y 1)).trans ?_
    refine Eq.trans ?_ (congrArg (wantedFin m c) (place11 t (y 0) (y 1)).symm)
    exact (Cert.Reference3Ideal.Out.fin_apply _ _ _ _ _ _ _ _ (row t (y 0)) (y 1)).symm
  have left : ∀ t, (cfg0.win 11).flush t = true → ∀ y : ((cfg0.win 11).xblock (cfg0.grid.coords t)).Idx,
      cast (congrArg (Elt Ideal) ((cfg0.win 11).blk t).view.elt_eq.symm)
          ((dats m 0 c).after 11 t ((cfg0.win 11).xinj (cfg0.grid.coords t) y)) = wantedFin m c (((cfg0.win 11).blk t).view.emb y) :=
    fun t _ y => key t y
  exact Dat.arrAt_eq_of_covers (dats m 0 c) (11 : Fin 14) (wantedFin m c) (by decide +kernel) left

/-- The run, with the two results named and every argument unchanged. -/
theorem run_results : θ_run defs (onTc (τ := τ) (main (F := Ideal))) ⟨m, fun _ => 0, ρ⟩ (fun r => ∀ c : Dev nD,
      r.2.mem ((c.tc : Thread nD τ).loc main_v14_0) = wantedLat m c
      ∧ r.2.mem ((c.tc : Thread nD τ).loc main_v14_1) = wantedFin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (equalLat m c), (h c).2.1.trans (equalFin m c), (h c).2.2.2.2⟩) (Value.run_blocks m ρ)

end Cert.Kernel3Ideal.Out

end
-- ==== Proof.InPay.lean ====
/- One row of the input projection's call, and the kernel body's values read at an index: that row. -/
module

public import proofs.«01_k».proof.Proof.OutPay
public import proofs.«01_k».proof.Proof.Gen.Kernel4Ideal
public import proofs.«01_k».proof.Proof.Gen.Kernel4Ideal.Skeleton
public import Idealize.ShloMosaic.Lib.Pointwise
public import Idealize.ShloMosaic.PureOps.Ideal.Laws

@[expose] public section

set_option maxRecDepth 16384

noncomputable section

namespace Cert.Proj

open Idealize.ShloMosaic

/-- The smooth gate of one value, by the hyperbolic tangent. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- The mean of a row of 256. -/
def mean (v : Fin 256 → EReal) : EReal := Ideal.div (∑ k : Fin 256, v k) (Ideal.ofBits .f32 0x43800000#32)

/-- A row of 256 centred, divided by its deviation, scaled and shifted. -/
def layerNorm (v g b : Fin 256 → EReal) (j : Fin 256) : EReal :=
  (v j - mean v) * Ideal.rsqrt (mean (fun k => (v k - mean v) * (v k - mean v)) + Ideal.ofBits .f32 0x358637BD#32) * g j + b j

/-- A column's head, as an index. -/
def headOf (j : Fin 256) : Fin 4 := ⟨j.val / 64, by omega⟩

/-- Four copies of a chunk's column stacked, each kept where the column's head is its own and zero elsewhere. -/
def stack (h : Fin 4) (v : Fin 128 → EReal) (x : Fin 512) : EReal :=
  if hx : x.val < 128 then Scalar.select (IntOp.cmpi .eq (BitVec.ofNat 32 h.val) 0#32) (v ⟨x.val, hx⟩) 0
  else if hx : x.val - 128 < 128 then Scalar.select (IntOp.cmpi .eq (BitVec.ofNat 32 h.val) 1#32) (v ⟨x.val - 128, hx⟩) 0
  else if hx : x.val - 128 - 128 < 128 then Scalar.select (IntOp.cmpi .eq (BitVec.ofNat 32 h.val) 2#32) (v ⟨x.val - 128 - 128, hx⟩) 0
  else Scalar.select (IntOp.cmpi .eq (BitVec.ofNat 32 h.val) 3#32) (v ⟨x.val - 128 - 128 - 128, by omega⟩) 0

theorem select_head (h c : Fin 4) (a : EReal) :
    Scalar.select (IntOp.cmpi .eq (BitVec.ofNat 32 h.val) (BitVec.ofNat 32 c.val)) a 0 = if h = c then a else 0 := by
  have e : ∀ h c : Fin 4, IntOp.cmpi .eq (BitVec.ofNat 32 h.val) (BitVec.ofNat 32 c.val) = if h = c then 1#1 else 0#1 := by decide
  rw [e]
  by_cases hc : h = c
  · rw [if_pos hc, if_pos hc]; rfl
  · rw [if_neg hc, if_neg hc]; rfl

theorem stack_eq (h : Fin 4) (v : Fin 128 → EReal) (x : Fin 512) :
    stack h v x = if h.val = x.val / 128 then v ⟨x.val % 128, Nat.mod_lt _ (by decide)⟩ else 0 := by
  have key : ∀ c : Fin 4, x.val / 128 = c.val → ∀ y : Fin 128, y.val = x.val % 128 →
      Scalar.select (IntOp.cmpi .eq (BitVec.ofNat 32 h.val) (BitVec.ofNat 32 c.val)) (v y) 0
        = if h.val = x.val / 128 then v ⟨x.val % 128, Nat.mod_lt _ (by decide)⟩ else 0 := by
    intro c hc y hy
    rw [select_head, hc, show y = ⟨x.val % 128, Nat.mod_lt _ (by decide)⟩ from Fin.ext hy]
    by_cases h' : h = c
    · rw [if_pos h', if_pos (congrArg Fin.val h')]
    · rw [if_neg h', if_neg fun he => h' (Fin.ext he)]
  unfold stack
  split
  · exact key 0 (by show _ = 0; omega) _ (by show x.val = _; omega)
  split
  · exact key 1 (by show _ = 1; omega) _ (by show x.val - 128 = _; omega)
  split
  · exact key 2 (by show _ = 2; omega) _ (by show x.val - 128 - 128 = _; omega)
  · exact key 3 (by show _ = 3; omega) _ (by show x.val - 128 - 128 - 128 = _; omega)

/-- A product with the stack is the product of the head's own part with the chunk's column. -/
theorem stacked (h : Fin 4) (w : Fin 512 → EReal) (v : Fin 128 → EReal) :
    ∑ x : Fin 512, w x * stack h v x = ∑ q : Fin 128, w ⟨128 * h.val + q.val, by omega⟩ * v q := by
  symm
  refine Finset.sum_of_injOn (fun q : Fin 128 => (⟨128 * h.val + q.val, by omega⟩ : Fin 512)) ?_ ?_ ?_ ?_
  · intro a _ b _ hab
    have := congrArg Fin.val hab
    exact Fin.ext (by simpa using this)
  · intro _ _
    exact Finset.mem_coe.mpr (Finset.mem_univ _)
  · intro x _ hx
    rw [stack_eq, if_neg, mul_zero]
    intro he
    exact hx ⟨⟨x.val % 128, Nat.mod_lt _ (by decide)⟩, Finset.mem_coe.mpr (Finset.mem_univ _), Fin.ext (by show 128 * h.val + x.val % 128 = x.val; omega)⟩
  · intro q _
    show _ = w ⟨128 * h.val + q.val, _⟩ * stack h v ⟨128 * h.val + q.val, _⟩
    rw [stack_eq, if_pos (by show h.val = (128 * h.val + q.val) / 128; omega)]
    exact congrArg (fun y => w ⟨128 * h.val + q.val, by omega⟩ * v y) (Fin.ext (by show q.val = (128 * h.val + q.val) % 128; omega))

/-! ## The four results, row by row, of the arguments -/

variable (x : Fin 16640 → Fin 1024 → EReal) (mods : Fin 2 → Fin 6 → Fin 1024 → EReal) (n : Fin 1024 → EReal)
  (w : Fin 1024 → Fin 1632 → EReal)

/-- One entry of the projection: a row normed, scaled and shifted, times one column of the weights. -/
def proj (r : Fin 16640) (q : Fin 1632) : EReal :=
  ∑ k : Fin 1024, Cert.Out.normed (x r) n (mods (Cert.Out.part r) 1) (mods (Cert.Out.part r) 0) k * w k q

/-- The gated half's second part, normed. -/
def gateRow (g b : Fin 256 → EReal) (r : Fin 16640) : Fin 256 → EReal :=
  layerNorm (fun k => gelu (proj x mods n w r ⟨864 + k.val, by omega⟩)) g b

/-- The row of the same chunk of 128 at a place in it. -/
def mate (r : Fin 16640) (q : Fin 128) : Fin 16640 := ⟨r.val / 128 * 128 + q.val, by omega⟩

/-- One entry of the gated half: the first part times the chunk's rows of the second, mixed by the head's weights. -/
def gated (g b : Fin 256 → EReal) (ws : Fin 4 → Fin 128 → Fin 128 → EReal) (bs : Fin 4 → Fin 128 → EReal) (r : Fin 16640) (j : Fin 256) : EReal :=
  gelu (proj x mods n w r ⟨608 + j.val, by omega⟩)
    * ((∑ q : Fin 128, ws (headOf j) ⟨r.val % 128, Nat.mod_lt _ (by decide)⟩ q * gateRow x mods n w g b (mate r q) j)
      + bs (headOf j) ⟨r.val % 128, Nat.mod_lt _ (by decide)⟩)

end Cert.Proj

namespace Cert.Kernel4Ideal.Proj

open Idealize.ShloMosaic Cert.Out Cert.Proj Cert.Kernel4Ideal.Gen

theorem pay2_apply (i : grid0.Coords) (r : Fin 256) :
    k0_pay2 i (ix2 r 0) = if 16384 ≤ 256 * (i 0).val + r.val then 1#1 else 0#1 := by
  have hi : (i 0).val < 65 := (i 0).isLt
  have hs : IntOp.addi (Scalar.muli (BitVec.ofNat 32 (i 0).val) 256#32) (BitVec.ofNat 32 r.val) = BitVec.ofNat 32 (256 * (i 0).val + r.val) := by
    rw [Nat.mul_comm]
    exact (congrArg (· + BitVec.ofNat 32 r.val) (BitVec.ofNat_mul (i 0).val 256).symm).trans (BitVec.ofNat_add _ _).symm
  have ht : (BitVec.ofNat 32 (256 * (i 0).val + r.val)).toNat = 256 * (i 0).val + r.val := by rw [BitVec.toNat_ofNat]; omega
  have hc : IntOp.cmpi .sge (BitVec.ofNat 32 (256 * (i 0).val + r.val)) 16384#32
      = BitVec.ofBool (decide (16384 ≤ 256 * (i 0).val + r.val)) := by
    show BitVec.ofBool (BitVec.sle 16384#32 (BitVec.ofNat 32 (256 * (i 0).val + r.val))) = _
    rw [BitVec.sle_eq_decide, BitVec.toInt_eq_toNat_cond, BitVec.toInt_eq_toNat_cond, ht, if_pos (by decide), if_pos (by omega)]
    congr 1
    exact decide_eq_decide.mpr Int.ofNat_le
  have h : k0_pay2 i (ix2 r 0) = IntOp.cmpi .sge (IntOp.addi (Scalar.muli (BitVec.ofNat 32 (i 0).val) 256#32) (BitVec.ofNat 32 r.val)) 16384#32 := by
    pointwise [k0_pay2]
  rw [h, hs, hc]
  by_cases hx : 16384 ≤ 256 * (i 0).val + r.val <;> simp [hx]

theorem pay5_apply (i : grid0.Coords) (x : Vec Ideal S256x1024 .f32) (n : Vec Ideal S1x1024 .f32) (sc1 sc0 sh1 sh0 : Vec Ideal S1x1x1024 .f32)
    (w : Vec Ideal S1024x2176 .bf16) (r : Fin 256) (q : Fin 2176) :
    k0_pay5 (k0_pay2 i) (k0_pay3 i x n sc1 sc0) (k0_pay4 sh1) sh0 w (ix2 r q)
      = ∑ k : Fin 1024, normed (fun j => x (ix2 r j)) (fun j => n (ix2 0 j))
          (fun j => Scalar.select (k0_pay2 i (ix2 r 0)) (sc1 (ix3 0 0 j)) (sc0 (ix3 0 0 j)))
          (fun j => Scalar.select (k0_pay2 i (ix2 r 0)) (sh1 (ix3 0 0 j)) (sh0 (ix3 0 0 j))) k * w (ix2 k q) := by
  pointwise [k0_pay5, k0_pay4, k0_pay3, normed]

variable (v6 : IVec S256x1 1) (v34 : FVec Ideal S256x1024 .f32) (v36 : FVec Ideal S1x1024 .f32) (v37 : Vec Ideal S1x1x1024 .f32) (w : Vec Ideal S1024x2176 .bf16)

theorem pay6_apply (r j : Fin 256) : k0_pay6 v6 v34 v36 v37 w (ix2 r j) = k0_pay5 v6 v34 v36 v37 w (ix2 r ⟨j.val, by omega⟩) := by
  pointwise [k0_pay6]

theorem pay7_apply (r j : Fin 256) : k0_pay7 v6 v34 v36 v37 w (ix2 r j) = k0_pay5 v6 v34 v36 v37 w (ix2 r ⟨1664 + j.val, by omega⟩) := by
  pointwise [k0_pay7]

theorem pay8_apply (r j : Fin 256) : k0_pay8 v6 v34 v36 v37 w (ix2 r j) = gelu (k0_pay5 v6 v34 v36 v37 w (ix2 r ⟨1920 + j.val, by omega⟩)) := by
  pointwise [k0_pay8, gelu]

/-! ## The gated half: columns 1152 to 1663 -/

variable (p : FVec Ideal S256x2176 .f32)

theorem pay36_apply (r : Fin 256) (j : Fin 512) : k0_pay36 (k0_pay34 p) (k0_pay35 p) (ix2 r j) = gelu (p (ix2 r ⟨1152 + j.val, by omega⟩)) := by
  pointwise [k0_pay36, k0_pay35, k0_pay34, gelu]

theorem pay37_apply (r j : Fin 256) : k0_pay37 (k0_pay34 p) (k0_pay35 p) (ix2 r j) = gelu (p (ix2 r ⟨1152 + j.val, by omega⟩)) := by
  refine Eq.trans ?_ (pay36_apply p r ⟨j.val, by omega⟩)
  pointwise [k0_pay37]

theorem pay38_apply (g b : Vec Ideal S1x256 .f32) (r j : Fin 256) :
    k0_pay38 (k0_pay34 p) (k0_pay35 p) g b (ix2 r j)
      = layerNorm (fun k => gelu (p (ix2 r ⟨1408 + k.val, by omega⟩))) (fun k => g (ix2 0 k)) (fun k => b (ix2 0 k)) j := by
  have e : ∀ k : Fin 256, k0_pay36 (k0_pay34 p) (k0_pay35 p) (ix2 r ⟨256 + k.val, by omega⟩) = gelu (p (ix2 r ⟨1408 + k.val, by omega⟩)) := fun k =>
    (pay36_apply p r ⟨256 + k.val, by omega⟩).trans (congrArg (fun q => gelu (p (ix2 r q))) (Fin.ext (by show 1152 + (256 + k.val) = 1408 + k.val; omega)))
  unfold layerNorm
  simp only [← e]
  pointwise [k0_pay38, mean]

/-- A column's head: 64 columns each. -/
theorem head_apply (r : Fin 128) (j : Fin 256) :
    k0_pay42 (iota .tc S128x256 32 [1] iota_S128x256_d1_w32) k0_pay39 k0_pay40 k0_pay41 (ix2 r j) = BitVec.ofNat 32 (j.val / 64) := by
  pointwise [k0_pay42, k0_pay41, k0_pay40, k0_pay39]
  revert j
  decide +kernel

variable (u : FVec Ideal S256x256 .f32) (v : FVec Ideal S256x256 .bf16) (i1 i2 i4 : IVec S128x256 32) (i3 : IVec S128x256 1)
  (ws : Vec Ideal S128x512 .bf16) (sb : Vec Ideal S128x256 .f32)

theorem pay44_apply (hd : ∀ r j, k0_pay42 i1 i2 i3 i4 (ix2 r j) = BitVec.ofNat 32 (j.val / 64)) (r : Fin 128) (j : Fin 256) :
    k0_pay44 u v i1 i2 i3 i4 ws sb (ix2 r j)
      = u (ix2 ⟨r.val, by omega⟩ j) * ((∑ q : Fin 128, ws (ix2 r ⟨128 * (headOf j).val + q.val, by omega⟩) * v (ix2 ⟨q.val, by omega⟩ j)) + sb (ix2 r j)) := by
  rw [← stacked (headOf j) (fun x => ws (ix2 r x)) (fun q => v (ix2 ⟨q.val, by omega⟩ j))]
  pointwise [k0_pay44, k0_pay43, hd, headOf, stack]

theorem pay1_apply (hd : ∀ r j, k0_pay42 i1 i2 i3 i4 (ix2 r j) = BitVec.ofNat 32 (j.val / 64)) (r : Fin 128) (j : Fin 256) :
    k0_pay1 u (k0_pay42 i1 i2 i3 i4) k0_pay43 (k0_pay45 v) (k0_pay46 v i1 i2 i3 i4) (k0_pay47 v i1 i2 i3 i4) (k0_pay48 v i1 i2 i3 i4) ws sb (ix2 r j)
      = u (ix2 ⟨128 + r.val, by omega⟩ j)
        * ((∑ q : Fin 128, ws (ix2 r ⟨128 * (headOf j).val + q.val, by omega⟩) * v (ix2 ⟨128 + q.val, by omega⟩ j)) + sb (ix2 r j)) := by
  rw [← stacked (headOf j) (fun x => ws (ix2 r x)) (fun q => v (ix2 ⟨128 + q.val, by omega⟩ j))]
  pointwise [k0_pay1, k0_pay43, k0_pay45, k0_pay46, k0_pay47, k0_pay48, hd, headOf, stack]

end Cert.Kernel4Ideal.Proj

end
-- ==== Proof.InBody.lean ====
/- The input projections' call: the arrays its pipeline starts from, what one grid point's body leaves in each block
   (a function of the input blocks), and the proof that the body leaves exactly that. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel4Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1380000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel4Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) h

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S2x6x1024 := Rect.unit (s := S2x6x1024) ![1, 1, 0] S1x1x1024.size inb_S2x6x1024_S1x1x1024_1_1_0
abbrev r0_3 : Rect S2x6x1024 := Rect.unit (s := S2x6x1024) ![0, 1, 0] S1x1x1024.size inb_S2x6x1024_S1x1x1024_0_1_0
abbrev r0_4 : Rect S2x6x1024 := Rect.unit (s := S2x6x1024) ![1, 0, 0] S1x1x1024.size inb_S2x6x1024_S1x1x1024_1_0_0
abbrev r0_5 : Rect S2x6x1024 := Rect.unit (s := S2x6x1024) ![0, 0, 0] S1x1x1024.size inb_S2x6x1024_S1x1x1024_0_0_0
abbrev r0_6 : Rect S1024x2176 := Rect.unit (s := S1024x2176) ![0, 0] S1024x2176.size inb_S1024x2176_S1024x2176_0_0
abbrev r0_7 : Rect S256x256 := Rect.unit (s := S256x256) ![0, 0] S256x256.size inb_S256x256_S256x256_0_0
abbrev r0_8 : Rect S256x128 := Rect.unit (s := S256x128) ![0, 0] S256x128.size inb_S256x128_S256x128_0_0
abbrev r0_9 : Rect S1x256 := Rect.unit (s := S1x256) ![0, 0] S1x256.size inb_S1x256_S1x256_0_0
abbrev r0_10 : Rect S256x512 := Rect.unit (s := S256x512) ![0, 0] S256x512.size inb_S256x512_S256x512_0_0
abbrev r0_11 : Rect S1x128 := Rect.unit (s := S1x128) ![0, 0] S1x128.size inb_S1x128_S1x128_0_0
abbrev r0_12 : Rect S128x1024 := Rect.unit (s := S128x1024) ![0, 0] S128x1024.size inb_S128x1024_S128x1024_0_0
abbrev r0_13 : Rect S512x256 := Rect.unit (s := S512x256) ![0, 0] S512x256.size inb_S512x256_S512x256_0_0
abbrev r0_14 : Rect S128x512 := Rect.unit (s := S128x512) ![0, 0] S128x512.size inb_S128x512_S128x512_0_0
abbrev r0_15 : Rect S128x256 := Rect.unit (s := S128x256) ![0, 0] S128x256.size inb_S128x256_S128x256_0_0
abbrev r0_16 : Rect S256x256 := Rect.unit (s := S256x256) ![0, 0] S128x256.size inb_S256x256_S128x256_0_0
abbrev r0_17 : Rect S256x256 := Rect.unit (s := S256x256) ![128, 0] S128x256.size inb_S256x256_S128x256_128_0

/-! ## What the body leaves in each output window's buffer -/

/-! ### Values of the body that the stores' payloads, spelt out, would write more than once

    Each is a vector the body binds (often a part call's result), stated over the input windows' blocks and
    numbered on from the skeleton's payload functions (`k0_pay49` …, after `k0_pay48`), so that
    `out0_W` and the values after it name it instead of spelling it out. -/

def k0_pay49 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : IVec S256x1 1 :=
  k0_pay2 i
def k0_pay50 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : FVec F S256x1024 .f32 :=
  k0_pay3 i (View.ld x0 r0_0) (View.ld x2 r0_1) (View.ld x1 r0_2) (View.ld x1 r0_3)
def k0_pay51 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : FVec F S1x1024 .f32 :=
  k0_pay4 (View.ld x1 r0_4)
def k0_pay52 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : IVec S256x128 32 :=
  iota .tc S256x128 32 [1] iota_S256x128_d1_w32
def k0_pay53 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : FVec F S256x2176 .f32 :=
  k0_pay5 (k0_pay49 i x0 x1 x2 x3 x4 x5 x6 x7 x8 x9 x10 x11 x12 x13 x14 x15) (k0_pay50 i x0 x1 x2 x3 x4 x5 x6 x7 x8 x9 x10 x11 x12 x13 x14 x15) (k0_pay51 i x0 x1 x2 x3 x4 x5 x6 x7 x8 x9 x10 x11 x12 x13 x14 x15) (View.ld x1 r0_5) (View.ld x3 r0_6)
def k0_pay54 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : FVec F S256x256 .f32 :=
  k0_pay9 (k0_pay49 i x0 x1 x2 x3 x4 x5 x6 x7 x8 x9 x10 x11 x12 x13 x14 x15) (k0_pay50 i x0 x1 x2 x3 x4 x5 x6 x7 x8 x9 x10 x11 x12 x13 x14 x15) (k0_pay51 i x0 x1 x2 x3 x4 x5 x6 x7 x8 x9 x10 x11 x12 x13 x14 x15) (View.ld x1 r0_5) (View.ld x3 r0_6)
def k0_pay55 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : FVec F S256 .f32 :=
  k0_pay10 (k0_pay49 i x0 x1 x2 x3 x4 x5 x6 x7 x8 x9 x10 x11 x12 x13 x14 x15) (k0_pay50 i x0 x1 x2 x3 x4 x5 x6 x7 x8 x9 x10 x11 x12 x13 x14 x15) (k0_pay51 i x0 x1 x2 x3 x4 x5 x6 x7 x8 x9 x10 x11 x12 x13 x14 x15) (View.ld x1 r0_5) (View.ld x3 r0_6)
def k0_pay56 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : FVec F S256x512 .f32 :=
  k0_pay11 (k0_pay54 i x0 x1 x2 x3 x4 x5 x6 x7 x8 x9 x10 x11 x12 x13 x14 x15) (k0_pay55 i x0 x1 x2 x3 x4 x5 x6 x7 x8 x9 x10 x11 x12 x13 x14 x15) (View.ld x4 r0_9) (View.ld x5 r0_10)
def k0_pay57 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : FVec F S1x128 .f32 :=
  k0_pay12 (View.ld x8 r0_11)
def k0_pay58 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : FVec F S256x128 .bf16 :=
  k0_pay19 (k0_pay53 i x0 x1 x2 x3 x4 x5 x6 x7 x8 x9 x10 x11 x12 x13 x14 x15) (View.ld x6 r0_11)
def k0_pay59 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : FVec F S256x512 .f32 :=
  k0_pay21 (k0_pay53 i x0 x1 x2 x3 x4 x5 x6 x7 x8 x9 x10 x11 x12 x13 x14 x15) (k0_pay58 i x0 x1 x2 x3 x4 x5 x6 x7 x8 x9 x10 x11 x12 x13 x14 x15) (View.ld x7 r0_12)
def k0_pay60 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : FVec F S1x128 .f32 :=
  k0_pay22 (View.ld x9 r0_11)
def k0_pay61 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : FVec F S256x512 .f32 :=
  k0_pay34 (k0_pay53 i x0 x1 x2 x3 x4 x5 x6 x7 x8 x9 x10 x11 x12 x13 x14 x15)
def k0_pay62 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : FVec F S256x512 .f32 :=
  k0_pay35 (k0_pay53 i x0 x1 x2 x3 x4 x5 x6 x7 x8 x9 x10 x11 x12 x13 x14 x15)
def k0_pay63 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : IVec S128x256 32 :=
  iota .tc S128x256 32 [1] iota_S128x256_d1_w32
def k0_pay64 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : FVec F S256x256 .f32 :=
  k0_pay37 (k0_pay61 i x0 x1 x2 x3 x4 x5 x6 x7 x8 x9 x10 x11 x12 x13 x14 x15) (k0_pay62 i x0 x1 x2 x3 x4 x5 x6 x7 x8 x9 x10 x11 x12 x13 x14 x15)
def k0_pay65 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : FVec F S256x256 .bf16 :=
  k0_pay38 (k0_pay61 i x0 x1 x2 x3 x4 x5 x6 x7 x8 x9 x10 x11 x12 x13 x14 x15) (k0_pay62 i x0 x1 x2 x3 x4 x5 x6 x7 x8 x9 x10 x11 x12 x13 x14 x15) (View.ld x12 r0_9) (View.ld x13 r0_9)
def k0_pay66 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : IVec S128x256 32 :=
  k0_pay39
def k0_pay67 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : IVec S128x256 1 :=
  k0_pay40
def k0_pay68 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : IVec S128x256 32 :=
  k0_pay41

/-- Window 16's staging buffer after the body, from the input windows' blocks: its 1 store as pieces, LAST
    FIRST (Lib/Pipeline/FrameBody.lean `View.canon`; the payloads are the skeleton's and the values stated above). -/
def out0_16 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : Vec F S256x256 .f32 :=
  View.canon [⟨r0_7, k0_pay6 (k0_pay49 i x0 x1 x2 x3 x4 x5 x6 x7 x8 x9 x10 x11 x12 x13 x14 x15) (k0_pay50 i x0 x1 x2 x3 x4 x5 x6 x7 x8 x9 x10 x11 x12 x13 x14 x15) (k0_pay51 i x0 x1 x2 x3 x4 x5 x6 x7 x8 x9 x10 x11 x12 x13 x14 x15) (View.ld x1 r0_5) (View.ld x3 r0_6)⟩]

/-- Its stores tile the buffer (checked by evaluation), so they cover it. -/
theorem cover0_16 (p0 : Vec F S256x256 .f32) (y : S256x256.Idx) :
    ∃ pc ∈ ([⟨r0_7, p0⟩] : List (View.Piece (Elt F) S256x256 .f32)), y ∈ pc.1.set :=
  View.cover_of_tiled [⟨r0_7, p0⟩] S256x256.size (by rfl) y

/-- Window 17's staging buffer after the body, from the input windows' blocks: its 1 store as pieces, LAST
    FIRST (Lib/Pipeline/FrameBody.lean `View.canon`; the payloads are the skeleton's and the values stated above). -/
def out0_17 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : Vec F S256x512 .bf16 :=
  View.canon [⟨r0_10, k0_pay18 (k0_pay52 i x0 x1 x2 x3 x4 x5 x6 x7 x8 x9 x10 x11 x12 x13 x14 x15) (View.ld x10 r0_8) (View.ld x11 r0_8) (k0_pay56 i x0 x1 x2 x3 x4 x5 x6 x7 x8 x9 x10 x11 x12 x13 x14 x15) (k0_pay57 i x0 x1 x2 x3 x4 x5 x6 x7 x8 x9 x10 x11 x12 x13 x14 x15) (k0_pay13 (k0_pay52 i x0 x1 x2 x3 x4 x5 x6 x7 x8 x9 x10 x11 x12 x13 x14 x15) (View.ld x10 r0_8) (View.ld x11 r0_8) (k0_pay54 i x0 x1 x2 x3 x4 x5 x6 x7 x8 x9 x10 x11 x12 x13 x14 x15) (k0_pay55 i x0 x1 x2 x3 x4 x5 x6 x7 x8 x9 x10 x11 x12 x13 x14 x15) (View.ld x4 r0_9) (View.ld x5 r0_10) (View.ld x8 r0_11)) (k0_pay16 (k0_pay52 i x0 x1 x2 x3 x4 x5 x6 x7 x8 x9 x10 x11 x12 x13 x14 x15) (View.ld x10 r0_8) (View.ld x11 r0_8) (k0_pay57 i x0 x1 x2 x3 x4 x5 x6 x7 x8 x9 x10 x11 x12 x13 x14 x15) (k0_pay14 (k0_pay54 i x0 x1 x2 x3 x4 x5 x6 x7 x8 x9 x10 x11 x12 x13 x14 x15) (k0_pay55 i x0 x1 x2 x3 x4 x5 x6 x7 x8 x9 x10 x11 x12 x13 x14 x15) (View.ld x4 r0_9) (View.ld x5 r0_10)) (k0_pay15 (k0_pay54 i x0 x1 x2 x3 x4 x5 x6 x7 x8 x9 x10 x11 x12 x13 x14 x15) (k0_pay55 i x0 x1 x2 x3 x4 x5 x6 x7 x8 x9 x10 x11 x12 x13 x14 x15) (View.ld x4 r0_9) (View.ld x5 r0_10))) (k0_pay17 (k0_pay52 i x0 x1 x2 x3 x4 x5 x6 x7 x8 x9 x10 x11 x12 x13 x14 x15) (View.ld x10 r0_8) (View.ld x11 r0_8) (k0_pay56 i x0 x1 x2 x3 x4 x5 x6 x7 x8 x9 x10 x11 x12 x13 x14 x15) (k0_pay57 i x0 x1 x2 x3 x4 x5 x6 x7 x8 x9 x10 x11 x12 x13 x14 x15))⟩]

/-- Its stores tile the buffer (checked by evaluation), so they cover it. -/
theorem cover0_17 (p0 : Vec F S256x512 .bf16) (y : S256x512.Idx) :
    ∃ pc ∈ ([⟨r0_10, p0⟩] : List (View.Piece (Elt F) S256x512 .bf16)), y ∈ pc.1.set :=
  View.cover_of_tiled [⟨r0_10, p0⟩] S256x512.size (by rfl) y

/-- Window 18's staging buffer after the body, from the input windows' blocks: its 1 store as pieces, LAST
    FIRST (Lib/Pipeline/FrameBody.lean `View.canon`; the payloads are the skeleton's and the values stated above). -/
def out0_18 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : Vec F S256x512 .bf16 :=
  View.canon [⟨r0_10, k0_pay32 (k0_pay23 (k0_pay53 i x0 x1 x2 x3 x4 x5 x6 x7 x8 x9 x10 x11 x12 x13 x14 x15) (k0_pay52 i x0 x1 x2 x3 x4 x5 x6 x7 x8 x9 x10 x11 x12 x13 x14 x15) (View.ld x10 r0_8) (View.ld x11 r0_8) (k0_pay58 i x0 x1 x2 x3 x4 x5 x6 x7 x8 x9 x10 x11 x12 x13 x14 x15) (View.ld x7 r0_12) (View.ld x9 r0_11)) (k0_pay27 (View.ld x10 r0_8) (View.ld x11 r0_8) (k0_pay24 (k0_pay53 i x0 x1 x2 x3 x4 x5 x6 x7 x8 x9 x10 x11 x12 x13 x14 x15) (k0_pay58 i x0 x1 x2 x3 x4 x5 x6 x7 x8 x9 x10 x11 x12 x13 x14 x15) (View.ld x7 r0_12) (View.ld x9 r0_11)) (k0_pay25 (k0_pay52 i x0 x1 x2 x3 x4 x5 x6 x7 x8 x9 x10 x11 x12 x13 x14 x15)) (k0_pay26 (k0_pay53 i x0 x1 x2 x3 x4 x5 x6 x7 x8 x9 x10 x11 x12 x13 x14 x15) (k0_pay58 i x0 x1 x2 x3 x4 x5 x6 x7 x8 x9 x10 x11 x12 x13 x14 x15) (View.ld x7 r0_12) (View.ld x9 r0_11)) 16#32) (k0_pay28 (k0_pay52 i x0 x1 x2 x3 x4 x5 x6 x7 x8 x9 x10 x11 x12 x13 x14 x15) (View.ld x10 r0_8) (View.ld x11 r0_8) (k0_pay59 i x0 x1 x2 x3 x4 x5 x6 x7 x8 x9 x10 x11 x12 x13 x14 x15) (k0_pay60 i x0 x1 x2 x3 x4 x5 x6 x7 x8 x9 x10 x11 x12 x13 x14 x15)) (k0_pay30 (View.ld x10 r0_8) (k0_pay59 i x0 x1 x2 x3 x4 x5 x6 x7 x8 x9 x10 x11 x12 x13 x14 x15) (k0_pay60 i x0 x1 x2 x3 x4 x5 x6 x7 x8 x9 x10 x11 x12 x13 x14 x15)) (k0_pay31 (k0_pay52 i x0 x1 x2 x3 x4 x5 x6 x7 x8 x9 x10 x11 x12 x13 x14 x15) (View.ld x11 r0_8) (k0_pay59 i x0 x1 x2 x3 x4 x5 x6 x7 x8 x9 x10 x11 x12 x13 x14 x15) (k0_pay60 i x0 x1 x2 x3 x4 x5 x6 x7 x8 x9 x10 x11 x12 x13 x14 x15))⟩]

/-- Its stores tile the buffer (checked by evaluation), so they cover it. -/
theorem cover0_18 (p0 : Vec F S256x512 .bf16) (y : S256x512.Idx) :
    ∃ pc ∈ ([⟨r0_10, p0⟩] : List (View.Piece (Elt F) S256x512 .bf16)), y ∈ pc.1.set :=
  View.cover_of_tiled [⟨r0_10, p0⟩] S256x512.size (by rfl) y

/-- Window 19's staging buffer after the body, from the input windows' blocks: its 1 store as pieces, LAST
    FIRST (Lib/Pipeline/FrameBody.lean `View.canon`; the payloads are the skeleton's and the values stated above). -/
def out0_19 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : Vec F S512x256 .bf16 :=
  View.canon [⟨r0_13, k0_pay33 (k0_pay20 (k0_pay58 i x0 x1 x2 x3 x4 x5 x6 x7 x8 x9 x10 x11 x12 x13 x14 x15) (View.ld x7 r0_12))⟩]

/-- Its stores tile the buffer (checked by evaluation), so they cover it. -/
theorem cover0_19 (p0 : Vec F S512x256 .bf16) (y : S512x256.Idx) :
    ∃ pc ∈ ([⟨r0_13, p0⟩] : List (View.Piece (Elt F) S512x256 .bf16)), y ∈ pc.1.set :=
  View.cover_of_tiled [⟨r0_13, p0⟩] S512x256.size (by rfl) y

/-- Window 20's staging buffer after the body, from the input windows' blocks: its 2 stores as pieces, LAST
    FIRST (Lib/Pipeline/FrameBody.lean `View.canon`; the payloads are the skeleton's and the values stated above). -/
def out0_20 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : Vec F S256x256 .bf16 :=
  View.canon [⟨r0_17, k0_pay1 (k0_pay64 i x0 x1 x2 x3 x4 x5 x6 x7 x8 x9 x10 x11 x12 x13 x14 x15) (k0_pay42 (k0_pay63 i x0 x1 x2 x3 x4 x5 x6 x7 x8 x9 x10 x11 x12 x13 x14 x15) (k0_pay66 i x0 x1 x2 x3 x4 x5 x6 x7 x8 x9 x10 x11 x12 x13 x14 x15) (k0_pay67 i x0 x1 x2 x3 x4 x5 x6 x7 x8 x9 x10 x11 x12 x13 x14 x15) (k0_pay68 i x0 x1 x2 x3 x4 x5 x6 x7 x8 x9 x10 x11 x12 x13 x14 x15)) (k0_pay43 (F := F)) (k0_pay45 (k0_pay65 i x0 x1 x2 x3 x4 x5 x6 x7 x8 x9 x10 x11 x12 x13 x14 x15)) (k0_pay46 (k0_pay65 i x0 x1 x2 x3 x4 x5 x6 x7 x8 x9 x10 x11 x12 x13 x14 x15) (k0_pay63 i x0 x1 x2 x3 x4 x5 x6 x7 x8 x9 x10 x11 x12 x13 x14 x15) (k0_pay66 i x0 x1 x2 x3 x4 x5 x6 x7 x8 x9 x10 x11 x12 x13 x14 x15) (k0_pay67 i x0 x1 x2 x3 x4 x5 x6 x7 x8 x9 x10 x11 x12 x13 x14 x15) (k0_pay68 i x0 x1 x2 x3 x4 x5 x6 x7 x8 x9 x10 x11 x12 x13 x14 x15)) (k0_pay47 (k0_pay65 i x0 x1 x2 x3 x4 x5 x6 x7 x8 x9 x10 x11 x12 x13 x14 x15) (k0_pay63 i x0 x1 x2 x3 x4 x5 x6 x7 x8 x9 x10 x11 x12 x13 x14 x15) (k0_pay66 i x0 x1 x2 x3 x4 x5 x6 x7 x8 x9 x10 x11 x12 x13 x14 x15) (k0_pay67 i x0 x1 x2 x3 x4 x5 x6 x7 x8 x9 x10 x11 x12 x13 x14 x15) (k0_pay68 i x0 x1 x2 x3 x4 x5 x6 x7 x8 x9 x10 x11 x12 x13 x14 x15)) (k0_pay48 (k0_pay65 i x0 x1 x2 x3 x4 x5 x6 x7 x8 x9 x10 x11 x12 x13 x14 x15) (k0_pay63 i x0 x1 x2 x3 x4 x5 x6 x7 x8 x9 x10 x11 x12 x13 x14 x15) (k0_pay66 i x0 x1 x2 x3 x4 x5 x6 x7 x8 x9 x10 x11 x12 x13 x14 x15) (k0_pay67 i x0 x1 x2 x3 x4 x5 x6 x7 x8 x9 x10 x11 x12 x13 x14 x15) (k0_pay68 i x0 x1 x2 x3 x4 x5 x6 x7 x8 x9 x10 x11 x12 x13 x14 x15)) (View.ld x14 r0_14) (View.ld x15 r0_15)⟩,
    ⟨r0_16, k0_pay44 (k0_pay64 i x0 x1 x2 x3 x4 x5 x6 x7 x8 x9 x10 x11 x12 x13 x14 x15) (k0_pay65 i x0 x1 x2 x3 x4 x5 x6 x7 x8 x9 x10 x11 x12 x13 x14 x15) (k0_pay63 i x0 x1 x2 x3 x4 x5 x6 x7 x8 x9 x10 x11 x12 x13 x14 x15) (k0_pay66 i x0 x1 x2 x3 x4 x5 x6 x7 x8 x9 x10 x11 x12 x13 x14 x15) (k0_pay67 i x0 x1 x2 x3 x4 x5 x6 x7 x8 x9 x10 x11 x12 x13 x14 x15) (k0_pay68 i x0 x1 x2 x3 x4 x5 x6 x7 x8 x9 x10 x11 x12 x13 x14 x15) (View.ld x14 r0_14) (View.ld x15 r0_15)⟩]

/-- Its stores tile the buffer (checked by evaluation), so they cover it. -/
theorem cover0_20 (p0 : Vec F S128x256 .bf16) (p1 : Vec F S128x256 .bf16) (y : S256x256.Idx) :
    ∃ pc ∈ ([⟨r0_17, p0⟩, ⟨r0_16, p1⟩] : List (View.Piece (Elt F) S256x256 .bf16)), y ∈ pc.1.set :=
  View.cover_of_tiled [⟨r0_17, p0⟩, ⟨r0_16, p1⟩] S128x256.size (by rfl) y

/-- Window 21's staging buffer after the body, from the input windows' blocks: its 1 store as pieces, LAST
    FIRST (Lib/Pipeline/FrameBody.lean `View.canon`; the payloads are the skeleton's and the values stated above). -/
def out0_21 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : Vec F S256x256 .f32 :=
  View.canon [⟨r0_7, k0_pay7 (k0_pay49 i x0 x1 x2 x3 x4 x5 x6 x7 x8 x9 x10 x11 x12 x13 x14 x15) (k0_pay50 i x0 x1 x2 x3 x4 x5 x6 x7 x8 x9 x10 x11 x12 x13 x14 x15) (k0_pay51 i x0 x1 x2 x3 x4 x5 x6 x7 x8 x9 x10 x11 x12 x13 x14 x15) (View.ld x1 r0_5) (View.ld x3 r0_6)⟩]

/-- Its stores tile the buffer (checked by evaluation), so they cover it. -/
theorem cover0_21 (p0 : Vec F S256x256 .f32) (y : S256x256.Idx) :
    ∃ pc ∈ ([⟨r0_7, p0⟩] : List (View.Piece (Elt F) S256x256 .f32)), y ∈ pc.1.set :=
  View.cover_of_tiled [⟨r0_7, p0⟩] S256x256.size (by rfl) y

/-- Window 22's staging buffer after the body, from the input windows' blocks: its 1 store as pieces, LAST
    FIRST (Lib/Pipeline/FrameBody.lean `View.canon`; the payloads are the skeleton's and the values stated above). -/
def out0_22 (i : grid0.Coords) (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) : Vec F S256x256 .f32 :=
  View.canon [⟨r0_7, k0_pay8 (k0_pay49 i x0 x1 x2 x3 x4 x5 x6 x7 x8 x9 x10 x11 x12 x13 x14 x15) (k0_pay50 i x0 x1 x2 x3 x4 x5 x6 x7 x8 x9 x10 x11 x12 x13 x14 x15) (k0_pay51 i x0 x1 x2 x3 x4 x5 x6 x7 x8 x9 x10 x11 x12 x13 x14 x15) (View.ld x1 r0_5) (View.ld x3 r0_6)⟩]

/-- Its stores tile the buffer (checked by evaluation), so they cover it. -/
theorem cover0_22 (p0 : Vec F S256x256 .f32) (y : S256x256.Idx) :
    ∃ pc ∈ ([⟨r0_7, p0⟩] : List (View.Piece (Elt F) S256x256 .f32)), y ∈ pc.1.set :=
  View.cover_of_tiled [⟨r0_7, p0⟩] S256x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S2x6x1024 .f32) (harg2 : arg2.IsWhole) (arg3 : Memref sig .tc .vmem S1x1024 .f32) (harg3 : arg3.IsWhole) (arg4 : Memref sig .tc .vmem S1024x2176 .bf16) (harg4 : arg4.IsWhole) (arg5 : Memref sig .tc .vmem S1x256 .f32) (harg5 : arg5.IsWhole) (arg6 : Memref sig .tc .vmem S256x512 .bf16) (harg6 : arg6.IsWhole) (arg7 : Memref sig .tc .vmem S1x128 .f32) (harg7 : arg7.IsWhole) (arg8 : Memref sig .tc .vmem S128x1024 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S128x512 .bf16) (harg15 : arg15.IsWhole) (arg16 : Memref sig .tc .vmem S128x256 .f32) (harg16 : arg16.IsWhole) (arg17 : Memref sig .tc .vmem S256x256 .f32) (harg17 : arg17.IsWhole) (arg18 : Memref sig .tc .vmem S256x512 .bf16) (harg18 : arg18.IsWhole) (arg19 : Memref sig .tc .vmem S256x512 .bf16) (harg19 : arg19.IsWhole) (arg20 : Memref sig .tc .vmem S512x256 .bf16) (harg20 : arg20.IsWhole) (arg21 : Memref sig .tc .vmem S256x256 .bf16) (harg21 : arg21.IsWhole) (arg22 : Memref sig .tc .vmem S256x256 .f32) (harg22 : arg22.IsWhole) (arg23 : Memref sig .tc .vmem S256x256 .f32) (harg23 : arg23.IsWhole)
    (x0 : Vec F S256x1024 .f32) (x1 : Vec F S2x6x1024 .f32) (x2 : Vec F S1x1024 .f32) (x3 : Vec F S1024x2176 .bf16) (x4 : Vec F S1x256 .f32) (x5 : Vec F S256x512 .bf16) (x6 : Vec F S1x128 .f32) (x7 : Vec F S128x1024 .bf16) (x8 : Vec F S1x128 .f32) (x9 : Vec F S1x128 .f32) (x10 : Vec F S256x128 .f32) (x11 : Vec F S256x128 .f32) (x12 : Vec F S1x256 .f32) (x13 : Vec F S1x256 .f32) (x14 : Vec F S128x512 .bf16) (x15 : Vec F S128x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0_16 i x0 x1 x2 x3 x4 x5 x6 x7 x8 x9 x10 x11 x12 x13 x14 x15) ∗ owns (c : Thread nD τ) arg18 fullShare (out0_17 i x0 x1 x2 x3 x4 x5 x6 x7 x8 x9 x10 x11 x12 x13 x14 x15) ∗ owns (c : Thread nD τ) arg19 fullShare (out0_18 i x0 x1 x2 x3 x4 x5 x6 x7 x8 x9 x10 x11 x12 x13 x14 x15) ∗ owns (c : Thread nD τ) arg20 fullShare (out0_19 i x0 x1 x2 x3 x4 x5 x6 x7 x8 x9 x10 x11 x12 x13 x14 x15) ∗ owns (c : Thread nD τ) arg21 fullShare (out0_20 i x0 x1 x2 x3 x4 x5 x6 x7 x8 x9 x10 x11 x12 x13 x14 x15) ∗ owns (c : Thread nD τ) arg22 fullShare (out0_21 i x0 x1 x2 x3 x4 x5 x6 x7 x8 x9 x10 x11 x12 x13 x14 x15) ∗ owns (c : Thread nD τ) arg23 fullShare (out0_22 i x0 x1 x2 x3 x4 x5 x6 x7 x8 x9 x10 x11 x12 x13 x14 x15)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _ _)).trans ?_
    rfl
  isplitl [H21]
  · iexists _; isplitr
    swap; · iexact H21
    ipureintro
    refine (View.read_writes_eq_canon _ _ _ (cover0_21 _)).trans ?_
    rfl
  iexists _; isplitr
  swap; · iexact H22
  ipureintro
  refine (View.read_writes_eq_canon _ _ _ (cover0_22 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨18, _⟩ => out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨19, _⟩ => out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_17 (c : Dev nD) (t : Fin cfg0.N) : (dats m 0 c).after 17 t = out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_18 (c : Dev nD) (t : Fin cfg0.N) : (dats m 0 c).after 18 t = out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_19 (c : Dev nD) (t : Fin cfg0.N) : (dats m 0 c).after 19 t = out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

end Cert.Kernel4Ideal.Proj

end
-- ==== Proof.InValue.lean ====
/- The input projection's call: the windows' blocks as entries of the arguments. -/
module

public import proofs.«01_k».proof.Proof.InPay
public import proofs.«01_k».proof.Proof.InBody
public import Idealize.ShloMosaic.Lib.Pipeline.Value
public import Idealize.ShloMosaic.Lib.Pipeline.ValueKit
public import Idealize.ShloMosaic.Lib.Claim
public import Idealize.ShloMosaic.Lib.StableHlo.RunRead

@[expose] public section

set_option maxRecDepth 16384

noncomputable section

namespace Cert.Kernel4Ideal.Proj

open Idealize.ShloMosaic Idealize.ShloMosaic.TcCoe Idealize.SL.Sem
open Idealize.ShloMosaic.Pipeline (Dat Cfg Window)
open Cert.Kernel4Ideal.Gen Cert.Out Cert.Proj

variable (m : (ℓ : Loc nD τ sig) → Buf (Elt Ideal) ℓ) (c : Dev nD)

theorem lt_points (t : Fin cfg0.N) : t.val < 65 := lt_of_lt_of_eq t.isLt (show cfg0.N = 65 from N_0)

theorem coord (t : Fin cfg0.N) : (grid0.coords t 0).val = t.val := by
  have : ∀ t : Fin grid0.N, (grid0.coords t 0).val = t.val := by decide +kernel
  exact this t

/-- Row `r` of point `t`'s block, as a row of the array. -/
def row (t : Fin cfg0.N) (r : Fin 256) : Fin 16640 := ⟨256 * t.val + r.val, by have := lt_points t; omega⟩

theorem index0 : ∀ t : Fin cfg0.N, (cfg0.win 0).index t = ![t.val, 0] :=
  (by decide +kernel : ∀ t : Fin grid0.N, cc0_transform_0 (grid0.coords t) = ![t.val, 0])
theorem index1 : ∀ t : Fin cfg0.N, (cfg0.win 1).index t = ![0, 0, 0] :=
  (by decide +kernel : ∀ t : Fin grid0.N, cc0_transform_1 (grid0.coords t) = ![0, 0, 0])
theorem index2 : ∀ t : Fin cfg0.N, (cfg0.win 2).index t = ![0, 0] :=
  (by decide +kernel : ∀ t : Fin grid0.N, cc0_transform_2 (grid0.coords t) = ![0, 0])
theorem index3 : ∀ t : Fin cfg0.N, (cfg0.win 3).index t = ![0, 0] :=
  (by decide +kernel : ∀ t : Fin grid0.N, cc0_transform_3 (grid0.coords t) = ![0, 0])
theorem index12 : ∀ t : Fin cfg0.N, (cfg0.win 12).index t = ![0, 0] :=
  (by decide +kernel : ∀ t : Fin grid0.N, cc0_transform_12 (grid0.coords t) = ![0, 0])
theorem index13 : ∀ t : Fin cfg0.N, (cfg0.win 13).index t = ![0, 0] :=
  (by decide +kernel : ∀ t : Fin grid0.N, cc0_transform_13 (grid0.coords t) = ![0, 0])
theorem index14 : ∀ t : Fin cfg0.N, (cfg0.win 14).index t = ![0, 0] :=
  (by decide +kernel : ∀ t : Fin grid0.N, cc0_transform_14 (grid0.coords t) = ![0, 0])
theorem index15 : ∀ t : Fin cfg0.N, (cfg0.win 15).index t = ![0, 0] :=
  (by decide +kernel : ∀ t : Fin grid0.N, cc0_transform_15 (grid0.coords t) = ![0, 0])
theorem index16 : ∀ t : Fin cfg0.N, (cfg0.win 16).index t = ![t.val, 0] :=
  (by decide +kernel : ∀ t : Fin grid0.N, cc0_transform_16 (grid0.coords t) = ![t.val, 0])
theorem index20 : ∀ t : Fin cfg0.N, (cfg0.win 20).index t = ![t.val, 0] :=
  (by decide +kernel : ∀ t : Fin grid0.N, cc0_transform_20 (grid0.coords t) = ![t.val, 0])
theorem index21 : ∀ t : Fin cfg0.N, (cfg0.win 21).index t = ![t.val, 0] :=
  (by decide +kernel : ∀ t : Fin grid0.N, cc0_transform_21 (grid0.coords t) = ![t.val, 0])
theorem index22 : ∀ t : Fin cfg0.N, (cfg0.win 22).index t = ![t.val, 0] :=
  (by decide +kernel : ∀ t : Fin grid0.N, cc0_transform_22 (grid0.coords t) = ![t.val, 0])

theorem block0 (t : Fin cfg0.N) (r : Fin 256) (j : Fin 1024) :
    (iblk m c 0 t : Vec Ideal S256x1024 .f32) (ix2 r j) = (V m c main_arg0 : Vec Ideal S16640x1024 .f32) (ix2 (row t r) j) := by
  have hi := index0 t
  unfold row
  blk_ext [iblk, hi]
theorem block1 (t : Fin cfg0.N) (p : Fin 2) (q : Fin 6) (j : Fin 1024) :
    (iblk m c 1 t : Vec Ideal S2x6x1024 .f32) (ix3 p q j) = (V m c main_arg1 : Vec Ideal S2x6x1024 .f32) (ix3 p q j) := by
  have hi := index1 t
  blk_ext [iblk, hi]
theorem block2 (t : Fin cfg0.N) (k : Fin 1) (j : Fin 1024) :
    (iblk m c 2 t : Vec Ideal S1x1024 .f32) (ix2 k j) = (V m c main_v47 : Vec Ideal S1x1024 .f32) (ix2 k j) := by
  have hi := index2 t
  blk_ext [iblk, hi]
theorem block3 (t : Fin cfg0.N) (k : Fin 1024) (j : Fin 2176) :
    (iblk m c 3 t : Vec Ideal S1024x2176 .bf16) (ix2 k j) = (V m c main_v15 : Vec Ideal S1024x2176 .bf16) (ix2 k j) := by
  have hi := index3 t
  blk_ext [iblk, hi]
theorem block12 (t : Fin cfg0.N) (k : Fin 1) (j : Fin 256) :
    (iblk m c 12 t : Vec Ideal S1x256 .f32) (ix2 k j) = (V m c main_v48 : Vec Ideal S1x256 .f32) (ix2 k j) := by
  have hi := index12 t
  blk_ext [iblk, hi]
theorem block13 (t : Fin cfg0.N) (k : Fin 1) (j : Fin 256) :
    (iblk m c 13 t : Vec Ideal S1x256 .f32) (ix2 k j) = (V m c main_v49 : Vec Ideal S1x256 .f32) (ix2 k j) := by
  have hi := index13 t
  blk_ext [iblk, hi]
theorem block14 (t : Fin cfg0.N) (k : Fin 128) (j : Fin 512) :
    (iblk m c 14 t : Vec Ideal S128x512 .bf16) (ix2 k j) = (V m c main_v43 : Vec Ideal S128x512 .bf16) (ix2 k j) := by
  have hi := index14 t
  blk_ext [iblk, hi]
theorem block15 (t : Fin cfg0.N) (k : Fin 128) (j : Fin 256) :
    (iblk m c 15 t : Vec Ideal S128x256 .f32) (ix2 k j) = (V m c main_v46 : Vec Ideal S128x256 .f32) (ix2 k j) := by
  have hi := index15 t
  blk_ext [iblk, hi]

/-! ## The arrays the call reads, from the arguments: casts, reshapes and joins move entries -/

theorem hostNorm (j : Fin 1024) :
    (V m c main_v47 : Vec Ideal S1x1024 .f32) (ix2 0 j) = (m ((c.tc : Thread nD τ).loc main_arg2) : Vec Ideal S1024 .f32) (ix1 j) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise
theorem hostScale (j : Fin 256) :
    (V m c main_v48 : Vec Ideal S1x256 .f32) (ix2 0 j) = (m ((c.tc : Thread nD τ).loc main_arg12) : Vec Ideal S256 .f32) (ix1 j) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise
theorem hostShift (j : Fin 256) :
    (V m c main_v49 : Vec Ideal S1x256 .f32) (ix2 0 j) = (m ((c.tc : Thread nD τ).loc main_arg13) : Vec Ideal S256 .f32) (ix1 j) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise
theorem hostMix (p : Fin 128) (h : Fin 4) (q : Fin 128) :
    (V m c main_v43 : Vec Ideal S128x512 .bf16) (ix2 p ⟨128 * h.val + q.val, by omega⟩) = (m ((c.tc : Thread nD τ).loc main_arg14) : Vec Ideal S4x128x128 .f32) (ix3 h p q) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise
  exact congrArg₂ (fun (x : Fin 4) (y : Fin 128) => (m ((c.tc : Thread nD τ).loc main_arg14) : Vec Ideal S4x128x128 .f32) (ix3 x p y))
    (Fin.ext (by show (128 * h.val + q.val) / 128 = h.val; omega)) (Fin.ext (by show (128 * h.val + q.val) % 128 = q.val; omega))
theorem hostBias (p : Fin 128) (j : Fin 256) :
    (V m c main_v46 : Vec Ideal S128x256 .f32) (ix2 p j) = (m ((c.tc : Thread nD τ).loc main_arg15) : Vec Ideal S4x128 .f32) (ix2 (headOf j) p) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
  entry_read
  pointwise
  rfl
/-! The operands the host line joins into the projection's matrix: column ranges of the argument. -/

theorem partA (k : Fin 1024) (i : Fin 256) (x : Fin 1632) (hx : x.val = i.val) :
    (StableHlo.upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b)) 18 (Proc.devRef .tc main_v0) : Vec Ideal S1024x256 .f32) (ix2 k i) = (m ((c.tc : Thread nD τ).loc main_arg3) : Vec Ideal S1024x1632 .f32) (ix2 k x) := by
  have e : x = ⟨i.val, by omega⟩ := Fin.ext hx
  rw [e]
  clear e
  after_reads_simp
  pointwise
theorem partC (k : Fin 1024) (i : Fin 512) (x : Fin 1632) (hx : x.val = 608 + i.val) :
    (StableHlo.upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b)) 18 (Proc.devRef .tc main_v4) : Vec Ideal S1024x512 .f32) (ix2 k i) = (m ((c.tc : Thread nD τ).loc main_arg3) : Vec Ideal S1024x1632 .f32) (ix2 k x) := by
  have e : x = ⟨608 + i.val, by omega⟩ := Fin.ext hx
  rw [e]
  clear e
  after_reads_simp
  pointwise
theorem partX (k : Fin 1024) (i : Fin 256) (x : Fin 1632) (hx : x.val = 1120 + i.val) :
    (StableHlo.upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b)) 18 (Proc.devRef .tc main_v5) : Vec Ideal S1024x256 .f32) (ix2 k i) = (m ((c.tc : Thread nD τ).loc main_arg3) : Vec Ideal S1024x1632 .f32) (ix2 k x) := by
  have e : x = ⟨1120 + i.val, by omega⟩ := Fin.ext hx
  rw [e]
  clear e
  after_reads_simp
  pointwise
theorem partG (k : Fin 1024) (i : Fin 256) (x : Fin 1632) (hx : x.val = 1376 + i.val) :
    (StableHlo.upto (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b)) 18 (Proc.devRef .tc main_v6) : Vec Ideal S1024x256 .f32) (ix2 k i) = (m ((c.tc : Thread nD τ).loc main_arg3) : Vec Ideal S1024x1632 .f32) (ix2 k x) := by
  have e : x = ⟨1376 + i.val, by omega⟩ := Fin.ext hx
  rw [e]
  clear e
  after_reads_simp
  pointwise
theorem hostInA (k : Fin 1024) (j : Fin 256) :
    (V m c main_v15 : Vec Ideal S1024x2176 .bf16) (ix2 k ⟨j.val, by omega⟩) = (m ((c.tc : Thread nD τ).loc main_arg3) : Vec Ideal S1024x1632 .f32) (ix2 k ⟨j.val, by omega⟩) := by
  simp only [V]
  after_reads_simp
  pointwise
  exact partA m c k _ _ (by show j.val = (j.val); omega)
theorem hostInC (k : Fin 1024) (j : Fin 512) :
    (V m c main_v15 : Vec Ideal S1024x2176 .bf16) (ix2 k ⟨1152 + j.val, by omega⟩) = (m ((c.tc : Thread nD τ).loc main_arg3) : Vec Ideal S1024x1632 .f32) (ix2 k ⟨608 + j.val, by omega⟩) := by
  simp only [V]
  after_reads_simp
  pointwise
  rw [dif_neg (show ¬ 1152 + j.val < 256 by omega), dif_neg (show ¬ 1152 + j.val - 256 < 256 by omega), dif_neg (show ¬ 1152 + j.val - 256 - 256 < 128 by omega), dif_neg (show ¬ 1152 + j.val - 256 - 256 - 128 < 512 by omega), dif_pos (show 1152 + j.val - 256 - 256 - 128 - 512 < 512 by omega)]
  exact partC m c k _ _ (by show 608 + j.val = 608 + (1152 + j.val - 256 - 256 - 128 - 512); omega)
theorem hostInX (k : Fin 1024) (j : Fin 256) :
    (V m c main_v15 : Vec Ideal S1024x2176 .bf16) (ix2 k ⟨1664 + j.val, by omega⟩) = (m ((c.tc : Thread nD τ).loc main_arg3) : Vec Ideal S1024x1632 .f32) (ix2 k ⟨1120 + j.val, by omega⟩) := by
  simp only [V]
  after_reads_simp
  pointwise
  rw [dif_neg (show ¬ 1664 + j.val < 256 by omega), dif_neg (show ¬ 1664 + j.val - 256 < 256 by omega), dif_neg (show ¬ 1664 + j.val - 256 - 256 < 128 by omega), dif_neg (show ¬ 1664 + j.val - 256 - 256 - 128 < 512 by omega), dif_neg (show ¬ 1664 + j.val - 256 - 256 - 128 - 512 < 512 by omega), dif_pos (show 1664 + j.val - 256 - 256 - 128 - 512 - 512 < 256 by omega)]
  exact partX m c k _ _ (by show 1120 + j.val = 1120 + (1664 + j.val - 256 - 256 - 128 - 512 - 512); omega)
theorem hostInG (k : Fin 1024) (j : Fin 256) :
    (V m c main_v15 : Vec Ideal S1024x2176 .bf16) (ix2 k ⟨1920 + j.val, by omega⟩) = (m ((c.tc : Thread nD τ).loc main_arg3) : Vec Ideal S1024x1632 .f32) (ix2 k ⟨1376 + j.val, by omega⟩) := by
  simp only [V]
  after_reads_simp
  pointwise
  rw [dif_neg (show ¬ 1920 + j.val < 256 by omega), dif_neg (show ¬ 1920 + j.val - 256 < 256 by omega), dif_neg (show ¬ 1920 + j.val - 256 - 256 < 128 by omega), dif_neg (show ¬ 1920 + j.val - 256 - 256 - 128 < 512 by omega), dif_neg (show ¬ 1920 + j.val - 256 - 256 - 128 - 512 < 512 by omega), dif_neg (show ¬ 1920 + j.val - 256 - 256 - 128 - 512 - 512 < 256 by omega)]
  exact partG m c k _ _ (by show 1376 + j.val = 1376 + (1920 + j.val - 256 - 256 - 128 - 512 - 512 - 256); omega)

end Cert.Kernel4Ideal.Proj

end
-- ==== Proof.InRef.lean ====
/- The input projection's reference read at an index: the same rows. -/
module

public import proofs.«01_k».proof.Proof.InPay
public import proofs.«01_k».proof.Proof.OutRef
public import proofs.«01_k».proof.Proof.Gen.Reference4Ideal.Read
public import Idealize.ShloMosaic.Lib.Pointwise
public import Idealize.ShloMosaic.PureOps.Ideal.Laws

@[expose] public section

set_option maxRecDepth 16384

noncomputable section

namespace Cert.Reference4Ideal.Proj

open Idealize.ShloMosaic Cert.Reference4Ideal.Read Cert.Out Cert.Proj

variable (x0 : Vec Ideal S16640x1024 .f32) (x1 : Vec Ideal S2x6x1024 .f32) (x2 : Vec Ideal S1024 .f32) (x3 : Vec Ideal S1024x1632 .f32)
  (x12 x13 : Vec Ideal S256 .f32) (x14 : Vec Ideal S4x128x128 .f32) (x15 : Vec Ideal S4x128 .f32)

/-- One entry of the projection, of the arguments as arrays. -/
abbrev projOf : Fin 16640 → Fin 1632 → EReal :=
  proj (fun r j => x0 (ix2 r j)) (fun p q j => x1 (ix3 p q j)) (fun j => x2 (ix1 j)) (fun k q => x3 (ix2 k q))

theorem norm_apply (r : Fin 16640) (j : Fin 1024) :
    val_main_v12 (F := Ideal) x0 x2 (ix2 r j)
      = x0 (ix2 r j) * Ideal.rsqrt ((∑ k : Fin 1024, x0 (ix2 r k) * x0 (ix2 r k)) * Ideal.ofBits .f32 0x3A800000#32 + Ideal.ofBits .f32 0x358637BD#32) * x2 (ix1 j) := by
  rw [← Cert.Reference3Ideal.Out.mean]
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

theorem v25_apply (r : Fin 16384) (j : Fin 1024) :
    val_main_v25 (F := Ideal) x0 x1 x2 (ix2 r j)
      = normed (fun j => x0 (ix2 ⟨r.val, by omega⟩ j)) (fun j => x2 (ix1 j)) (fun j => x1 (ix3 0 1 j)) (fun j => x1 (ix3 0 0 j)) j := by
  unfold normed
  rw [← norm_apply]
  pointwise [val_main_v25, val_main_v24, val_main_v23, val_main_v22, val_main_v21, val_main_v20, val_main_v19, val_main_v18, val_main_cst_2,
    val_main_v17, val_main_v16, val_main_v15, val_main_v14, val_main_v13]

theorem v38_apply (r : Fin 256) (j : Fin 1024) :
    val_main_v38 (F := Ideal) x0 x1 x2 (ix2 r j)
      = normed (fun j => x0 (ix2 ⟨16384 + r.val, by omega⟩ j)) (fun j => x2 (ix1 j)) (fun j => x1 (ix3 1 1 j)) (fun j => x1 (ix3 1 0 j)) j := by
  unfold normed
  rw [← norm_apply]
  pointwise [val_main_v38, val_main_v37, val_main_v36, val_main_v35, val_main_v34, val_main_v33, val_main_v32, val_main_v31, val_main_cst_3,
    val_main_v30, val_main_v29, val_main_v28, val_main_v27, val_main_v26]

theorem lo (r : Fin 16384) (j : Fin 1024) :
    val_main_v39 (F := Ideal) x0 x1 x2 (ix2 ⟨r.val, by omega⟩ j) = val_main_v25 (F := Ideal) x0 x1 x2 (ix2 r j) := by
  pointwise [val_main_v39]

theorem hi (r : Fin 256) (j : Fin 1024) :
    val_main_v39 (F := Ideal) x0 x1 x2 (ix2 ⟨16384 + r.val, by omega⟩ j) = val_main_v38 (F := Ideal) x0 x1 x2 (ix2 r j) := by
  pointwise [val_main_v39]

theorem row_apply (r : Fin 16640) (j : Fin 1024) :
    val_main_v39 (F := Ideal) x0 x1 x2 (ix2 r j)
      = normed (fun j => x0 (ix2 r j)) (fun j => x2 (ix1 j)) (fun j => x1 (ix3 (part r) 1 j)) (fun j => x1 (ix3 (part r) 0 j)) j := by
  by_cases h : r.val < 16384
  · refine (lo x0 x1 x2 ⟨r.val, h⟩ j).trans ((v25_apply x0 x1 x2 ⟨r.val, h⟩ j).trans ?_)
    rw [show part r = 0 from if_neg (by omega)]
  · have e : (⟨16384 + (⟨r.val - 16384, by omega⟩ : Fin 256).val, by omega⟩ : Fin 16640) = r := Fin.ext (by show 16384 + (r.val - 16384) = r.val; omega)
    have := (hi x0 x1 x2 ⟨r.val - 16384, by omega⟩ j).trans (v38_apply x0 x1 x2 ⟨r.val - 16384, by omega⟩ j)
    rw [e] at this
    rw [this, show part r = 1 from if_pos (by omega)]

theorem proj_apply (r : Fin 16640) (q : Fin 1632) :
    val_main_v40 (F := Ideal) x0 x1 x2 x3 (ix2 r q) = projOf x0 x1 x2 x3 r q := by
  unfold projOf proj
  simp only [← row_apply]
  pointwise [val_main_v40]

/-- The first result: columns 0 to 255. -/
theorem v41_apply (r : Fin 16640) (j : Fin 256) :
    val_main_v41 (F := Ideal) x0 x1 x2 x3 (ix2 r j) = projOf x0 x1 x2 x3 r ⟨j.val, by omega⟩ := by
  rw [← proj_apply]
  pointwise [val_main_v41]

/-- The third: columns 1120 to 1375. -/
theorem v46_apply (r : Fin 16640) (j : Fin 256) :
    val_main_v46 (F := Ideal) x0 x1 x2 x3 (ix2 r j) = projOf x0 x1 x2 x3 r ⟨1120 + j.val, by omega⟩ := by
  rw [← proj_apply]
  pointwise [val_main_v46]

/-- The fourth: columns 1376 to 1631, gated. -/
theorem v109_apply (r : Fin 16640) (j : Fin 256) :
    val_main_v109 (F := Ideal) x0 x1 x2 x3 (ix2 r j) = gelu (projOf x0 x1 x2 x3 r ⟨1376 + j.val, by omega⟩) := by
  rw [← proj_apply]
  unfold gelu
  rw [← mul_assoc (val_main_v40 (F := Ideal) x0 x1 x2 x3 _) (val_main_v40 (F := Ideal) x0 x1 x2 x3 _) (val_main_v40 (F := Ideal) x0 x1 x2 x3 _)]
  pointwise [val_main_v109, val_main_v108, val_main_v107, val_main_v106, val_main_v105, val_main_v104, val_main_v103, val_main_v102, val_main_v101,
    val_main_v100, val_main_v99, val_main_v98, val_main_v97, val_main_v47, val_main_cst_13, val_main_cst_14, val_main_cst_15, val_main_cst_16]

theorem v60_apply (r : Fin 16640) (j : Fin 512) :
    val_main_v60 (F := Ideal) x0 x1 x2 x3 (ix2 r j) = gelu (projOf x0 x1 x2 x3 r ⟨608 + j.val, by omega⟩) := by
  rw [← proj_apply]
  unfold gelu
  rw [← mul_assoc (val_main_v40 (F := Ideal) x0 x1 x2 x3 _) (val_main_v40 (F := Ideal) x0 x1 x2 x3 _) (val_main_v40 (F := Ideal) x0 x1 x2 x3 _)]
  pointwise [val_main_v60, val_main_v59, val_main_v58, val_main_v57, val_main_v56, val_main_v55, val_main_v54, val_main_v53, val_main_v52,
    val_main_v51, val_main_v50, val_main_v49, val_main_v48, val_main_v45, val_main_cst_4, val_main_cst_5, val_main_cst_6, val_main_cst_7]

theorem v62_apply (r : Fin 16640) (j : Fin 256) :
    val_main_v62 (F := Ideal) x0 x1 x2 x3 (ix2 r j) = gelu (projOf x0 x1 x2 x3 r ⟨864 + j.val, by omega⟩) := by
  refine Eq.trans ?_ ((v60_apply x0 x1 x2 x3 r ⟨256 + j.val, by omega⟩).trans (congrArg (fun q => gelu (projOf x0 x1 x2 x3 r q)) (Fin.ext (by show 608 + (256 + j.val) = 864 + j.val; omega))))
  pointwise [val_main_v62]

/-- The gated half's second part, of the arguments as arrays. -/
abbrev gateOf : Fin 16640 → Fin 256 → EReal :=
  gateRow (fun r j => x0 (ix2 r j)) (fun p q j => x1 (ix3 p q j)) (fun j => x2 (ix1 j)) (fun k q => x3 (ix2 k q)) (fun j => x12 (ix1 j)) (fun j => x13 (ix1 j))

theorem v86_apply (r : Fin 16640) (j : Fin 256) :
    val_main_v86 (F := Ideal) x0 x1 x2 x3 x12 x13 (ix2 r j) = gateOf x0 x1 x2 x3 x12 x13 r j := by
  unfold gateOf gateRow layerNorm
  simp only [← v62_apply]
  pointwise [val_main_v86, val_main_v85, val_main_v84, val_main_v83, val_main_v82, val_main_v81, val_main_v80, val_main_v79, val_main_v78, val_main_v77,
    val_main_v76, val_main_v75, val_main_v74, val_main_v73, val_main_v72, val_main_v71, val_main_v70, val_main_v69, val_main_v68, val_main_v67, val_main_v66,
    val_main_v65, val_main_v64, val_main_v63, val_main_cst_8, val_main_cst_9, val_main_cst_10, val_main_cst_11, val_main_cst_12, Cert.Proj.mean]

/-- The second: the gated half. -/
theorem v96_apply (r : Fin 16640) (j : Fin 256) :
    val_main_v96 (F := Ideal) x0 x1 x2 x3 x12 x13 x14 x15 (ix2 r j)
      = gated (fun r j => x0 (ix2 r j)) (fun p q j => x1 (ix3 p q j)) (fun j => x2 (ix1 j)) (fun k q => x3 (ix2 k q)) (fun j => x12 (ix1 j)) (fun j => x13 (ix1 j))
          (fun h p q => x14 (ix3 h p q)) (fun h p => x15 (ix2 h p)) r j := by
  have e60 : gelu (projOf x0 x1 x2 x3 r ⟨608 + j.val, by omega⟩) = val_main_v60 (F := Ideal) x0 x1 x2 x3 (ix2 r ⟨j.val, by omega⟩) :=
    (v60_apply x0 x1 x2 x3 r ⟨j.val, by omega⟩).symm
  have es : ∀ q : Fin 128, x14 (ix3 (headOf j) ⟨r.val % 128, Nat.mod_lt _ (by decide)⟩ q) * gateOf x0 x1 x2 x3 x12 x13 (mate r q) j
      = val_main_v86 (F := Ideal) x0 x1 x2 x3 x12 x13 (ix2 (mate r q) j) * x14 (ix3 (headOf j) ⟨r.val % 128, Nat.mod_lt _ (by decide)⟩ q) := fun q => by
    rw [v86_apply, mul_comm]
  unfold gated
  simp only [e60, es]
  pointwise [val_main_v96, val_main_v95, val_main_v94, val_main_v93, val_main_v92, val_main_v91, val_main_v90, val_main_v89, val_main_v88, val_main_v87,
    val_main_v61, headOf, mate]

end Cert.Reference4Ideal.Proj

end
-- ==== Proof.InFrame.lean ====
/- The input projections' call: the obligation of its body at every point, the run of the whole program, and its result arrays named. -/
module

public import proofs.«01_k».proof.Proof.InBody
public import Idealize.ShloMosaic.Lib.Pipeline.Value

@[expose] public section

set_option maxRecDepth 16384

noncomputable section

namespace Cert.Kernel4Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

variable (m : (ℓ : Loc nD τ sig) → Buf (Elt F) ℓ) (ρ : Dev nD → PrngReg)

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The whole program runs to its end, leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v50_0) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v50_1) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v50_2) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v50_3) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v50_4) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v50_5) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v50_6) = (dats m 0 c).arrAt 22 cfg0.N :=
  (h c).1 22

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- The frame run with each output array after the run NAMED, the arguments unchanged. -/
theorem run_blocks : θ_run defs (onTc (τ := τ) (main (F := F))) ⟨m, fun _ => 0, ρ⟩ fun r => ∀ c : Dev nD,
      r.2.mem ((c : Thread nD τ).loc main_v50_0) = (dats m 0 c).arrAt 16 cfg0.N
      ∧ r.2.mem ((c : Thread nD τ).loc main_v50_1) = (dats m 0 c).arrAt 17 cfg0.N
      ∧ r.2.mem ((c : Thread nD τ).loc main_v50_2) = (dats m 0 c).arrAt 18 cfg0.N
      ∧ r.2.mem ((c : Thread nD τ).loc main_v50_3) = (dats m 0 c).arrAt 19 cfg0.N
      ∧ r.2.mem ((c : Thread nD τ).loc main_v50_4) = (dats m 0 c).arrAt 20 cfg0.N
      ∧ r.2.mem ((c : Thread nD τ).loc main_v50_5) = (dats m 0 c).arrAt 21 cfg0.N
      ∧ r.2.mem ((c : Thread nD τ).loc main_v50_6) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨post16 m r h c,
      post17 m r h c,
      post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

end Cert.Kernel4Ideal.Proj

end
-- ==== Proof.InEqual.lean ====
/- The input projections' call: four of the arrays the kernel leaves are the reference's. -/
module

public import proofs.«01_k».proof.Proof.InValue
public import proofs.«01_k».proof.Proof.InRef
public import proofs.«01_k».proof.Proof.InFrame

@[expose] public section

set_option maxRecDepth 16384

noncomputable section

namespace Cert.Kernel4Ideal.Proj

open Idealize.ShloMosaic Idealize.ShloMosaic.TcCoe Idealize.SL.Sem
open Idealize.ShloMosaic.Pipeline (Dat Cfg Window)
open Cert.Kernel4Ideal.Gen Cert.Out Cert.Proj

/-! ## The body's values, of the blocks it reads -/

theorem zero2 : (![0, 0] : Fin 2 → ℕ) = fun _ => 0 := by
  funext a
  match a with
  | ⟨0, _⟩ => rfl
  | ⟨1, _⟩ => rfl

/-- Two pieces of 128 rows: the first 128 rows are the second piece's. -/
theorem halves_lo (u v : Vec Ideal S128x256 .bf16) (r : Fin 128) (j : Fin 256) :
    (View.canon [⟨r0_17, u⟩, ⟨r0_16, v⟩] : Vec Ideal S256x256 .bf16) (ix2 ⟨r.val, by omega⟩ j) = v (ix2 r j) := by
  refine (View.canon_cons_of_not_mem (Val := Elt Ideal) (s := S256x256) (e := .bf16) ⟨r0_17, u⟩ [⟨r0_16, v⟩] ?_).trans ?_
  · intro hm
    obtain ⟨a, _, he⟩ := (LoadRect.mem_set _).mp hm (0 : Fin 2)
    have he' : r.val = 128 + 1 * a := he
    omega
  · have he : r0_16.emb (ix2 r j : S128x256.Idx) = (ix2 ⟨r.val, by omega⟩ j : S256x256.Idx) := by
      funext a
      apply Fin.ext
      match a with
      | ⟨0, _⟩ => show 0 + 1 * r.val = r.val; omega
      | ⟨1, _⟩ => show 0 + 1 * j.val = j.val; omega
    rw [← he]
    exact View.canon_cons_emb (Val := Elt Ideal) (s := S256x256) (e := .bf16) r0_16 v [] (ix2 r j : S128x256.Idx)

/-- And the last 128 the first's. -/
theorem halves_hi (u v : Vec Ideal S128x256 .bf16) (r : Fin 128) (j : Fin 256) :
    (View.canon [⟨r0_17, u⟩, ⟨r0_16, v⟩] : Vec Ideal S256x256 .bf16) (ix2 ⟨128 + r.val, by omega⟩ j) = u (ix2 r j) := by
  have he : r0_17.emb (ix2 r j : S128x256.Idx) = (ix2 ⟨128 + r.val, by omega⟩ j : S256x256.Idx) := by
    funext a
    apply Fin.ext
    match a with
    | ⟨0, _⟩ => show 128 + 1 * r.val = 128 + r.val; omega
    | ⟨1, _⟩ => show 0 + 1 * j.val = j.val; omega
  rw [← he]
  exact View.canon_cons_emb (Val := Elt Ideal) (s := S256x256) (e := .bf16) r0_17 u [⟨r0_16, v⟩] (ix2 r j : S128x256.Idx)

section
variable (i : grid0.Coords) (x0 : Vec Ideal S256x1024 .f32) (x1 : Vec Ideal S2x6x1024 .f32) (x2 : Vec Ideal S1x1024 .f32) (x3 : Vec Ideal S1024x2176 .bf16)
  (x4 : Vec Ideal S1x256 .f32) (x5 : Vec Ideal S256x512 .bf16) (x6 : Vec Ideal S1x128 .f32) (x7 : Vec Ideal S128x1024 .bf16) (x8 x9 : Vec Ideal S1x128 .f32)
  (x10 x11 : Vec Ideal S256x128 .f32) (x12 x13 : Vec Ideal S1x256 .f32) (x14 : Vec Ideal S128x512 .bf16) (x15 : Vec Ideal S128x256 .f32)

/-- A row of the scales and shifts, as the body loads it. -/
theorem load (p : Fin 2) (q : Fin 6) (inb : ∀ a, (![p.val, q.val, 0] : Fin 3 → ℕ) a + S1x1x1024.size a ≤ S2x6x1024.size a) (j : Fin 1024) :
    View.ld x1 (Rect.unit (s := S2x6x1024) ![p.val, q.val, 0] S1x1x1024.size inb) (ix3 0 0 j) = x1 (ix3 p q j) := by
  refine View.ld_unit_apply_of x1 _ _ inb _ _ (fun a => ?_)
  match a with
  | ⟨0, _⟩ => rfl
  | ⟨1, _⟩ => rfl
  | ⟨2, _⟩ => simp

/-- The part of a block's row. -/
def partOf (r : Fin 256) : Fin 2 := if 16384 ≤ 256 * (i 0).val + r.val then 1 else 0

theorem pick (r : Fin 256) (f : Fin 2 → EReal) : Scalar.select (k0_pay2 i (ix2 r 0)) (f 1) (f 0) = f (partOf i r) := by
  rw [pay2_apply, partOf]
  by_cases h : 16384 ≤ 256 * (i 0).val + r.val
  · rw [if_pos h, if_pos h]; rfl
  · rw [if_neg h, if_neg h]; rfl

/-- The projected row, of the blocks. -/
def projBlk (r : Fin 256) (q : Fin 2176) : EReal :=
  ∑ k : Fin 1024, normed (fun j => x0 (ix2 r j)) (fun j => x2 (ix2 0 j)) (fun j => x1 (ix3 (partOf i r) 1 j)) (fun j => x1 (ix3 (partOf i r) 0 j)) k * x3 (ix2 k q)

theorem pay53_apply (r : Fin 256) (q : Fin 2176) : k0_pay53 i x0 x1 x2 x3 x4 x5 x6 x7 x8 x9 x10 x11 x12 x13 x14 x15 (ix2 r q) = projBlk i x0 x1 x2 x3 r q := by
  refine (pay5_apply i _ _ _ _ _ _ _ r q).trans ?_
  have e1 : ∀ j, Scalar.select (k0_pay2 i (ix2 r 0)) (View.ld x1 r0_2 (ix3 0 0 j)) (View.ld x1 r0_3 (ix3 0 0 j)) = x1 (ix3 (partOf i r) 1 j) := fun j =>
    (congrArg₂ (Scalar.select (k0_pay2 i (ix2 r 0))) (load x1 1 1 _ j) (load x1 0 1 _ j)).trans (pick i r fun p => x1 (ix3 p 1 j))
  have e0 : ∀ j, Scalar.select (k0_pay2 i (ix2 r 0)) (View.ld x1 r0_4 (ix3 0 0 j)) (View.ld x1 r0_5 (ix3 0 0 j)) = x1 (ix3 (partOf i r) 0 j) := fun j =>
    (congrArg₂ (Scalar.select (k0_pay2 i (ix2 r 0))) (load x1 1 0 _ j) (load x1 0 0 _ j)).trans (pick i r fun p => x1 (ix3 p 0 j))
  rw [funext e1, funext e0, View.ld_unit_zero zero2, View.ld_unit_zero zero2, View.ld_unit_zero zero2]
  rfl

theorem out16_apply (r j : Fin 256) : out0_16 i x0 x1 x2 x3 x4 x5 x6 x7 x8 x9 x10 x11 x12 x13 x14 x15 (ix2 r j) = projBlk i x0 x1 x2 x3 r ⟨j.val, by omega⟩ :=
  (congrFun (View.canon_unit_zero zero2 _ _) _).trans ((pay6_apply _ _ _ _ _ r j).trans (pay53_apply i x0 x1 x2 x3 x4 x5 x6 x7 x8 x9 x10 x11 x12 x13 x14 x15 r _))

theorem out21_apply (r j : Fin 256) : out0_21 i x0 x1 x2 x3 x4 x5 x6 x7 x8 x9 x10 x11 x12 x13 x14 x15 (ix2 r j) = projBlk i x0 x1 x2 x3 r ⟨1664 + j.val, by omega⟩ :=
  (congrFun (View.canon_unit_zero zero2 _ _) _).trans ((pay7_apply _ _ _ _ _ r j).trans (pay53_apply i x0 x1 x2 x3 x4 x5 x6 x7 x8 x9 x10 x11 x12 x13 x14 x15 r _))

theorem out22_apply (r j : Fin 256) : out0_22 i x0 x1 x2 x3 x4 x5 x6 x7 x8 x9 x10 x11 x12 x13 x14 x15 (ix2 r j) = gelu (projBlk i x0 x1 x2 x3 r ⟨1920 + j.val, by omega⟩) :=
  (congrFun (View.canon_unit_zero zero2 _ _) _).trans ((pay8_apply _ _ _ _ _ r j).trans (congrArg gelu (pay53_apply i x0 x1 x2 x3 x4 x5 x6 x7 x8 x9 x10 x11 x12 x13 x14 x15 r _)))

/-- The gated half's second part, of the blocks. -/
def gateBlk (r : Fin 256) (j : Fin 256) : EReal :=
  layerNorm (fun k => gelu (projBlk i x0 x1 x2 x3 r ⟨1408 + k.val, by omega⟩)) (fun k => x12 (ix2 0 k)) (fun k => x13 (ix2 0 k)) j

/-- One entry of the gated half, of the blocks: row `p` of a chunk whose rows sit at `rows`. -/
def mixBlk (r : Fin 256) (p : Fin 128) (rows : Fin 128 → Fin 256) (j : Fin 256) : EReal :=
  gelu (projBlk i x0 x1 x2 x3 r ⟨1152 + j.val, by omega⟩)
    * ((∑ q : Fin 128, x14 (ix2 p ⟨128 * (headOf j).val + q.val, by omega⟩) * gateBlk i x0 x1 x2 x3 x12 x13 (rows q) j) + x15 (ix2 p j))

theorem pay64_apply (r j : Fin 256) : k0_pay64 i x0 x1 x2 x3 x4 x5 x6 x7 x8 x9 x10 x11 x12 x13 x14 x15 (ix2 r j) = gelu (projBlk i x0 x1 x2 x3 r ⟨1152 + j.val, by omega⟩) :=
  (pay37_apply _ r j).trans (congrArg gelu (pay53_apply i x0 x1 x2 x3 x4 x5 x6 x7 x8 x9 x10 x11 x12 x13 x14 x15 r _))

theorem pay65_apply (r j : Fin 256) : k0_pay65 i x0 x1 x2 x3 x4 x5 x6 x7 x8 x9 x10 x11 x12 x13 x14 x15 (ix2 r j) = gateBlk i x0 x1 x2 x3 x12 x13 r j := by
  refine (pay38_apply _ _ _ r j).trans ?_
  have e : ∀ k : Fin 256, gelu (k0_pay53 i x0 x1 x2 x3 x4 x5 x6 x7 x8 x9 x10 x11 x12 x13 x14 x15 (ix2 r ⟨1408 + k.val, by omega⟩)) = gelu (projBlk i x0 x1 x2 x3 r ⟨1408 + k.val, by omega⟩) := fun k =>
    congrArg gelu (pay53_apply i x0 x1 x2 x3 x4 x5 x6 x7 x8 x9 x10 x11 x12 x13 x14 x15 r _)
  rw [funext e, View.ld_unit_zero zero2, View.ld_unit_zero zero2]
  rfl

theorem out20_lo (r : Fin 128) (j : Fin 256) :
    out0_20 i x0 x1 x2 x3 x4 x5 x6 x7 x8 x9 x10 x11 x12 x13 x14 x15 (ix2 ⟨r.val, by omega⟩ j) = mixBlk i x0 x1 x2 x3 x12 x13 x14 x15 ⟨r.val, by omega⟩ r (fun q => ⟨q.val, by omega⟩) j := by
  refine (halves_lo _ _ r j).trans ((pay44_apply _ _ _ _ _ _ _ _ head_apply r j).trans ?_)
  have e : ∀ q : Fin 128, k0_pay65 i x0 x1 x2 x3 x4 x5 x6 x7 x8 x9 x10 x11 x12 x13 x14 x15 (ix2 ⟨q.val, by omega⟩ j) = gateBlk i x0 x1 x2 x3 x12 x13 ⟨q.val, by omega⟩ j := fun q => pay65_apply i x0 x1 x2 x3 x4 x5 x6 x7 x8 x9 x10 x11 x12 x13 x14 x15 _ j
  rw [pay64_apply, View.ld_unit_zero zero2, View.ld_unit_zero zero2]
  simp only [e]
  rfl

theorem out20_hi (r : Fin 128) (j : Fin 256) :
    out0_20 i x0 x1 x2 x3 x4 x5 x6 x7 x8 x9 x10 x11 x12 x13 x14 x15 (ix2 ⟨128 + r.val, by omega⟩ j)
      = mixBlk i x0 x1 x2 x3 x12 x13 x14 x15 ⟨128 + r.val, by omega⟩ r (fun q => ⟨128 + q.val, by omega⟩) j := by
  refine (halves_hi _ _ r j).trans ((pay1_apply _ _ _ _ _ _ _ _ head_apply r j).trans ?_)
  have e : ∀ q : Fin 128, k0_pay65 i x0 x1 x2 x3 x4 x5 x6 x7 x8 x9 x10 x11 x12 x13 x14 x15 (ix2 ⟨128 + q.val, by omega⟩ j) = gateBlk i x0 x1 x2 x3 x12 x13 ⟨128 + q.val, by omega⟩ j := fun q => pay65_apply i x0 x1 x2 x3 x4 x5 x6 x7 x8 x9 x10 x11 x12 x13 x14 x15 _ j
  rw [pay64_apply, View.ld_unit_zero zero2, View.ld_unit_zero zero2]
  simp only [e]
  rfl

end

/-! ## The four arrays -/

variable (m : (ℓ : Loc nD τ sig) → Buf (Elt Ideal) ℓ) (ρ : Dev nD → PrngReg) (c : Dev nD)

theorem partOf_eq (t : Fin cfg0.N) (r : Fin 256) : partOf (grid0.coords t) r = part (row t r) := by
  rw [partOf, part, coord]; rfl

/-- The projected rows, of the arguments. -/
abbrev projArg : Fin 16640 → Fin 1632 → EReal :=
  Cert.Reference4Ideal.Proj.projOf (m ((c.tc : Thread nD τ).loc main_arg0)) (m ((c.tc : Thread nD τ).loc main_arg1)) (m ((c.tc : Thread nD τ).loc main_arg2)) (m ((c.tc : Thread nD τ).loc main_arg3))

theorem proj_row (t : Fin cfg0.N) (r : Fin 256) (q : Fin 2176) (q' : Fin 1632)
    (hq : ∀ k, (V m c main_v15 : Vec Ideal S1024x2176 .bf16) (ix2 k q) = (m ((c.tc : Thread nD τ).loc main_arg3) : Vec Ideal S1024x1632 .f32) (ix2 k q')) :
    projBlk (grid0.coords t) (iblk m c 0 t) (iblk m c 1 t) (iblk m c 2 t) (iblk m c 3 t) r q = projArg m c (row t r) q' := by
  have h0 : ∀ j, (iblk m c 0 t : Vec Ideal S256x1024 .f32) (ix2 r j) = (m ((c.tc : Thread nD τ).loc main_arg0) : Vec Ideal S16640x1024 .f32) (ix2 (row t r) j) :=
    fun j => (block0 m c t r j).trans (congrFun (V_main_arg0 m c) _)
  have h1 : ∀ p q j, (iblk m c 1 t : Vec Ideal S2x6x1024 .f32) (ix3 p q j) = (m ((c.tc : Thread nD τ).loc main_arg1) : Vec Ideal S2x6x1024 .f32) (ix3 p q j) :=
    fun p q j => (block1 m c t p q j).trans (congrFun (V_main_arg1 m c) _)
  have h2 : ∀ j, (iblk m c 2 t : Vec Ideal S1x1024 .f32) (ix2 0 j) = (m ((c.tc : Thread nD τ).loc main_arg2) : Vec Ideal S1024 .f32) (ix1 j) :=
    fun j => (block2 m c t 0 j).trans (hostNorm m c j)
  have h3 : ∀ k, (iblk m c 3 t : Vec Ideal S1024x2176 .bf16) (ix2 k q) = (m ((c.tc : Thread nD τ).loc main_arg3) : Vec Ideal S1024x1632 .f32) (ix2 k q') :=
    fun k => (block3 m c t k q).trans (hq k)
  unfold projBlk
  rw [funext h0, funext (h1 _ _), funext (h1 _ _), funext h2, partOf_eq]
  exact Finset.sum_congr rfl fun k _ => congrArg _ (h3 k)

/-- The gated half's second part, of the arguments. -/
abbrev gateArg : Fin 16640 → Fin 256 → EReal :=
  Cert.Reference4Ideal.Proj.gateOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg12)) (m ((c.tc : Thread nD τ).loc main_arg13))

theorem gate_row (t : Fin cfg0.N) (r j : Fin 256) :
    gateBlk (grid0.coords t) (iblk m c 0 t) (iblk m c 1 t) (iblk m c 2 t) (iblk m c 3 t) (iblk m c 12 t) (iblk m c 13 t) r j = gateArg m c (row t r) j := by
  have hp : ∀ k : Fin 256, projBlk (grid0.coords t) (iblk m c 0 t) (iblk m c 1 t) (iblk m c 2 t) (iblk m c 3 t) r ⟨1408 + k.val, by omega⟩ = projArg m c (row t r) ⟨864 + k.val, by omega⟩ := fun k =>
    proj_row m c t r _ _ fun k' => by
      refine Eq.trans (congrArg (fun q => (V m c main_v15 : Vec Ideal S1024x2176 .bf16) (ix2 k' q)) (Fin.ext ?_)) ((hostInC m c k' ⟨256 + k.val, by omega⟩).trans
        (congrArg (fun q => (m ((c.tc : Thread nD τ).loc main_arg3) : Vec Ideal S1024x1632 .f32) (ix2 k' q)) (Fin.ext ?_)))
      · show 1408 + k.val = 1152 + (256 + k.val); omega
      · show 608 + (256 + k.val) = 864 + k.val; omega
  have h12 : ∀ j, (iblk m c 12 t : Vec Ideal S1x256 .f32) (ix2 0 j) = (m ((c.tc : Thread nD τ).loc main_arg12) : Vec Ideal S256 .f32) (ix1 j) :=
    fun j => (block12 m c t 0 j).trans (hostScale m c j)
  have h13 : ∀ j, (iblk m c 13 t : Vec Ideal S1x256 .f32) (ix2 0 j) = (m ((c.tc : Thread nD τ).loc main_arg13) : Vec Ideal S256 .f32) (ix1 j) :=
    fun j => (block13 m c t 0 j).trans (hostShift m c j)
  unfold gateBlk
  rw [funext fun k => congrArg gelu (hp k), funext h12, funext h13]
  rfl

/-- The gated half, of the arguments. -/
abbrev gatedArg : Fin 16640 → Fin 256 → EReal :=
  gated (fun r j => ((m ((c.tc : Thread nD τ).loc main_arg0)) : Vec Ideal S16640x1024 .f32) (ix2 r j)) (fun p q j => ((m ((c.tc : Thread nD τ).loc main_arg1)) : Vec Ideal S2x6x1024 .f32) (ix3 p q j))
    (fun j => ((m ((c.tc : Thread nD τ).loc main_arg2)) : Vec Ideal S1024 .f32) (ix1 j)) (fun k q => ((m ((c.tc : Thread nD τ).loc main_arg3)) : Vec Ideal S1024x1632 .f32) (ix2 k q))
    (fun j => ((m ((c.tc : Thread nD τ).loc main_arg12)) : Vec Ideal S256 .f32) (ix1 j)) (fun j => ((m ((c.tc : Thread nD τ).loc main_arg13)) : Vec Ideal S256 .f32) (ix1 j))
    (fun h p q => ((m ((c.tc : Thread nD τ).loc main_arg14)) : Vec Ideal S4x128x128 .f32) (ix3 h p q)) (fun h p => ((m ((c.tc : Thread nD τ).loc main_arg15)) : Vec Ideal S4x128 .f32) (ix2 h p))

theorem mix_row (t : Fin cfg0.N) (r : Fin 256) (p : Fin 128) (rows : Fin 128 → Fin 256) (hp : p.val = r.val % 128)
    (hr : ∀ q, (rows q).val = r.val / 128 * 128 + q.val) (j : Fin 256) :
    mixBlk (grid0.coords t) (iblk m c 0 t) (iblk m c 1 t) (iblk m c 2 t) (iblk m c 3 t) (iblk m c 12 t) (iblk m c 13 t) (iblk m c 14 t) (iblk m c 15 t) r p rows j = gatedArg m c (row t r) j := by
  have hu : projBlk (grid0.coords t) (iblk m c 0 t) (iblk m c 1 t) (iblk m c 2 t) (iblk m c 3 t) r ⟨1152 + j.val, by omega⟩ = projArg m c (row t r) ⟨608 + j.val, by omega⟩ :=
    proj_row m c t r _ _ fun k' => hostInC m c k' ⟨j.val, by omega⟩
  have hp' : (⟨(row t r).val % 128, Nat.mod_lt _ (by decide)⟩ : Fin 128) = p := Fin.ext (by show (256 * t.val + r.val) % 128 = p.val; omega)
  have hg : ∀ q : Fin 128, gateBlk (grid0.coords t) (iblk m c 0 t) (iblk m c 1 t) (iblk m c 2 t) (iblk m c 3 t) (iblk m c 12 t) (iblk m c 13 t) (rows q) j = gateArg m c (mate (row t r) q) j := fun q =>
    (gate_row m c t (rows q) j).trans (congrArg (fun x => gateArg m c x j) (Fin.ext (by
      show 256 * t.val + (rows q).val = (256 * t.val + r.val) / 128 * 128 + q.val
      have := hr q
      omega)))
  have h14 : ∀ q : Fin 128, (iblk m c 14 t : Vec Ideal S128x512 .bf16) (ix2 p ⟨128 * (headOf j).val + q.val, by omega⟩)
      = ((m ((c.tc : Thread nD τ).loc main_arg14)) : Vec Ideal S4x128x128 .f32) (ix3 (headOf j) p q) := fun q => (block14 m c t p _).trans (hostMix m c p (headOf j) q)
  have h15 : (iblk m c 15 t : Vec Ideal S128x256 .f32) (ix2 p j) = ((m ((c.tc : Thread nD τ).loc main_arg15)) : Vec Ideal S4x128 .f32) (ix2 (headOf j) p) :=
    (block15 m c t p j).trans (hostBias m c p j)
  unfold mixBlk gatedArg gated
  rw [hp']
  exact congrArg₂ (· * ·) (congrArg gelu hu) (congrArg₂ (· + ·) (Finset.sum_congr rfl fun q _ => congrArg₂ (· * ·) (h14 q) (hg q)) h15)

theorem after16 (t : Fin cfg0.N) (r j : Fin 256) :
    ((dats m 0 c).after 16 t : Vec Ideal S256x256 .f32) (ix2 r j) = projArg m c (row t r) ⟨j.val, by omega⟩ :=
  (congrFun (after0_16 m c t) _).trans ((out16_apply _ _ _ _ _ _ _ _ _ _ _ _ _ _ _ _ _ r j).trans (proj_row m c t r _ _ fun k => hostInA m c k j))

theorem after21 (t : Fin cfg0.N) (r j : Fin 256) :
    ((dats m 0 c).after 21 t : Vec Ideal S256x256 .f32) (ix2 r j) = projArg m c (row t r) ⟨1120 + j.val, by omega⟩ :=
  (congrFun (after0_21 m c t) _).trans ((out21_apply _ _ _ _ _ _ _ _ _ _ _ _ _ _ _ _ _ r j).trans (proj_row m c t r _ _ fun k => hostInX m c k j))

theorem after22 (t : Fin cfg0.N) (r j : Fin 256) :
    ((dats m 0 c).after 22 t : Vec Ideal S256x256 .f32) (ix2 r j) = gelu (projArg m c (row t r) ⟨1376 + j.val, by omega⟩) :=
  (congrFun (after0_22 m c t) _).trans ((out22_apply _ _ _ _ _ _ _ _ _ _ _ _ _ _ _ _ _ r j).trans (congrArg gelu (proj_row m c t r _ _ fun k => hostInG m c k j)))

theorem after20 (t : Fin cfg0.N) (r j : Fin 256) :
    ((dats m 0 c).after 20 t : Vec Ideal S256x256 .bf16) (ix2 r j) = gatedArg m c (row t r) j := by
  refine (congrFun (after0_20 m c t) _).trans ?_
  by_cases h : r.val < 128
  · exact (out20_lo _ _ _ _ _ _ _ _ _ _ _ _ _ _ _ _ _ ⟨r.val, h⟩ j).trans
      (mix_row m c t r _ _ (by show r.val = r.val % 128; omega) (fun q => by show q.val = r.val / 128 * 128 + q.val; omega) j)
  · have e : (⟨128 + (⟨r.val - 128, by omega⟩ : Fin 128).val, by omega⟩ : Fin 256) = r := Fin.ext (by show 128 + (r.val - 128) = r.val; omega)
    have key := out20_hi (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ⟨r.val - 128, by omega⟩ j
    rw [e] at key
    exact key.trans (mix_row m c t r _ _ (by show r.val - 128 = r.val % 128; omega) (fun q => by show 128 + q.val = r.val / 128 * 128 + q.val; omega) j)

theorem place16 (t : Fin cfg0.N) (r j : Fin 256) : ((cfg0.win 16).blk t).view.emb (ix2 r j : S256x256.Idx) = (ix2 (row t r) j : S16640x256.Idx) := by
  funext a
  apply Fin.ext
  refine (Window.rect_emb_val (cfg0.win 16) t (ix2 r j : S256x256.Idx) a).trans ?_
  rw [index16]
  match a with
  | ⟨0, _⟩ => show t.val * 256 + r.val = 256 * t.val + r.val; omega
  | ⟨1, _⟩ => show 0 * 256 + j.val = j.val; omega

theorem place20 (t : Fin cfg0.N) (r j : Fin 256) : ((cfg0.win 20).blk t).view.emb (ix2 r j : S256x256.Idx) = (ix2 (row t r) j : S16640x256.Idx) := by
  funext a
  apply Fin.ext
  refine (Window.rect_emb_val (cfg0.win 20) t (ix2 r j : S256x256.Idx) a).trans ?_
  rw [index20]
  match a with
  | ⟨0, _⟩ => show t.val * 256 + r.val = 256 * t.val + r.val; omega
  | ⟨1, _⟩ => show 0 * 256 + j.val = j.val; omega

theorem place21 (t : Fin cfg0.N) (r j : Fin 256) : ((cfg0.win 21).blk t).view.emb (ix2 r j : S256x256.Idx) = (ix2 (row t r) j : S16640x256.Idx) := by
  funext a
  apply Fin.ext
  refine (Window.rect_emb_val (cfg0.win 21) t (ix2 r j : S256x256.Idx) a).trans ?_
  rw [index21]
  match a with
  | ⟨0, _⟩ => show t.val * 256 + r.val = 256 * t.val + r.val; omega
  | ⟨1, _⟩ => show 0 * 256 + j.val = j.val; omega

theorem place22 (t : Fin cfg0.N) (r j : Fin 256) : ((cfg0.win 22).blk t).view.emb (ix2 r j : S256x256.Idx) = (ix2 (row t r) j : S16640x256.Idx) := by
  funext a
  apply Fin.ext
  refine (Window.rect_emb_val (cfg0.win 22) t (ix2 r j : S256x256.Idx) a).trans ?_
  rw [index22]
  match a with
  | ⟨0, _⟩ => show t.val * 256 + r.val = 256 * t.val + r.val; omega
  | ⟨1, _⟩ => show 0 * 256 + j.val = j.val; omega

theorem pair (y : S256x256.Idx) : y = ix2 (y 0) (y 1) := by
  funext a
  match a with
  | ⟨0, _⟩ => rfl
  | ⟨1, _⟩ => rfl

/-- The reference's results, of this program's arguments. -/
abbrev wanted16 : Vec Ideal S16640x256 .f32 :=
  Cert.Reference4Ideal.Read.val_main_v41 (F := Ideal) (m ((c.tc : Thread nD τ).loc main_arg0)) (m ((c.tc : Thread nD τ).loc main_arg1)) (m ((c.tc : Thread nD τ).loc main_arg2)) (m ((c.tc : Thread nD τ).loc main_arg3))
abbrev wanted20 : Vec Ideal S16640x256 .bf16 :=
  Cert.Reference4Ideal.Read.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg12)) (m ((c.tc : Thread nD τ).loc main_arg13)) (m ((c.tc : Thread nD τ).loc main_arg14)) (m ((c.tc : Thread nD τ).loc main_arg15))
abbrev wanted21 : Vec Ideal S16640x256 .f32 :=
  Cert.Reference4Ideal.Read.val_main_v46 (F := Ideal) (m ((c.tc : Thread nD τ).loc main_arg0)) (m ((c.tc : Thread nD τ).loc main_arg1)) (m ((c.tc : Thread nD τ).loc main_arg2)) (m ((c.tc : Thread nD τ).loc main_arg3))
abbrev wanted22 : Vec Ideal S16640x256 .f32 :=
  Cert.Reference4Ideal.Read.val_main_v109 (F := Ideal) (m ((c.tc : Thread nD τ).loc main_arg0)) (m ((c.tc : Thread nD τ).loc main_arg1)) (m ((c.tc : Thread nD τ).loc main_arg2)) (m ((c.tc : Thread nD τ).loc main_arg3))

theorem equal16 : (dats m 0 c).arrAt 16 cfg0.N = wanted16 m c := by
  have key : ∀ (t : Fin cfg0.N) (y : S256x256.Idx),
      ((dats m 0 c).after 16 t : Vec Ideal S256x256 .f32) y = wanted16 m c (((cfg0.win 16).blk t).view.emb y) := by
    intro t y
    rw [pair y]
    refine (after16 m c t (y 0) (y 1)).trans ?_
    refine Eq.trans ?_ (congrArg (wanted16 m c) (place16 t (y 0) (y 1)).symm)
    exact (Cert.Reference4Ideal.Proj.v41_apply _ _ _ _ (row t (y 0)) (y 1)).symm
  have left : ∀ t, (cfg0.win 16).flush t = true → ∀ y : ((cfg0.win 16).xblock (cfg0.grid.coords t)).Idx,
      cast (congrArg (Elt Ideal) ((cfg0.win 16).blk t).view.elt_eq.symm)
          ((dats m 0 c).after 16 t ((cfg0.win 16).xinj (cfg0.grid.coords t) y)) = wanted16 m c (((cfg0.win 16).blk t).view.emb y) :=
    fun t _ y => key t y
  exact Dat.arrAt_eq_of_covers (dats m 0 c) (16 : Fin 23) (wanted16 m c) (by decide +kernel) left

theorem equal20 : (dats m 0 c).arrAt 20 cfg0.N = wanted20 m c := by
  have key : ∀ (t : Fin cfg0.N) (y : S256x256.Idx),
      ((dats m 0 c).after 20 t : Vec Ideal S256x256 .bf16) y = wanted20 m c (((cfg0.win 20).blk t).view.emb y) := by
    intro t y
    rw [pair y]
    refine (after20 m c t (y 0) (y 1)).trans ?_
    refine Eq.trans ?_ (congrArg (wanted20 m c) (place20 t (y 0) (y 1)).symm)
    exact (Cert.Reference4Ideal.Proj.v96_apply _ _ _ _ _ _ _ _ (row t (y 0)) (y 1)).symm
  have left : ∀ t, (cfg0.win 20).flush t = true → ∀ y : ((cfg0.win 20).xblock (cfg0.grid.coords t)).Idx,
      cast (congrArg (Elt Ideal) ((cfg0.win 20).blk t).view.elt_eq.symm)
          ((dats m 0 c).after 20 t ((cfg0.win 20).xinj (cfg0.grid.coords t) y)) = wanted20 m c (((cfg0.win 20).blk t).view.emb y) :=
    fun t _ y => key t y
  exact Dat.arrAt_eq_of_covers (dats m 0 c) (20 : Fin 23) (wanted20 m c) (by decide +kernel) left

theorem equal21 : (dats m 0 c).arrAt 21 cfg0.N = wanted21 m c := by
  have key : ∀ (t : Fin cfg0.N) (y : S256x256.Idx),
      ((dats m 0 c).after 21 t : Vec Ideal S256x256 .f32) y = wanted21 m c (((cfg0.win 21).blk t).view.emb y) := by
    intro t y
    rw [pair y]
    refine (after21 m c t (y 0) (y 1)).trans ?_
    refine Eq.trans ?_ (congrArg (wanted21 m c) (place21 t (y 0) (y 1)).symm)
    exact (Cert.Reference4Ideal.Proj.v46_apply _ _ _ _ (row t (y 0)) (y 1)).symm
  have left : ∀ t, (cfg0.win 21).flush t = true → ∀ y : ((cfg0.win 21).xblock (cfg0.grid.coords t)).Idx,
      cast (congrArg (Elt Ideal) ((cfg0.win 21).blk t).view.elt_eq.symm)
          ((dats m 0 c).after 21 t ((cfg0.win 21).xinj (cfg0.grid.coords t) y)) = wanted21 m c (((cfg0.win 21).blk t).view.emb y) :=
    fun t _ y => key t y
  exact Dat.arrAt_eq_of_covers (dats m 0 c) (21 : Fin 23) (wanted21 m c) (by decide +kernel) left

theorem equal22 : (dats m 0 c).arrAt 22 cfg0.N = wanted22 m c := by
  have key : ∀ (t : Fin cfg0.N) (y : S256x256.Idx),
      ((dats m 0 c).after 22 t : Vec Ideal S256x256 .f32) y = wanted22 m c (((cfg0.win 22).blk t).view.emb y) := by
    intro t y
    rw [pair y]
    refine (after22 m c t (y 0) (y 1)).trans ?_
    refine Eq.trans ?_ (congrArg (wanted22 m c) (place22 t (y 0) (y 1)).symm)
    exact (Cert.Reference4Ideal.Proj.v109_apply _ _ _ _ (row t (y 0)) (y 1)).symm
  have left : ∀ t, (cfg0.win 22).flush t = true → ∀ y : ((cfg0.win 22).xblock (cfg0.grid.coords t)).Idx,
      cast (congrArg (Elt Ideal) ((cfg0.win 22).blk t).view.elt_eq.symm)
          ((dats m 0 c).after 22 t ((cfg0.win 22).xinj (cfg0.grid.coords t) y)) = wanted22 m c (((cfg0.win 22).blk t).view.emb y) :=
    fun t _ y => key t y
  exact Dat.arrAt_eq_of_covers (dats m 0 c) (22 : Fin 23) (wanted22 m c) (by decide +kernel) left

/-- The run, with the four results named and every argument unchanged. -/
theorem run_results : θ_run defs (onTc (τ := τ) (main (F := Ideal))) ⟨m, fun _ => 0, ρ⟩ (fun r => ∀ c : Dev nD,
      r.2.mem ((c.tc : Thread nD τ).loc main_v50_0) = wanted16 m c
      ∧ r.2.mem ((c.tc : Thread nD τ).loc main_v50_4) = wanted20 m c
      ∧ r.2.mem ((c.tc : Thread nD τ).loc main_v50_5) = wanted21 m c
      ∧ r.2.mem ((c.tc : Thread nD τ).loc main_v50_6) = wanted22 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c).1.trans (equal16 m c), (h c).2.2.2.2.1.trans (equal20 m c), (h c).2.2.2.2.2.1.trans (equal21 m c),
    (h c).2.2.2.2.2.2.1.trans (equal22 m c), (h c).2.2.2.2.2.2.2⟩) (run_blocks m ρ)

end Cert.Kernel4Ideal.Proj

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal.Run
public import proofs.«01_k».proof.Proof.Gen.Reference2Ideal.Read
public import proofs.«01_k».proof.Proof.Gen.Pre_finite
public import proofs.«01_k».proof.Proof.Gen.Pre_routed
public import proofs.«01_k».proof.Proof.Equal
public import proofs.«01_k».proof.Proof.ExpertEqual
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.OutEqual
public import proofs.«01_k».proof.Proof.Gen.Kernel4
public import proofs.«01_k».proof.Proof.Gen.Kernel4Ideal
public import proofs.«01_k».proof.Proof.Gen.Reference4Ideal.Run
public import proofs.«01_k».proof.Proof.Gen.Reference4Ideal.Read
public import proofs.«01_k».proof.Proof.InEqual
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same array: the softmax average of the values. -/
theorem algebraic : Cert.algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2.1, (hagree c).2.2]
  exact ((Cert.Equal.equal m c (Cert.Pre_finite.Read.real_entries _ _ _ (hpre c))).trans
    (Cert.ReferenceIdeal.Read.val_main_v19_eq (F := Ideal) _ _ _).symm).symm

/-! ## The experts' call -/

theorem quiescent_Kernel2Ideal : Cert.quiescent_Kernel2Ideal := fun m ρ hpre =>
  Cert.Kernel2Ideal.Expert.frame m ρ (Cert.Kernel2Ideal.Expert.ok_of m (Cert.Kernel2Ideal.Expert.routed_of m hpre))

/-- The two programs' body tables are one. -/
theorem bodies_eq : (Kernel2.defs₀ (F := Bits)) = Kernel2Ideal.defs₀ (F := Bits) :=
  congrArg Defs.onTc (funext fun l => funext fun a => by
    have hl : l = (0 : Fin 1) := Subsingleton.elim (α := Fin 1) l 0
    subst hl
    obtain ⟨t, s⟩ := a
    rfl)

theorem quiescent_Kernel2 : Cert.quiescent_Kernel2 := fun m ρ hpre =>
  Eq.mpr (congrArg (fun d => θ_run (Pipeline.defs (Kernel2.pcfgs (F := Bits)) d) (onTc (τ := Kernel2.τ) (Kernel2.main (F := Bits))) ⟨m, fun _ => 0, ρ⟩ _) bodies_eq)
    (Cert.Kernel2Ideal.Expert.frame (F := Bits) m ρ (Cert.Kernel2Ideal.Expert.ok_of m (Cert.Kernel2Ideal.Expert.routed_of m hpre)))

theorem quiescent_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference end with the same array: each block's rows through its expert's layer, zero past the blocks in use. -/
theorem algebraic2 : Cert.algebraic_Kernel2Ideal_Reference2Ideal := by
  intro m ρ m' ρ' hpre hagree
  refine ⟨_, Cert.Kernel2Ideal.Expert.run_result m ρ (Cert.Kernel2Ideal.Expert.routed_of m hpre), ?_⟩
  refine (θ_run Cert.Reference2Ideal.defs _ _).mono (fun _ h c => ⟨?_, (h c).2⟩) (Cert.Reference2Ideal.Value.run (F := Ideal) m' ρ')
  rw [(h c).1, Cert.Reference2Ideal.Read.val_main_v67_eq, (hagree c).1, (hagree c).2.1, (hagree c).2.2.1, (hagree c).2.2.2.1,
    (hagree c).2.2.2.2.1, (hagree c).2.2.2.2.2.1, (hagree c).2.2.2.2.2.2]

/-! ## The output projection's call -/

theorem quiescent_Reference3Ideal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The reference's results are those wanted of the kernel's arguments, when the arguments agree. -/
theorem algebraic3 : Cert.algebraic_Kernel3Ideal_Reference3Ideal := by
  intro m ρ m' ρ' _ hagree
  refine ⟨_, _, Cert.Kernel3Ideal.Out.run_results m ρ, ?_⟩
  refine (θ_run Cert.Reference3Ideal.defs _ _).mono (fun _ h c => ⟨?_, ?_, (h c).2.2⟩) (Cert.Reference3Ideal.Value.run (F := Ideal) m' ρ')
  all_goals obtain ⟨h0, h1, h2, h3, h4, h5, h6, h7, -, -⟩ := hagree c
  · rw [(h c).1, Cert.Reference3Ideal.Read.val_main_v18_eq, h0, h1, h2, h3, h4, h5, h6]
  · rw [(h c).2.1, Cert.Reference3Ideal.Read.val_main_v59_eq, h0, h1, h2, h3, h4, h5, h6, h7]

/-! ## The input projections' call -/

set_option maxHeartbeats 4000000 in
/-- The two programs' body tables are one. -/
theorem bodies_eq4 : (Kernel4.defs₀ (F := Bits)) = Kernel4Ideal.defs₀ (F := Bits) :=
  congrArg Defs.onTc (funext fun l => funext fun a => by
    have hl : l = (0 : Fin 1) := Subsingleton.elim (α := Fin 1) l 0
    subst hl
    obtain ⟨t, s⟩ := a
    rfl)

set_option maxHeartbeats 4000000 in
theorem quiescent_Kernel4 : Cert.quiescent_Kernel4 := fun m ρ _ =>
  Eq.mpr (congrArg (fun d => θ_run (Pipeline.defs (Kernel4.pcfgs (F := Bits)) d) (onTc (τ := Kernel4.τ) (Kernel4.main (F := Bits))) ⟨m, fun _ => 0, ρ⟩ _) bodies_eq4)
    (Cert.Kernel4Ideal.Proj.frame (F := Bits) m ρ)

theorem quiescent_Reference4Ideal : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- The reference's results are those wanted of the kernel's arguments, when the arguments agree. -/
theorem algebraic4 : Cert.algebraic_Kernel4Ideal_Reference4Ideal := by
  intro m ρ m' ρ' _ hagree
  refine ⟨_, _, _, _, Cert.Kernel4Ideal.Proj.run_results m ρ, ?_⟩
  refine (θ_run Cert.Reference4Ideal.defs _ _).mono (fun _ h c => ⟨?_, ?_, ?_, ?_, (h c).2.2.2.2⟩) (Cert.Reference4Ideal.Value.run (F := Ideal) m' ρ')
  all_goals obtain ⟨h0, h1, h2, h3, -, -, -, -, -, -, -, -, h12, h13, h14, h15⟩ := hagree c
  all_goals change StableHlo.launchContents m' c (Proc.devRef .tc Cert.Reference4Ideal.main_arg0) = _ at h0
  all_goals change StableHlo.launchContents m' c (Proc.devRef .tc Cert.Reference4Ideal.main_arg1) = _ at h1
  all_goals change StableHlo.launchContents m' c (Proc.devRef .tc Cert.Reference4Ideal.main_arg2) = _ at h2
  all_goals change StableHlo.launchContents m' c (Proc.devRef .tc Cert.Reference4Ideal.main_arg3) = _ at h3
  all_goals change StableHlo.launchContents m' c (Proc.devRef .tc Cert.Reference4Ideal.main_arg12) = _ at h12
  all_goals change StableHlo.launchContents m' c (Proc.devRef .tc Cert.Reference4Ideal.main_arg13) = _ at h13
  all_goals change StableHlo.launchContents m' c (Proc.devRef .tc Cert.Reference4Ideal.main_arg14) = _ at h14
  all_goals change StableHlo.launchContents m' c (Proc.devRef .tc Cert.Reference4Ideal.main_arg15) = _ at h15
  · rw [(h c).1, Cert.Reference4Ideal.Read.val_main_v41_eq, h0, h1, h2, h3]
  · rw [(h c).2.1, Cert.Reference4Ideal.Read.val_main_v96_eq, h0, h1, h2, h3, h12, h13, h14, h15]
  · rw [(h c).2.2.1, Cert.Reference4Ideal.Read.val_main_v46_eq, h0, h1, h2, h3]
  · rw [(h c).2.2.2.1, Cert.Reference4Ideal.Read.val_main_v109_eq, h0, h1, h2, h3]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
    Cert.Pre_finite.Gen.facts, Cert.Pre_routed.Gen.facts,
    fun m ρ _ => Cert.Kernel.Gen.frame m ρ, fun m ρ _ => Cert.KernelIdeal.Gen.frame m ρ, fun m ρ _ => Cert.KernelIdeal.Gen.frame m ρ,
    quiescent_ReferenceIdeal, fun m ρ _ => quiescent_ReferenceIdeal m ρ trivial,
    quiescent_Kernel2, quiescent_Kernel2Ideal, quiescent_Reference2Ideal, fun m ρ _ => quiescent_Reference2Ideal m ρ trivial,
    fun m ρ _ => Cert.Kernel3.Gen.frame m ρ, fun m ρ _ => Cert.Kernel3Ideal.Gen.frame m ρ, quiescent_Reference3Ideal,
    quiescent_Kernel4, fun m ρ _ => Cert.Kernel4Ideal.Proj.frame m ρ, quiescent_Reference4Ideal,
    trivial, algebraic, trivial, algebraic2, trivial, algebraic3, trivial, algebraic4⟩

end Cert.Proof

end
